-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v34_0)) (v1 : (c : Dev Cert.KernelIdeal.nD) → Buf (Elt Ideal) ((c.tc : Thread Cert.KernelIdeal.nD Cert.KernelIdeal.τ).loc Cert.KernelIdeal.main_v34_1)) (v2 : (c : Dev Cert.KernelIdeal.nD) → Buf (Elt Ideal) ((c.tc : Thread Cert.KernelIdeal.nD Cert.KernelIdeal.τ).loc Cert.KernelIdeal.main_v34_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34_0) = v0 c
          ∧ r.2.mem ((c.tc : Thread Cert.KernelIdeal.nD Cert.KernelIdeal.τ).loc Cert.KernelIdeal.main_v34_1) = v1 c
          ∧ r.2.mem ((c.tc : Thread Cert.KernelIdeal.nD Cert.KernelIdeal.τ).loc Cert.KernelIdeal.main_v34_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_v68) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v10) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v10) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v10) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v11) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v10) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v11) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v10) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v11) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
-- ==== Pre_finite.lean ====
abbrev S4096x16x96 : Shape := ⟨3, ![4096, 16, 96]⟩
abbrev S4096x16x64 : Shape := ⟨3, ![4096, 16, 64]⟩
abbrev S_ : Shape := ⟨0, ![]⟩

class Facts : Prop where
  bcast_S_S4096x16x96 : S_.BroadcastsInDim S4096x16x96 (![] : Fin 0 → Fin S4096x16x96.rank)
  pads_S4096x16x64_S4096x16x96_000_000_0320 : S4096x16x64.Pads (![0, 0, 0] : Fin 3 → Nat) ![0, 0, 32] ![0, 0, 0] S4096x16x96
  h_S_ : 0 < S_.numel

variable [Facts]

def fn {F : FTy → Type} [FloatOps F] (main_arg0 : FVec F S4096x16x96 .f32) (main_arg1 : FVec F S4096x16x96 .f32) (main_arg2 : FVec F S4096x16x64 .f32) (main_arg3 : FVec F S4096x16x64 .f32) : IVec S4096x16x96 1 :=
  let main_v0 : FVec F S4096x16x96 .f32 := Host.absf main_arg0
  let main_cst : FVec F S_ .f32 := constant S_ .f32 0x7F800000#32
  let main_v1 : FVec F S4096x16x96 .f32 := broadcastInDim S4096x16x96 ![] bcast_S_S4096x16x96 main_cst
  let main_v2 : IVec S4096x16x96 1 := cmpf .olt main_v0 main_v1
  let main_v3 : FVec F S4096x16x96 .f32 := Host.absf main_arg1
  let main_cst_0 : FVec F S_ .f32 := constant S_ .f32 0x7F800000#32
  let main_v4 : FVec F S4096x16x96 .f32 := broadcastInDim S4096x16x96 ![] bcast_S_S4096x16x96 main_cst_0
  let main_v5 : IVec S4096x16x96 1 := cmpf .olt main_v3 main_v4
  let main_v6 : IVec S4096x16x96 1 := andi main_v2 main_v5
  let main_cst_1 : FVec F S_ .f32 := constant S_ .f32 0x00000000#32
  let main_v7 : FVec F S4096x16x96 .f32 := (fun x v => pad S4096x16x96 ![0, 0, 0] ![0, 0, 32] ![0, 0, 0] x v pads_S4096x16x64_S4096x16x96_000_000_0320 h_S_) main_arg2 main_cst_1
  let main_v8 : FVec F S4096x16x96 .f32 := Host.absf main_v7
  let main_cst_2 : FVec F S_ .f32 := constant S_ .f32 0x7F800000#32
  let main_v9 : FVec F S4096x16x96 .f32 := broadcastInDim S4096x16x96 ![] bcast_S_S4096x16x96 main_cst_2
  let main_v10 : IVec S4096x16x96 1 := cmpf .olt main_v8 main_v9
  let main_v11 : IVec S4096x16x96 1 := andi main_v6 main_v10
  let main_cst_3 : FVec F S_ .f32 := constant S_ .f32 0x00000000#32
  let main_v12 : FVec F S4096x16x96 .f32 := (fun x v => pad S4096x16x96 ![0, 0, 0] ![0, 0, 32] ![0, 0, 0] x v pads_S4096x16x64_S4096x16x96_000_000_0320 h_S_) main_arg3 main_cst_3
  let main_v13 : FVec F S4096x16x96 .f32 := Host.absf main_v12
  let main_cst_4 : FVec F S_ .f32 := constant S_ .f32 0x7F800000#32
  let main_v14 : FVec F S4096x16x96 .f32 := broadcastInDim S4096x16x96 ![] bcast_S_S4096x16x96 main_cst_4
  let main_v15 : IVec S4096x16x96 1 := cmpf .olt main_v13 main_v14
  let main_v16 : IVec S4096x16x96 1 := andi main_v11 main_v15
  main_v16
-- ==== Kernel.lean ====
abbrev S4096x16x96 : Shape := ⟨3, ![4096, 16, 96]⟩
abbrev S4096x16x64 : Shape := ⟨3, ![4096, 16, 64]⟩
abbrev S16x4096x4096 : Shape := ⟨3, ![16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x4096 : Shape := ⟨2, ![16, 4096]⟩
abbrev S16x4096x1 : Shape := ⟨3, ![16, 4096, 1]⟩
abbrev S16x4096x64 : Shape := ⟨3, ![16, 4096, 64]⟩
abbrev S16x4096x96 : Shape := ⟨3, ![16, 4096, 96]⟩
abbrev S16x4096x128 : Shape := ⟨3, ![16, 4096, 128]⟩
abbrev S1x4096x128 : Shape := ⟨3, ![1, 4096, 128]⟩
abbrev S1x512x128 : Shape := ⟨3, ![1, 512, 128]⟩
abbrev S1x512x64 : Shape := ⟨3, ![1, 512, 64]⟩
abbrev S1x4096x64 : Shape := ⟨3, ![1, 4096, 64]⟩
abbrev S1x4096x1 : Shape := ⟨3, ![1, 4096, 1]⟩
abbrev S4096x64 : Shape := ⟨2, ![4096, 64]⟩
abbrev S512x128 : Shape := ⟨2, ![512, 128]⟩
abbrev S512x64 : Shape := ⟨2, ![512, 64]⟩
abbrev S512x512 : Shape := ⟨2, ![512, 512]⟩
abbrev S1x512x1 : Shape := ⟨3, ![1, 512, 1]⟩
abbrev S512x1 : Shape := ⟨2, ![512, 1]⟩

abbrev nBuf : Space → Nat
  | .hbm => 69
  | .vmem => 19
  | .smem => 0
  | _ => 0

abbrev bufTy : (tb : Table) → Fin (tcTables nBuf tb) → BufTy
  | .hbm, ⟨0, _⟩ => ⟨S4096x16x96, .f32⟩
  | .hbm, ⟨1, _⟩ => ⟨S4096x16x96, .f32⟩
  | .hbm, ⟨2, _⟩ => ⟨S4096x16x64, .f32⟩
  | .hbm, ⟨3, _⟩ => ⟨S4096x16x64, .f32⟩
  | .hbm, ⟨4, _⟩ => ⟨S16x4096x4096, .f32⟩
  | .hbm, ⟨5, _⟩ => ⟨S_, .f32⟩
  | .hbm, ⟨6, _⟩ => ⟨S16x4096x4096, .f32⟩
  | .hbm, ⟨7, _⟩ => ⟨S16x4096x4096, .f32⟩
  | .hbm, ⟨8, _⟩ => ⟨S4096, .i32⟩
  | .hbm, ⟨9, _⟩ => ⟨S_, .i32⟩
  | .hbm, ⟨10, _⟩ => ⟨S_, .i32⟩
  | .hbm, ⟨11, _⟩ => ⟨S4096, .i32⟩
  | .hbm, ⟨12, _⟩ => ⟨S4096, .i32⟩
  | .hbm, ⟨13, _⟩ => ⟨S4096, .i32⟩
  | .hbm, ⟨14, _⟩ => ⟨S_, .i32⟩
  | .hbm, ⟨15, _⟩ => ⟨S4096, .i32⟩
  | .hbm, ⟨16, _⟩ => ⟨S4096, .i1⟩
  | .hbm, ⟨17, _⟩ => ⟨S4096, .i32⟩
  | .hbm, ⟨18, _⟩ => ⟨S4096, .i32⟩
  | .hbm, ⟨19, _⟩ => ⟨S_, .i32⟩
  | .hbm, ⟨20, _⟩ => ⟨S4096, .i32⟩
  | .hbm, ⟨21, _⟩ => ⟨S4096, .i1⟩
  | .hbm, ⟨22, _⟩ => ⟨S4096, .i1⟩
  | .hbm, ⟨23, _⟩ => ⟨S_, .i32⟩
  | .hbm, ⟨24, _⟩ => ⟨S4096, .i32⟩
  | .hbm, ⟨25, _⟩ => ⟨S4096, .i32⟩
  | .hbm, ⟨26, _⟩ => ⟨S4096, .i32⟩
  | .hbm, ⟨27, _⟩ => ⟨S1x4096, .i32⟩
  | .hbm, ⟨28, _⟩ => ⟨S4096x1, .i32⟩
  | .hbm, ⟨29, _⟩ => ⟨S4096x4096, .i32⟩
  | .hbm, ⟨30, _⟩ => ⟨S4096x4096, .i32⟩
  | .hbm, ⟨31, _⟩ => ⟨S4096x4096, .i1⟩
  | .hbm, ⟨32, _⟩ => ⟨S_, .f32⟩
  | .hbm, ⟨33, _⟩ => ⟨S_, .f32⟩
  | .hbm, ⟨34, _⟩ => ⟨S16x4096x4096, .i1⟩
  | .hbm, ⟨35, _⟩ => ⟨S16x4096x4096, .f32⟩
  | .hbm, ⟨36, _⟩ => ⟨S16x4096x4096, .f32⟩
  | .hbm, ⟨37, _⟩ => ⟨S_, .f32⟩
  | .hbm, ⟨38, _⟩ => ⟨S16x4096, .f32⟩
  | .hbm, ⟨39, _⟩ => ⟨S16x4096x1, .f32⟩
  | .hbm, ⟨40, _⟩ => ⟨S16x4096x4096, .f32⟩
  | .hbm, ⟨41, _⟩ => ⟨S16x4096x4096, .f32⟩
  | .hbm, ⟨42, _⟩ => ⟨S16x4096x4096, .f32⟩
  | .hbm, ⟨43, _⟩ => ⟨S_, .f32⟩
  | .hbm, ⟨44, _⟩ => ⟨S16x4096, .f32⟩
  | .hbm, ⟨45, _⟩ => ⟨S16x4096x1, .f32⟩
  | .hbm, ⟨46, _⟩ => ⟨S16x4096x4096, .f32⟩
  | .hbm, ⟨47, _⟩ => ⟨S16x4096x4096, .f32⟩
  | .hbm, ⟨48, _⟩ => ⟨S16x4096x64, .f32⟩
  | .hbm, ⟨49, _⟩ => ⟨S16x4096x64, .bf16⟩
  | .hbm, ⟨50, _⟩ => ⟨S16x4096x1, .f32⟩
  | .hbm, ⟨51, _⟩ => ⟨S16x4096x1, .f32⟩
  | .hbm, ⟨52, _⟩ => ⟨S16x4096x96, .f32⟩
  | .hbm, ⟨53, _⟩ => ⟨S_, .i32⟩
  | .hbm, ⟨54, _⟩ => ⟨S_, .f32⟩
  | .hbm, ⟨55, _⟩ => ⟨S16x4096x128, .f32⟩
  | .hbm, ⟨56, _⟩ => ⟨S16x4096x128, .bf16⟩
  | .hbm, ⟨57, _⟩ => ⟨S16x4096x96, .f32⟩
  | .hbm, ⟨58, _⟩ => ⟨S_, .i32⟩
  | .hbm, ⟨59, _⟩ => ⟨S_, .f32⟩
  | .hbm, ⟨60, _⟩ => ⟨S16x4096x128, .f32⟩
  | .hbm, ⟨61, _⟩ => ⟨S16x4096x128, .bf16⟩
  | .hbm, ⟨62, _⟩ => ⟨S16x4096x64, .f32⟩
  | .hbm, ⟨63, _⟩ => ⟨S16x4096x64, .bf16⟩
  | .hbm, ⟨64, _⟩ => ⟨S16x4096x64, .f32⟩
  | .hbm, ⟨65, _⟩ => ⟨S16x4096x64, .bf16⟩
  | .hbm, ⟨66, _⟩ => ⟨S16x4096x128, .f32⟩
  | .hbm, ⟨67, _⟩ => ⟨S16x4096x128, .f32⟩
  | .hbm, ⟨68, _⟩ => ⟨S16x4096x64, .f32⟩
  | .local _ .vmem, ⟨0, _⟩ => ⟨S1x4096x128, .bf16⟩
  | .local _ .vmem, ⟨1, _⟩ => ⟨S1x4096x128, .bf16⟩
  | .local _ .vmem, ⟨2, _⟩ => ⟨S1x512x128, .bf16⟩
  | .local _ .vmem, ⟨3, _⟩ => ⟨S1x512x128, .bf16⟩
  | .local _ .vmem, ⟨4, _⟩ => ⟨S1x512x64, .bf16⟩
  | .local _ .vmem, ⟨5, _⟩ => ⟨S1x512x64, .bf16⟩
  | .local _ .vmem, ⟨6, _⟩ => ⟨S1x4096x64, .bf16⟩
  | .local _ .vmem, ⟨7, _⟩ => ⟨S1x4096x64, .bf16⟩
  | .local _ .vmem, ⟨8, _⟩ => ⟨S1x4096x64, .bf16⟩
  | .local _ .vmem, ⟨9, _⟩ => ⟨S1x4096x64, .bf16⟩
  | .local _ .vmem, ⟨10, _⟩ => ⟨S1x4096x1, .f32⟩
  | .local _ .vmem, ⟨11, _⟩ => ⟨S1x4096x1, .f32⟩
  | .local _ .vmem, ⟨12, _⟩ => ⟨S1x4096x128, .f32⟩
  | .local _ .vmem, ⟨13, _⟩ => ⟨S1x4096x128, .f32⟩
  | .local _ .vmem, ⟨14, _⟩ => ⟨S1x512x128, .f32⟩
  | .local _ .vmem, ⟨15, _⟩ => ⟨S1x512x128, .f32⟩
  | .local _ .vmem, ⟨16, _⟩ => ⟨S1x512x64, .f32⟩
  | .local _ .vmem, ⟨17, _⟩ => ⟨S1x512x64, .f32⟩
  | .local _ .vmem, ⟨18, _⟩ => ⟨S4096x1, .f32⟩
  | _, _ => ⟨S4096x16x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_cst_0 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v10 : Ref sig .tc := ⟨.hbm, 36, rfl⟩
abbrev main_cst_1 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_cst_2 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_c_3 : Ref sig .tc := ⟨.hbm, 53, rfl⟩
abbrev main_call2_v0 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_c_4 : Ref sig .tc := ⟨.hbm, 58, rfl⟩
abbrev main_call3_v0 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34_0 : Ref sig .tc := ⟨.hbm, 66, rfl⟩
abbrev main_v34_1 : Ref sig .tc := ⟨.hbm, 67, rfl⟩
abbrev main_v34_2 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let arg1 : BitVec 32 := BitVec.ofNat 32 (i 1).val
  let c512_i32 : BitVec 32 := 512#32
  let v9 : BitVec 32 := Scalar.muli arg1 c512_i32
  v9
def k0_off1 (i : grid0.Coords) : Fin 3 → Nat :=
  let c0_7 : Index := 0#32
  let arg1 : BitVec 32 := BitVec.ofNat 32 (i 1).val
  let c512_i32 : BitVec 32 := 512#32
  let v9 : BitVec 32 := Scalar.muli arg1 c512_i32
  let v10 : BitVec 32 := v9
  let v11 : Index := Scalar.indexCast v10
  let c0_8 : Index := 0#32
  ![0, v11.toNat, 0]
def k0_off2 (i : grid0.Coords) : Fin 3 → Nat :=
  let c0_9 : Index := 0#32
  let arg1 : BitVec 32 := BitVec.ofNat 32 (i 1).val
  let c512_i32 : BitVec 32 := 512#32
  let v9 : BitVec 32 := Scalar.muli arg1 c512_i32
  let v10 : BitVec 32 := v9
  let v14 : Index := Scalar.indexCast v10
  let c0_10 : Index := 0#32
  ![0, v14.toNat, 0]
def k0_off3 (i : grid0.Coords) : Fin 3 → Nat :=
  let c0_26 : Index := 0#32
  let arg1 : BitVec 32 := BitVec.ofNat 32 (i 1).val
  let c512_i32 : BitVec 32 := 512#32
  let v9 : BitVec 32 := Scalar.muli arg1 c512_i32
  let v10 : BitVec 32 := v9
  let v73 : Index := Scalar.indexCast v10
  let c0_27 : Index := 0#32
  ![0, v73.toNat, 0]
def k0_off4 (i : grid0.Coords) : Fin 2 → Nat :=
  let arg1 : BitVec 32 := BitVec.ofNat 32 (i 1).val
  let c512_i32 : BitVec 32 := 512#32
  let v9 : BitVec 32 := Scalar.muli arg1 c512_i32
  let v10 : BitVec 32 := v9
  let v80 : Index := Scalar.indexCast v10
  let c0_29 : Index := 0#32
  ![v80.toNat, 0]
@[reducible] def k0_t1_loop (i : grid0.Coords) : Scf.Loop 32 :=
  let arg1 : BitVec 32 := BitVec.ofNat 32 (i 1).val
  let c1_i32_38 : BitVec 32 := 1#32
  let v103 : BitVec 32 := Scalar.addi arg1 c1_i32_38
  let c8_i32 : BitVec 32 := 8#32
  let v104 : BitVec 32 := Scalar.subi c8_i32 v103
  let c1_i32_39 : BitVec 32 := 1#32
  let v106 : BitVec 32 := Scalar.divsi v104 c1_i32_39
  let v107 : BitVec 32 := Scalar.muli v106 c1_i32_39
  let v108 : BitVec 32 := Scalar.addi v103 v107
  let c1_i32_40 : BitVec 32 := 1#32
  ⟨v103, v108, c1_i32_40⟩
def k0_mult2 (i : grid0.Coords) (k0_t1 : Fin (k0_t1_loop i).trips) : BitVec 32 :=
  let arg1 : BitVec 32 := BitVec.ofNat 32 (i 1).val
  let c1_i32_38 : BitVec 32 := 1#32
  let v103 : BitVec 32 := Scalar.addi arg1 c1_i32_38
  let c1_i32_40 : BitVec 32 := 1#32
  let arg12 : BitVec 32 := Scf.iv v103 c1_i32_40 k0_t1
  let c512_i32_48 : BitVec 32 := 512#32
  let v117 : BitVec 32 := Scalar.muli arg12 c512_i32_48
  v117
def k0_off5 (i : grid0.Coords) (k0_t1 : Fin (k0_t1_loop i).trips) : Fin 3 → Nat :=
  let c0_49 : Index := 0#32
  let arg1 : BitVec 32 := BitVec.ofNat 32 (i 1).val
  let c1_i32_38 : BitVec 32 := 1#32
  let v103 : BitVec 32 := Scalar.addi arg1 c1_i32_38
  let c1_i32_40 : BitVec 32 := 1#32
  let arg12 : BitVec 32 := Scf.iv v103 c1_i32_40 k0_t1
  let c512_i32_48 : BitVec 32 := 512#32
  let v117 : BitVec 32 := Scalar.muli arg12 c512_i32_48
  let v118 : BitVec 32 := v117
  let v119 : Index := Scalar.indexCast v118
  let c0_50 : Index := 0#32
  ![0, v119.toNat, 0]
def k0_off6 (i : grid0.Coords) (k0_t1 : Fin (k0_t1_loop i).trips) : Fin 3 → Nat :=
  let c0_51 : Index := 0#32
  let arg1 : BitVec 32 := BitVec.ofNat 32 (i 1).val
  let c1_i32_38 : BitVec 32 := 1#32
  let v103 : BitVec 32 := Scalar.addi arg1 c1_i32_38
  let c1_i32_40 : BitVec 32 := 1#32
  let arg12 : BitVec 32 := Scf.iv v103 c1_i32_40 k0_t1
  let c512_i32_48 : BitVec 32 := 512#32
  let v117 : BitVec 32 := Scalar.muli arg12 c512_i32_48
  let v118 : BitVec 32 := v117
  let v122 : Index := Scalar.indexCast v118
  let c0_52 : Index := 0#32
  ![0, v122.toNat, 0]
def k0_off7 (i : grid0.Coords) (k0_t1 : Fin (k0_t1_loop i).trips) : Fin 3 → Nat :=
  let c0_55 : Index := 0#32
  let arg1 : BitVec 32 := BitVec.ofNat 32 (i 1).val
  let c1_i32_38 : BitVec 32 := 1#32
  let v103 : BitVec 32 := Scalar.addi arg1 c1_i32_38
  let c1_i32_40 : BitVec 32 := 1#32
  let arg12 : BitVec 32 := Scf.iv v103 c1_i32_40 k0_t1
  let c512_i32_48 : BitVec 32 := 512#32
  let v117 : BitVec 32 := Scalar.muli arg12 c512_i32_48
  let v118 : BitVec 32 := v117
  let v128 : Index := Scalar.indexCast v118
  let c0_56 : Index := 0#32
  ![0, v128.toNat, 0]
def k0_off8 (i : grid0.Coords) (k0_t1 : Fin (k0_t1_loop i).trips) : Fin 2 → Nat :=
  let arg1 : BitVec 32 := BitVec.ofNat 32 (i 1).val
  let c1_i32_38 : BitVec 32 := 1#32
  let v103 : BitVec 32 := Scalar.addi arg1 c1_i32_38
  let c1_i32_40 : BitVec 32 := 1#32
  let arg12 : BitVec 32 := Scf.iv v103 c1_i32_40 k0_t1
  let c512_i32_48 : BitVec 32 := 512#32
  let v117 : BitVec 32 := Scalar.muli arg12 c512_i32_48
  let v118 : BitVec 32 := v117
  let v135 : Index := Scalar.indexCast v118
  let c0_58 : Index := 0#32
  ![v135.toNat, 0]
@[reducible] def k0_t2_loop (i : grid0.Coords) : Scf.Loop 32 :=
  let arg1 : BitVec 32 := BitVec.ofNat 32 (i 1).val
  let c1_i32_38 : BitVec 32 := 1#32
  let v103 : BitVec 32 := Scalar.addi arg1 c1_i32_38
  let c8_i32 : BitVec 32 := 8#32
  let v104 : BitVec 32 := Scalar.subi c8_i32 v103
  let c1_i32_39 : BitVec 32 := 1#32
  let v106 : BitVec 32 := Scalar.divsi v104 c1_i32_39
  let v107 : BitVec 32 := Scalar.muli v106 c1_i32_39
  let v108 : BitVec 32 := Scalar.addi v103 v107
  let v105 : BitVec 32 := Scalar.addi v103 v104
  let c1_i32_41 : BitVec 32 := 1#32
  ⟨v108, v105, c1_i32_41⟩
def k0_mult3 (i : grid0.Coords) (k0_t2 : Fin (k0_t2_loop i).trips) : BitVec 32 :=
  let arg1 : BitVec 32 := BitVec.ofNat 32 (i 1).val
  let c1_i32_38 : BitVec 32 := 1#32
  let v103 : BitVec 32 := Scalar.addi arg1 c1_i32_38
  let c8_i32 : BitVec 32 := 8#32
  let v104 : BitVec 32 := Scalar.subi c8_i32 v103
  let c1_i32_39 : BitVec 32 := 1#32
  let v106 : BitVec 32 := Scalar.divsi v104 c1_i32_39
  let v107 : BitVec 32 := Scalar.muli v106 c1_i32_39
  let v108 : BitVec 32 := Scalar.addi v103 v107
  let c1_i32_41 : BitVec 32 := 1#32
  let arg12 : BitVec 32 := Scf.iv v108 c1_i32_41 k0_t2
  let c512_i32_48 : BitVec 32 := 512#32
  let v117 : BitVec 32 := Scalar.muli arg12 c512_i32_48
  v117
def k0_off9 (i : grid0.Coords) (k0_t2 : Fin (k0_t2_loop i).trips) : Fin 3 → Nat :=
  let c0_49 : Index := 0#32
  let arg1 : BitVec 32 := BitVec.ofNat 32 (i 1).val
  let c1_i32_38 : BitVec 32 := 1#32
  let v103 : BitVec 32 := Scalar.addi arg1 c1_i32_38
  let c8_i32 : BitVec 32 := 8#32
  let v104 : BitVec 32 := Scalar.subi c8_i32 v103
  let c1_i32_39 : BitVec 32 := 1#32
  let v106 : BitVec 32 := Scalar.divsi v104 c1_i32_39
  let v107 : BitVec 32 := Scalar.muli v106 c1_i32_39
  let v108 : BitVec 32 := Scalar.addi v103 v107
  let c1_i32_41 : BitVec 32 := 1#32
  let arg12 : BitVec 32 := Scf.iv v108 c1_i32_41 k0_t2
  let c512_i32_48 : BitVec 32 := 512#32
  let v117 : BitVec 32 := Scalar.muli arg12 c512_i32_48
  let v118 : BitVec 32 := v117
  let v119 : Index := Scalar.indexCast v118
  let c0_50 : Index := 0#32
  ![0, v119.toNat, 0]
def k0_off10 (i : grid0.Coords) (k0_t2 : Fin (k0_t2_loop i).trips) : Fin 3 → Nat :=
  let c0_51 : Index := 0#32
  let arg1 : BitVec 32 := BitVec.ofNat 32 (i 1).val
  let c1_i32_38 : BitVec 32 := 1#32
  let v103 : BitVec 32 := Scalar.addi arg1 c1_i32_38
  let c8_i32 : BitVec 32 := 8#32
  let v104 : BitVec 32 := Scalar.subi c8_i32 v103
  let c1_i32_39 : BitVec 32 := 1#32
  let v106 : BitVec 32 := Scalar.divsi v104 c1_i32_39
  let v107 : BitVec 32 := Scalar.muli v106 c1_i32_39
  let v108 : BitVec 32 := Scalar.addi v103 v107
  let c1_i32_41 : BitVec 32 := 1#32
  let arg12 : BitVec 32 := Scf.iv v108 c1_i32_41 k0_t2
  let c512_i32_48 : BitVec 32 := 512#32
  let v117 : BitVec 32 := Scalar.muli arg12 c512_i32_48
  let v118 : BitVec 32 := v117
  let v122 : Index := Scalar.indexCast v118
  let c0_52 : Index := 0#32
  ![0, v122.toNat, 0]
def k0_off11 (i : grid0.Coords) (k0_t2 : Fin (k0_t2_loop i).trips) : Fin 3 → Nat :=
  let c0_55 : Index := 0#32
  let arg1 : BitVec 32 := BitVec.ofNat 32 (i 1).val
  let c1_i32_38 : BitVec 32 := 1#32
  let v103 : BitVec 32 := Scalar.addi arg1 c1_i32_38
  let c8_i32 : BitVec 32 := 8#32
  let v104 : BitVec 32 := Scalar.subi c8_i32 v103
  let c1_i32_39 : BitVec 32 := 1#32
  let v106 : BitVec 32 := Scalar.divsi v104 c1_i32_39
  let v107 : BitVec 32 := Scalar.muli v106 c1_i32_39
  let v108 : BitVec 32 := Scalar.addi v103 v107
  let c1_i32_41 : BitVec 32 := 1#32
  let arg12 : BitVec 32 := Scf.iv v108 c1_i32_41 k0_t2
  let c512_i32_48 : BitVec 32 := 512#32
  let v117 : BitVec 32 := Scalar.muli arg12 c512_i32_48
  let v118 : BitVec 32 := v117
  let v128 : Index := Scalar.indexCast v118
  let c0_56 : Index := 0#32
  ![0, v128.toNat, 0]
def k0_off12 (i : grid0.Coords) (k0_t2 : Fin (k0_t2_loop i).trips) : Fin 2 → Nat :=
  let arg1 : BitVec 32 := BitVec.ofNat 32 (i 1).val
  let c1_i32_38 : BitVec 32 := 1#32
  let v103 : BitVec 32 := Scalar.addi arg1 c1_i32_38
  let c8_i32 : BitVec 32 := 8#32
  let v104 : BitVec 32 := Scalar.subi c8_i32 v103
  let c1_i32_39 : BitVec 32 := 1#32
  let v106 : BitVec 32 := Scalar.divsi v104 c1_i32_39
  let v107 : BitVec 32 := Scalar.muli v106 c1_i32_39
  let v108 : BitVec 32 := Scalar.addi v103 v107
  let c1_i32_41 : BitVec 32 := 1#32
  let arg12 : BitVec 32 := Scf.iv v108 c1_i32_41 k0_t2
  let c512_i32_48 : BitVec 32 := 512#32
  let v117 : BitVec 32 := Scalar.muli arg12 c512_i32_48
  let v118 : BitVec 32 := v117
  let v135 : Index := Scalar.indexCast v118
  let c0_58 : Index := 0#32
  ![v135.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4096x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4096x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
abbrev S4096x16x96 : Shape := ⟨3, ![4096, 16, 96]⟩
abbrev S4096x16x64 : Shape := ⟨3, ![4096, 16, 64]⟩
abbrev S16x4096x4096 : Shape := ⟨3, ![16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x4096 : Shape := ⟨2, ![16, 4096]⟩
abbrev S16x4096x1 : Shape := ⟨3, ![16, 4096, 1]⟩
abbrev S16x4096x64 : Shape := ⟨3, ![16, 4096, 64]⟩
abbrev S16x4096x96 : Shape := ⟨3, ![16, 4096, 96]⟩
abbrev S16x4096x128 : Shape := ⟨3, ![16, 4096, 128]⟩
abbrev S1x4096x128 : Shape := ⟨3, ![1, 4096, 128]⟩
abbrev S1x512x128 : Shape := ⟨3, ![1, 512, 128]⟩
abbrev S1x512x64 : Shape := ⟨3, ![1, 512, 64]⟩
abbrev S1x4096x64 : Shape := ⟨3, ![1, 4096, 64]⟩
abbrev S1x4096x1 : Shape := ⟨3, ![1, 4096, 1]⟩
abbrev S4096x64 : Shape := ⟨2, ![4096, 64]⟩
abbrev S512x128 : Shape := ⟨2, ![512, 128]⟩
abbrev S512x64 : Shape := ⟨2, ![512, 64]⟩
abbrev S512x512 : Shape := ⟨2, ![512, 512]⟩
abbrev S1x512x1 : Shape := ⟨3, ![1, 512, 1]⟩
abbrev S512x1 : Shape := ⟨2, ![512, 1]⟩

abbrev nBuf : Space → Nat
  | .hbm => 69
  | .vmem => 19
  | .smem => 0
  | _ => 0

abbrev bufTy : (tb : Table) → Fin (tcTables nBuf tb) → BufTy
  | .hbm, ⟨0, _⟩ => ⟨S4096x16x96, .f32⟩
  | .hbm, ⟨1, _⟩ => ⟨S4096x16x96, .f32⟩
  | .hbm, ⟨2, _⟩ => ⟨S4096x16x64, .f32⟩
  | .hbm, ⟨3, _⟩ => ⟨S4096x16x64, .f32⟩
  | .hbm, ⟨4, _⟩ => ⟨S16x4096x4096, .f32⟩
  | .hbm, ⟨5, _⟩ => ⟨S_, .f32⟩
  | .hbm, ⟨6, _⟩ => ⟨S16x4096x4096, .f32⟩
  | .hbm, ⟨7, _⟩ => ⟨S16x4096x4096, .f32⟩
  | .hbm, ⟨8, _⟩ => ⟨S4096, .i32⟩
  | .hbm, ⟨9, _⟩ => ⟨S_, .i32⟩
  | .hbm, ⟨10, _⟩ => ⟨S_, .i32⟩
  | .hbm, ⟨11, _⟩ => ⟨S4096, .i32⟩
  | .hbm, ⟨12, _⟩ => ⟨S4096, .i32⟩
  | .hbm, ⟨13, _⟩ => ⟨S4096, .i32⟩
  | .hbm, ⟨14, _⟩ => ⟨S_, .i32⟩
  | .hbm, ⟨15, _⟩ => ⟨S4096, .i32⟩
  | .hbm, ⟨16, _⟩ => ⟨S4096, .i1⟩
  | .hbm, ⟨17, _⟩ => ⟨S4096, .i32⟩
  | .hbm, ⟨18, _⟩ => ⟨S4096, .i32⟩
  | .hbm, ⟨19, _⟩ => ⟨S_, .i32⟩
  | .hbm, ⟨20, _⟩ => ⟨S4096, .i32⟩
  | .hbm, ⟨21, _⟩ => ⟨S4096, .i1⟩
  | .hbm, ⟨22, _⟩ => ⟨S4096, .i1⟩
  | .hbm, ⟨23, _⟩ => ⟨S_, .i32⟩
  | .hbm, ⟨24, _⟩ => ⟨S4096, .i32⟩
  | .hbm, ⟨25, _⟩ => ⟨S4096, .i32⟩
  | .hbm, ⟨26, _⟩ => ⟨S4096, .i32⟩
  | .hbm, ⟨27, _⟩ => ⟨S1x4096, .i32⟩
  | .hbm, ⟨28, _⟩ => ⟨S4096x1, .i32⟩
  | .hbm, ⟨29, _⟩ => ⟨S4096x4096, .i32⟩
  | .hbm, ⟨30, _⟩ => ⟨S4096x4096, .i32⟩
  | .hbm, ⟨31, _⟩ => ⟨S4096x4096, .i1⟩
  | .hbm, ⟨32, _⟩ => ⟨S_, .f32⟩
  | .hbm, ⟨33, _⟩ => ⟨S_, .f32⟩
  | .hbm, ⟨34, _⟩ => ⟨S16x4096x4096, .i1⟩
  | .hbm, ⟨35, _⟩ => ⟨S16x4096x4096, .f32⟩
  | .hbm, ⟨36, _⟩ => ⟨S16x4096x4096, .f32⟩
  | .hbm, ⟨37, _⟩ => ⟨S_, .f32⟩
  | .hbm, ⟨38, _⟩ => ⟨S16x4096, .f32⟩
  | .hbm, ⟨39, _⟩ => ⟨S16x4096x1, .f32⟩
  | .hbm, ⟨40, _⟩ => ⟨S16x4096x4096, .f32⟩
  | .hbm, ⟨41, _⟩ => ⟨S16x4096x4096, .f32⟩
  | .hbm, ⟨42, _⟩ => ⟨S16x4096x4096, .f32⟩
  | .hbm, ⟨43, _⟩ => ⟨S_, .f32⟩
  | .hbm, ⟨44, _⟩ => ⟨S16x4096, .f32⟩
  | .hbm, ⟨45, _⟩ => ⟨S16x4096x1, .f32⟩
  | .hbm, ⟨46, _⟩ => ⟨S16x4096x4096, .f32⟩
  | .hbm, ⟨47, _⟩ => ⟨S16x4096x4096, .f32⟩
  | .hbm, ⟨48, _⟩ => ⟨S16x4096x64, .f32⟩
  | .hbm, ⟨49, _⟩ => ⟨S16x4096x64, .bf16⟩
  | .hbm, ⟨50, _⟩ => ⟨S16x4096x1, .f32⟩
  | .hbm, ⟨51, _⟩ => ⟨S16x4096x1, .f32⟩
  | .hbm, ⟨52, _⟩ => ⟨S16x4096x96, .f32⟩
  | .hbm, ⟨53, _⟩ => ⟨S_, .i32⟩
  | .hbm, ⟨54, _⟩ => ⟨S_, .f32⟩
  | .hbm, ⟨55, _⟩ => ⟨S16x4096x128, .f32⟩
  | .hbm, ⟨56, _⟩ => ⟨S16x4096x128, .bf16⟩
  | .hbm, ⟨57, _⟩ => ⟨S16x4096x96, .f32⟩
  | .hbm, ⟨58, _⟩ => ⟨S_, .i32⟩
  | .hbm, ⟨59, _⟩ => ⟨S_, .f32⟩
  | .hbm, ⟨60, _⟩ => ⟨S16x4096x128, .f32⟩
  | .hbm, ⟨61, _⟩ => ⟨S16x4096x128, .bf16⟩
  | .hbm, ⟨62, _⟩ => ⟨S16x4096x64, .f32⟩
  | .hbm, ⟨63, _⟩ => ⟨S16x4096x64, .bf16⟩
  | .hbm, ⟨64, _⟩ => ⟨S16x4096x64, .f32⟩
  | .hbm, ⟨65, _⟩ => ⟨S16x4096x64, .bf16⟩
  | .hbm, ⟨66, _⟩ => ⟨S16x4096x128, .f32⟩
  | .hbm, ⟨67, _⟩ => ⟨S16x4096x128, .f32⟩
  | .hbm, ⟨68, _⟩ => ⟨S16x4096x64, .f32⟩
  | .local _ .vmem, ⟨0, _⟩ => ⟨S1x4096x128, .bf16⟩
  | .local _ .vmem, ⟨1, _⟩ => ⟨S1x4096x128, .bf16⟩
  | .local _ .vmem, ⟨2, _⟩ => ⟨S1x512x128, .bf16⟩
  | .local _ .vmem, ⟨3, _⟩ => ⟨S1x512x128, .bf16⟩
  | .local _ .vmem, ⟨4, _⟩ => ⟨S1x512x64, .bf16⟩
  | .local _ .vmem, ⟨5, _⟩ => ⟨S1x512x64, .bf16⟩
  | .local _ .vmem, ⟨6, _⟩ => ⟨S1x4096x64, .bf16⟩
  | .local _ .vmem, ⟨7, _⟩ => ⟨S1x4096x64, .bf16⟩
  | .local _ .vmem, ⟨8, _⟩ => ⟨S1x4096x64, .bf16⟩
  | .local _ .vmem, ⟨9, _⟩ => ⟨S1x4096x64, .bf16⟩
  | .local _ .vmem, ⟨10, _⟩ => ⟨S1x4096x1, .f32⟩
  | .local _ .vmem, ⟨11, _⟩ => ⟨S1x4096x1, .f32⟩
  | .local _ .vmem, ⟨12, _⟩ => ⟨S1x4096x128, .f32⟩
  | .local _ .vmem, ⟨13, _⟩ => ⟨S1x4096x128, .f32⟩
  | .local _ .vmem, ⟨14, _⟩ => ⟨S1x512x128, .f32⟩
  | .local _ .vmem, ⟨15, _⟩ => ⟨S1x512x128, .f32⟩
  | .local _ .vmem, ⟨16, _⟩ => ⟨S1x512x64, .f32⟩
  | .local _ .vmem, ⟨17, _⟩ => ⟨S1x512x64, .f32⟩
  | .local _ .vmem, ⟨18, _⟩ => ⟨S4096x1, .f32⟩
  | _, _ => ⟨S4096x16x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_cst_0 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v10 : Ref sig .tc := ⟨.hbm, 36, rfl⟩
abbrev main_cst_1 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_cst_2 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_c_3 : Ref sig .tc := ⟨.hbm, 53, rfl⟩
abbrev main_call2_v0 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_c_4 : Ref sig .tc := ⟨.hbm, 58, rfl⟩
abbrev main_call3_v0 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34_0 : Ref sig .tc := ⟨.hbm, 66, rfl⟩
abbrev main_v34_1 : Ref sig .tc := ⟨.hbm, 67, rfl⟩
abbrev main_v34_2 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F] [Named F]

def κ : String → Option EReal := fun
  | "mask" => some ⊥
  | _ => none

abbrev grid0 : Pipeline.Grid := ⟨2, ![16, 8], ![false, false]⟩

def k0_mult1 (i : grid0.Coords) : BitVec 32 :=
  let arg1 : BitVec 32 := BitVec.ofNat 32 (i 1).val
  let c512_i32 : BitVec 32 := 512#32
  let v9 : BitVec 32 := Scalar.muli arg1 c512_i32
  v9
def k0_off1 (i : grid0.Coords) : Fin 3 → Nat :=
  let c0_7 : Index := 0#32
  let arg1 : BitVec 32 := BitVec.ofNat 32 (i 1).val
  let c512_i32 : BitVec 32 := 512#32
  let v9 : BitVec 32 := Scalar.muli arg1 c512_i32
  let v10 : BitVec 32 := v9
  let v11 : Index := Scalar.indexCast v10
  let c0_8 : Index := 0#32
  ![0, v11.toNat, 0]
def k0_off2 (i : grid0.Coords) : Fin 3 → Nat :=
  let c0_9 : Index := 0#32
  let arg1 : BitVec 32 := BitVec.ofNat 32 (i 1).val
  let c512_i32 : BitVec 32 := 512#32
  let v9 : BitVec 32 := Scalar.muli arg1 c512_i32
  let v10 : BitVec 32 := v9
  let v14 : Index := Scalar.indexCast v10
  let c0_10 : Index := 0#32
  ![0, v14.toNat, 0]
def k0_off3 (i : grid0.Coords) : Fin 3 → Nat :=
  let c0_26 : Index := 0#32
  let arg1 : BitVec 32 := BitVec.ofNat 32 (i 1).val
  let c512_i32 : BitVec 32 := 512#32
  let v9 : BitVec 32 := Scalar.muli arg1 c512_i32
  let v10 : BitVec 32 := v9
  let v73 : Index := Scalar.indexCast v10
  let c0_27 : Index := 0#32
  ![0, v73.toNat, 0]
def k0_off4 (i : grid0.Coords) : Fin 2 → Nat :=
  let arg1 : BitVec 32 := BitVec.ofNat 32 (i 1).val
  let c512_i32 : BitVec 32 := 512#32
  let v9 : BitVec 32 := Scalar.muli arg1 c512_i32
  let v10 : BitVec 32 := v9
  let v80 : Index := Scalar.indexCast v10
  let c0_29 : Index := 0#32
  ![v80.toNat, 0]
@[reducible] def k0_t1_loop (i : grid0.Coords) : Scf.Loop 32 :=
  let arg1 : BitVec 32 := BitVec.ofNat 32 (i 1).val
  let c1_i32_38 : BitVec 32 := 1#32
  let v103 : BitVec 32 := Scalar.addi arg1 c1_i32_38
  let c8_i32 : BitVec 32 := 8#32
  let v104 : BitVec 32 := Scalar.subi c8_i32 v103
  let c1_i32_39 : BitVec 32 := 1#32
  let v106 : BitVec 32 := Scalar.divsi v104 c1_i32_39
  let v107 : BitVec 32 := Scalar.muli v106 c1_i32_39
  let v108 : BitVec 32 := Scalar.addi v103 v107
  let c1_i32_40 : BitVec 32 := 1#32
  ⟨v103, v108, c1_i32_40⟩
def k0_mult2 (i : grid0.Coords) (k0_t1 : Fin (k0_t1_loop i).trips) : BitVec 32 :=
  let arg1 : BitVec 32 := BitVec.ofNat 32 (i 1).val
  let c1_i32_38 : BitVec 32 := 1#32
  let v103 : BitVec 32 := Scalar.addi arg1 c1_i32_38
  let c1_i32_40 : BitVec 32 := 1#32
  let arg12 : BitVec 32 := Scf.iv v103 c1_i32_40 k0_t1
  let c512_i32_48 : BitVec 32 := 512#32
  let v117 : BitVec 32 := Scalar.muli arg12 c512_i32_48
  v117
def k0_off5 (i : grid0.Coords) (k0_t1 : Fin (k0_t1_loop i).trips) : Fin 3 → Nat :=
  let c0_49 : Index := 0#32
  let arg1 : BitVec 32 := BitVec.ofNat 32 (i 1).val
  let c1_i32_38 : BitVec 32 := 1#32
  let v103 : BitVec 32 := Scalar.addi arg1 c1_i32_38
  let c1_i32_40 : BitVec 32 := 1#32
  let arg12 : BitVec 32 := Scf.iv v103 c1_i32_40 k0_t1
  let c512_i32_48 : BitVec 32 := 512#32
  let v117 : BitVec 32 := Scalar.muli arg12 c512_i32_48
  let v118 : BitVec 32 := v117
  let v119 : Index := Scalar.indexCast v118
  let c0_50 : Index := 0#32
  ![0, v119.toNat, 0]
def k0_off6 (i : grid0.Coords) (k0_t1 : Fin (k0_t1_loop i).trips) : Fin 3 → Nat :=
  let c0_51 : Index := 0#32
  let arg1 : BitVec 32 := BitVec.ofNat 32 (i 1).val
  let c1_i32_38 : BitVec 32 := 1#32
  let v103 : BitVec 32 := Scalar.addi arg1 c1_i32_38
  let c1_i32_40 : BitVec 32 := 1#32
  let arg12 : BitVec 32 := Scf.iv v103 c1_i32_40 k0_t1
  let c512_i32_48 : BitVec 32 := 512#32
  let v117 : BitVec 32 := Scalar.muli arg12 c512_i32_48
  let v118 : BitVec 32 := v117
  let v122 : Index := Scalar.indexCast v118
  let c0_52 : Index := 0#32
  ![0, v122.toNat, 0]
def k0_off7 (i : grid0.Coords) (k0_t1 : Fin (k0_t1_loop i).trips) : Fin 3 → Nat :=
  let c0_55 : Index := 0#32
  let arg1 : BitVec 32 := BitVec.ofNat 32 (i 1).val
  let c1_i32_38 : BitVec 32 := 1#32
  let v103 : BitVec 32 := Scalar.addi arg1 c1_i32_38
  let c1_i32_40 : BitVec 32 := 1#32
  let arg12 : BitVec 32 := Scf.iv v103 c1_i32_40 k0_t1
  let c512_i32_48 : BitVec 32 := 512#32
  let v117 : BitVec 32 := Scalar.muli arg12 c512_i32_48
  let v118 : BitVec 32 := v117
  let v128 : Index := Scalar.indexCast v118
  let c0_56 : Index := 0#32
  ![0, v128.toNat, 0]
def k0_off8 (i : grid0.Coords) (k0_t1 : Fin (k0_t1_loop i).trips) : Fin 2 → Nat :=
  let arg1 : BitVec 32 := BitVec.ofNat 32 (i 1).val
  let c1_i32_38 : BitVec 32 := 1#32
  let v103 : BitVec 32 := Scalar.addi arg1 c1_i32_38
  let c1_i32_40 : BitVec 32 := 1#32
  let arg12 : BitVec 32 := Scf.iv v103 c1_i32_40 k0_t1
  let c512_i32_48 : BitVec 32 := 512#32
  let v117 : BitVec 32 := Scalar.muli arg12 c512_i32_48
  let v118 : BitVec 32 := v117
  let v135 : Index := Scalar.indexCast v118
  let c0_58 : Index := 0#32
  ![v135.toNat, 0]
@[reducible] def k0_t2_loop (i : grid0.Coords) : Scf.Loop 32 :=
  let arg1 : BitVec 32 := BitVec.ofNat 32 (i 1).val
  let c1_i32_38 : BitVec 32 := 1#32
  let v103 : BitVec 32 := Scalar.addi arg1 c1_i32_38
  let c8_i32 : BitVec 32 := 8#32
  let v104 : BitVec 32 := Scalar.subi c8_i32 v103
  let c1_i32_39 : BitVec 32 := 1#32
  let v106 : BitVec 32 := Scalar.divsi v104 c1_i32_39
  let v107 : BitVec 32 := Scalar.muli v106 c1_i32_39
  let v108 : BitVec 32 := Scalar.addi v103 v107
  let v105 : BitVec 32 := Scalar.addi v103 v104
  let c1_i32_41 : BitVec 32 := 1#32
  ⟨v108, v105, c1_i32_41⟩
def k0_mult3 (i : grid0.Coords) (k0_t2 : Fin (k0_t2_loop i).trips) : BitVec 32 :=
  let arg1 : BitVec 32 := BitVec.ofNat 32 (i 1).val
  let c1_i32_38 : BitVec 32 := 1#32
  let v103 : BitVec 32 := Scalar.addi arg1 c1_i32_38
  let c8_i32 : BitVec 32 := 8#32
  let v104 : BitVec 32 := Scalar.subi c8_i32 v103
  let c1_i32_39 : BitVec 32 := 1#32
  let v106 : BitVec 32 := Scalar.divsi v104 c1_i32_39
  let v107 : BitVec 32 := Scalar.muli v106 c1_i32_39
  let v108 : BitVec 32 := Scalar.addi v103 v107
  let c1_i32_41 : BitVec 32 := 1#32
  let arg12 : BitVec 32 := Scf.iv v108 c1_i32_41 k0_t2
  let c512_i32_48 : BitVec 32 := 512#32
  let v117 : BitVec 32 := Scalar.muli arg12 c512_i32_48
  v117
def k0_off9 (i : grid0.Coords) (k0_t2 : Fin (k0_t2_loop i).trips) : Fin 3 → Nat :=
  let c0_49 : Index := 0#32
  let arg1 : BitVec 32 := BitVec.ofNat 32 (i 1).val
  let c1_i32_38 : BitVec 32 := 1#32
  let v103 : BitVec 32 := Scalar.addi arg1 c1_i32_38
  let c8_i32 : BitVec 32 := 8#32
  let v104 : BitVec 32 := Scalar.subi c8_i32 v103
  let c1_i32_39 : BitVec 32 := 1#32
  let v106 : BitVec 32 := Scalar.divsi v104 c1_i32_39
  let v107 : BitVec 32 := Scalar.muli v106 c1_i32_39
  let v108 : BitVec 32 := Scalar.addi v103 v107
  let c1_i32_41 : BitVec 32 := 1#32
  let arg12 : BitVec 32 := Scf.iv v108 c1_i32_41 k0_t2
  let c512_i32_48 : BitVec 32 := 512#32
  let v117 : BitVec 32 := Scalar.muli arg12 c512_i32_48
  let v118 : BitVec 32 := v117
  let v119 : Index := Scalar.indexCast v118
  let c0_50 : Index := 0#32
  ![0, v119.toNat, 0]
def k0_off10 (i : grid0.Coords) (k0_t2 : Fin (k0_t2_loop i).trips) : Fin 3 → Nat :=
  let c0_51 : Index := 0#32
  let arg1 : BitVec 32 := BitVec.ofNat 32 (i 1).val
  let c1_i32_38 : BitVec 32 := 1#32
  let v103 : BitVec 32 := Scalar.addi arg1 c1_i32_38
  let c8_i32 : BitVec 32 := 8#32
  let v104 : BitVec 32 := Scalar.subi c8_i32 v103
  let c1_i32_39 : BitVec 32 := 1#32
  let v106 : BitVec 32 := Scalar.divsi v104 c1_i32_39
  let v107 : BitVec 32 := Scalar.muli v106 c1_i32_39
  let v108 : BitVec 32 := Scalar.addi v103 v107
  let c1_i32_41 : BitVec 32 := 1#32
  let arg12 : BitVec 32 := Scf.iv v108 c1_i32_41 k0_t2
  let c512_i32_48 : BitVec 32 := 512#32
  let v117 : BitVec 32 := Scalar.muli arg12 c512_i32_48
  let v118 : BitVec 32 := v117
  let v122 : Index := Scalar.indexCast v118
  let c0_52 : Index := 0#32
  ![0, v122.toNat, 0]
def k0_off11 (i : grid0.Coords) (k0_t2 : Fin (k0_t2_loop i).trips) : Fin 3 → Nat :=
  let c0_55 : Index := 0#32
  let arg1 : BitVec 32 := BitVec.ofNat 32 (i 1).val
  let c1_i32_38 : BitVec 32 := 1#32
  let v103 : BitVec 32 := Scalar.addi arg1 c1_i32_38
  let c8_i32 : BitVec 32 := 8#32
  let v104 : BitVec 32 := Scalar.subi c8_i32 v103
  let c1_i32_39 : BitVec 32 := 1#32
  let v106 : BitVec 32 := Scalar.divsi v104 c1_i32_39
  let v107 : BitVec 32 := Scalar.muli v106 c1_i32_39
  let v108 : BitVec 32 := Scalar.addi v103 v107
  let c1_i32_41 : BitVec 32 := 1#32
  let arg12 : BitVec 32 := Scf.iv v108 c1_i32_41 k0_t2
  let c512_i32_48 : BitVec 32 := 512#32
  let v117 : BitVec 32 := Scalar.muli arg12 c512_i32_48
  let v118 : BitVec 32 := v117
  let v128 : Index := Scalar.indexCast v118
  let c0_56 : Index := 0#32
  ![0, v128.toNat, 0]
def k0_off12 (i : grid0.Coords) (k0_t2 : Fin (k0_t2_loop i).trips) : Fin 2 → Nat :=
  let arg1 : BitVec 32 := BitVec.ofNat 32 (i 1).val
  let c1_i32_38 : BitVec 32 := 1#32
  let v103 : BitVec 32 := Scalar.addi arg1 c1_i32_38
  let c8_i32 : BitVec 32 := 8#32
  let v104 : BitVec 32 := Scalar.subi c8_i32 v103
  let c1_i32_39 : BitVec 32 := 1#32
  let v106 : BitVec 32 := Scalar.divsi v104 c1_i32_39
  let v107 : BitVec 32 := Scalar.muli v106 c1_i32_39
  let v108 : BitVec 32 := Scalar.addi v103 v107
  let c1_i32_41 : BitVec 32 := 1#32
  let arg12 : BitVec 32 := Scf.iv v108 c1_i32_41 k0_t2
  let c512_i32_48 : BitVec 32 := 512#32
  let v117 : BitVec 32 := Scalar.muli arg12 c512_i32_48
  let v118 : BitVec 32 := v117
  let v135 : Index := Scalar.indexCast v118
  let c0_58 : Index := 0#32
  ![v135.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4096x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4096x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S4096x16x96 : Shape := ⟨3, ![4096, 16, 96]⟩
abbrev S4096x16x64 : Shape := ⟨3, ![4096, 16, 64]⟩
abbrev S16x4096x4096 : Shape := ⟨3, ![16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x4096 : Shape := ⟨2, ![16, 4096]⟩
abbrev S16x4096x1 : Shape := ⟨3, ![16, 4096, 1]⟩
abbrev S16x64x4096 : Shape := ⟨3, ![16, 64, 4096]⟩
abbrev S16x4096x96 : Shape := ⟨3, ![16, 4096, 96]⟩
abbrev S16x4096x128 : Shape := ⟨3, ![16, 4096, 128]⟩
abbrev S16x4096x64 : Shape := ⟨3, ![16, 4096, 64]⟩

abbrev nBuf : Space → Nat
  | .hbm => 116
  | .vmem => 0
  | .smem => 0
  | _ => 0

abbrev bufTy : (tb : Table) → Fin (tcTables nBuf tb) → BufTy
  | .hbm, ⟨0, _⟩ => ⟨S4096x16x96, .f32⟩
  | .hbm, ⟨1, _⟩ => ⟨S4096x16x96, .f32⟩
  | .hbm, ⟨2, _⟩ => ⟨S4096x16x64, .f32⟩
  | .hbm, ⟨3, _⟩ => ⟨S4096x16x64, .f32⟩
  | .hbm, ⟨4, _⟩ => ⟨S16x4096x4096, .f32⟩
  | .hbm, ⟨5, _⟩ => ⟨S_, .f32⟩
  | .hbm, ⟨6, _⟩ => ⟨S16x4096x4096, .f32⟩
  | .hbm, ⟨7, _⟩ => ⟨S16x4096x4096, .f32⟩
  | .hbm, ⟨8, _⟩ => ⟨S4096, .i32⟩
  | .hbm, ⟨9, _⟩ => ⟨S_, .i32⟩
  | .hbm, ⟨10, _⟩ => ⟨S_, .i32⟩
  | .hbm, ⟨11, _⟩ => ⟨S4096, .i32⟩
  | .hbm, ⟨12, _⟩ => ⟨S4096, .i32⟩
  | .hbm, ⟨13, _⟩ => ⟨S4096, .i32⟩
  | .hbm, ⟨14, _⟩ => ⟨S_, .i32⟩
  | .hbm, ⟨15, _⟩ => ⟨S4096, .i32⟩
  | .hbm, ⟨16, _⟩ => ⟨S4096, .i1⟩
  | .hbm, ⟨17, _⟩ => ⟨S4096, .i32⟩
  | .hbm, ⟨18, _⟩ => ⟨S4096, .i32⟩
  | .hbm, ⟨19, _⟩ => ⟨S_, .i32⟩
  | .hbm, ⟨20, _⟩ => ⟨S4096, .i32⟩
  | .hbm, ⟨21, _⟩ => ⟨S4096, .i1⟩
  | .hbm, ⟨22, _⟩ => ⟨S4096, .i1⟩
  | .hbm, ⟨23, _⟩ => ⟨S_, .i32⟩
  | .hbm, ⟨24, _⟩ => ⟨S4096, .i32⟩
  | .hbm, ⟨25, _⟩ => ⟨S4096, .i32⟩
  | .hbm, ⟨26, _⟩ => ⟨S4096, .i32⟩
  | .hbm, ⟨27, _⟩ => ⟨S1x4096, .i32⟩
  | .hbm, ⟨28, _⟩ => ⟨S4096x1, .i32⟩
  | .hbm, ⟨29, _⟩ => ⟨S4096x4096, .i32⟩
  | .hbm, ⟨30, _⟩ => ⟨S4096x4096, .i32⟩
  | .hbm, ⟨31, _⟩ => ⟨S4096x4096, .i1⟩
  | .hbm, ⟨32, _⟩ => ⟨S_, .f32⟩
  | .hbm, ⟨33, _⟩ => ⟨S_, .f32⟩
  | .hbm, ⟨34, _⟩ => ⟨S16x4096x4096, .i1⟩
  | .hbm, ⟨35, _⟩ => ⟨S16x4096x4096, .f32⟩
  | .hbm, ⟨36, _⟩ => ⟨S16x4096x4096, .f32⟩
  | .hbm, ⟨37, _⟩ => ⟨S_, .f32⟩
  | .hbm, ⟨38, _⟩ => ⟨S16x4096x4096, .f32⟩
  | .hbm, ⟨39, _⟩ => ⟨S_, .f32⟩
  | .hbm, ⟨40, _⟩ => ⟨S16x4096, .f32⟩
  | .hbm, ⟨41, _⟩ => ⟨S16x4096x1, .f32⟩
  | .hbm, ⟨42, _⟩ => ⟨S16x4096x4096, .f32⟩
  | .hbm, ⟨43, _⟩ => ⟨S16x4096x4096, .i1⟩
  | .hbm, ⟨44, _⟩ => ⟨S16x4096x4096, .f32⟩
  | .hbm, ⟨45, _⟩ => ⟨S_, .f32⟩
  | .hbm, ⟨46, _⟩ => ⟨S16x4096, .f32⟩
  | .hbm, ⟨47, _⟩ => ⟨S_, .f32⟩
  | .hbm, ⟨48, _⟩ => ⟨S16x4096, .f32⟩
  | .hbm, ⟨49, _⟩ => ⟨S16x4096, .f32⟩
  | .hbm, ⟨50, _⟩ => ⟨S_, .f32⟩
  | .hbm, ⟨51, _⟩ => ⟨S16x4096, .f32⟩
  | .hbm, ⟨52, _⟩ => ⟨S16x4096, .i1⟩
  | .hbm, ⟨53, _⟩ => ⟨S_, .f32⟩
  | .hbm, ⟨54, _⟩ => ⟨S16x4096, .f32⟩
  | .hbm, ⟨55, _⟩ => ⟨S16x4096, .i1⟩
  | .hbm, ⟨56, _⟩ => ⟨S_, .f32⟩
  | .hbm, ⟨57, _⟩ => ⟨S16x4096, .f32⟩
  | .hbm, ⟨58, _⟩ => ⟨S_, .f32⟩
  | .hbm, ⟨59, _⟩ => ⟨S16x4096, .f32⟩
  | .hbm, ⟨60, _⟩ => ⟨S_, .f32⟩
  | .hbm, ⟨61, _⟩ => ⟨S16x4096, .f32⟩
  | .hbm, ⟨62, _⟩ => ⟨S16x4096, .f32⟩
  | .hbm, ⟨63, _⟩ => ⟨S16x4096, .f32⟩
  | .hbm, ⟨64, _⟩ => ⟨S16x4096x1, .f32⟩
  | .hbm, ⟨65, _⟩ => ⟨S16x4096x4096, .f32⟩
  | .hbm, ⟨66, _⟩ => ⟨S16x4096x4096, .f32⟩
  | .hbm, ⟨67, _⟩ => ⟨S16x4096x4096, .f32⟩
  | .hbm, ⟨68, _⟩ => ⟨S_, .f32⟩
  | .hbm, ⟨69, _⟩ => ⟨S16x4096, .f32⟩
  | .hbm, ⟨70, _⟩ => ⟨S16x4096x1, .f32⟩
  | .hbm, ⟨71, _⟩ => ⟨S16x4096x4096, .f32⟩
  | .hbm, ⟨72, _⟩ => ⟨S16x4096x4096, .f32⟩
  | .hbm, ⟨73, _⟩ => ⟨S16x4096x1, .f32⟩
  | .hbm, ⟨74, _⟩ => ⟨S_, .f32⟩
  | .hbm, ⟨75, _⟩ => ⟨S16x4096x1, .f32⟩
  | .hbm, ⟨76, _⟩ => ⟨S16x4096x1, .f32⟩
  | .hbm, ⟨77, _⟩ => ⟨S16x64x4096, .f32⟩
  | .hbm, ⟨78, _⟩ => ⟨S4096x16x64, .f32⟩
  | .hbm, ⟨79, _⟩ => ⟨S16x64x4096, .f32⟩
  | .hbm, ⟨80, _⟩ => ⟨S16x4096x4096, .f32⟩
  | .hbm, ⟨81, _⟩ => ⟨S16x64x4096, .f32⟩
  | .hbm, ⟨82, _⟩ => ⟨S4096x16x64, .f32⟩
  | .hbm, ⟨83, _⟩ => ⟨S16x4096x4096, .f32⟩
  | .hbm, ⟨84, _⟩ => ⟨S16x4096x4096, .f32⟩
  | .hbm, ⟨85, _⟩ => ⟨S16x4096x4096, .f32⟩
  | .hbm, ⟨86, _⟩ => ⟨S_, .f32⟩
  | .hbm, ⟨87, _⟩ => ⟨S16x4096, .f32⟩
  | .hbm, ⟨88, _⟩ => ⟨S16x4096x1, .f32⟩
  | .hbm, ⟨89, _⟩ => ⟨S16x4096x1, .f32⟩
  | .hbm, ⟨90, _⟩ => ⟨S16x4096x4096, .f32⟩
  | .hbm, ⟨91, _⟩ => ⟨S16x4096x4096, .f32⟩
  | .hbm, ⟨92, _⟩ => ⟨S_, .f32⟩
  | .hbm, ⟨93, _⟩ => ⟨S16x4096, .f32⟩
  | .hbm, ⟨94, _⟩ => ⟨S16x4096x4096, .f32⟩
  | .hbm, ⟨95, _⟩ => ⟨S16x4096x4096, .f32⟩
  | .hbm, ⟨96, _⟩ => ⟨S16x4096x4096, .f32⟩
  | .hbm, ⟨97, _⟩ => ⟨S_, .f32⟩
  | .hbm, ⟨98, _⟩ => ⟨S16x4096x4096, .f32⟩
  | .hbm, ⟨99, _⟩ => ⟨S16x4096x4096, .f32⟩
  | .hbm, ⟨100, _⟩ => ⟨S_, .f32⟩
  | .hbm, ⟨101, _⟩ => ⟨S16x4096x4096, .f32⟩
  | .hbm, ⟨102, _⟩ => ⟨S16x4096x4096, .f32⟩
  | .hbm, ⟨103, _⟩ => ⟨S16x4096x96, .f32⟩
  | .hbm, ⟨104, _⟩ => ⟨S4096x16x96, .f32⟩
  | .hbm, ⟨105, _⟩ => ⟨S16x4096x96, .f32⟩
  | .hbm, ⟨106, _⟩ => ⟨S4096x16x96, .f32⟩
  | .hbm, ⟨107, _⟩ => ⟨S16x4096x96, .f32⟩
  | .hbm, ⟨108, _⟩ => ⟨S_, .i32⟩
  | .hbm, ⟨109, _⟩ => ⟨S_, .f32⟩
  | .hbm, ⟨110, _⟩ => ⟨S16x4096x128, .f32⟩
  | .hbm, ⟨111, _⟩ => ⟨S16x4096x96, .f32⟩
  | .hbm, ⟨112, _⟩ => ⟨S_, .i32⟩
  | .hbm, ⟨113, _⟩ => ⟨S_, .f32⟩
  | .hbm, ⟨114, _⟩ => ⟨S16x4096x128, .f32⟩
  | .hbm, ⟨115, _⟩ => ⟨S16x4096x64, .f32⟩
  | _, _ => ⟨S4096x16x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_cst_0 : Ref sig .tc := ⟨.hbm, 32, rfl⟩
abbrev main_call1_v0 : Ref sig .tc := ⟨.hbm, 33, rfl⟩
abbrev main_v10_1 : Ref sig .tc := ⟨.hbm, 34, rfl⟩
abbrev main_call1_v2 : Ref sig .tc := ⟨.hbm, 35, rfl⟩
abbrev main_v10_0 : Ref sig .tc := ⟨.hbm, 36, rfl⟩
abbrev main_call1_cst : Ref sig .tc := ⟨.hbm, 37, rfl⟩
abbrev main_v10_2 : Ref sig .tc := ⟨.hbm, 38, rfl⟩
abbrev main_cst_1 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_cst_2 : Ref sig .tc := ⟨.hbm, 45, rfl⟩
abbrev main_v16 : Ref sig .tc := ⟨.hbm, 46, rfl⟩
abbrev main_cst_3 : Ref sig .tc := ⟨.hbm, 47, rfl⟩
abbrev main_v17 : Ref sig .tc := ⟨.hbm, 48, rfl⟩
abbrev main_v18 : Ref sig .tc := ⟨.hbm, 49, rfl⟩
abbrev main_cst_4 : Ref sig .tc := ⟨.hbm, 50, rfl⟩
abbrev main_v19 : Ref sig .tc := ⟨.hbm, 51, rfl⟩
abbrev main_v20 : Ref sig .tc := ⟨.hbm, 52, rfl⟩
abbrev main_cst_5 : Ref sig .tc := ⟨.hbm, 53, rfl⟩
abbrev main_v21 : Ref sig .tc := ⟨.hbm, 54, rfl⟩
abbrev main_v22 : Ref sig .tc := ⟨.hbm, 55, rfl⟩
abbrev main_cst_6 : Ref sig .tc := ⟨.hbm, 56, rfl⟩
abbrev main_v23 : Ref sig .tc := ⟨.hbm, 57, rfl⟩
abbrev main_cst_7 : Ref sig .tc := ⟨.hbm, 58, rfl⟩
abbrev main_v24 : Ref sig .tc := ⟨.hbm, 59, rfl⟩
abbrev main_cst_8 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_cst_9 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_cst_10 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_cst_11 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_cst_12 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_call2_cst : Ref sig .tc := ⟨.hbm, 97, rfl⟩
abbrev main_call2_v0 : Ref sig .tc := ⟨.hbm, 98, rfl⟩
abbrev main_v57 : Ref sig .tc := ⟨.hbm, 99, rfl⟩
abbrev main_cst_13 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_c_14 : Ref sig .tc := ⟨.hbm, 108, rfl⟩
abbrev main_call3_v0 : Ref sig .tc := ⟨.hbm, 109, rfl⟩
abbrev main_v65 : Ref sig .tc := ⟨.hbm, 110, rfl⟩
abbrev main_v66 : Ref sig .tc := ⟨.hbm, 111, rfl⟩
abbrev main_c_15 : Ref sig .tc := ⟨.hbm, 112, rfl⟩
abbrev main_call4_v0 : Ref sig .tc := ⟨.hbm, 113, rfl⟩
abbrev main_v67 : Ref sig .tc := ⟨.hbm, 114, rfl⟩
abbrev main_v68 : Ref sig .tc := ⟨.hbm, 115, rfl⟩

abbrev nD : Nat := 1
abbrev τ : Topo := Topo.v7x

variable {F : FTy → Type} [FloatOps F]

def κ : String → Option EReal := fun
  | "mask" => some ⊥
  | _ => none
-- ==== Kernel2.lean ====
abbrev S4096x1024 : Shape := ⟨2, ![4096, 1024]⟩
abbrev S4096x4096 : Shape := ⟨2, ![4096, 4096]⟩
abbrev S_ : Shape := ⟨0, ![]⟩
abbrev S2048x1024 : Shape := ⟨2, ![2048, 1024]⟩
abbrev S1024x1024 : Shape := ⟨2, ![1024, 1024]⟩

abbrev nBuf : Space → Nat
  | .hbm => 9
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x4096, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .bf16⟩
  | .hbm, ⟨8, _⟩ => ⟨S4096x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S4096x1024 : Shape := ⟨2, ![4096, 1024]⟩
abbrev S4096x4096 : Shape := ⟨2, ![4096, 4096]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x4096, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .i1⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Kernel3.lean ====
abbrev S4096x4096 : Shape := ⟨2, ![4096, 4096]⟩
abbrev S1024x4096 : Shape := ⟨2, ![1024, 4096]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .bf16⟩
  | .hbm, ⟨2, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x4096 : Shape := ⟨2, ![4096, 4096]⟩
abbrev S1024x4096 : Shape := ⟨2, ![1024, 4096]⟩
abbrev S_ : Shape := ⟨0, ![]⟩
abbrev S4096x1024 : Shape := ⟨2, ![4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .bf16⟩
  | .hbm, ⟨2, _⟩ => ⟨S_, .f32⟩
  | .hbm, ⟨3, _⟩ => ⟨S4096x1024, .f32⟩
  | .hbm, ⟨4, _⟩ => ⟨S1024x4096, .f32⟩
  | .hbm, ⟨5, _⟩ => ⟨S4096x4096, .f32⟩
  | .hbm, ⟨6, _⟩ => ⟨S4096x4096, .f32⟩
  | .hbm, ⟨7, _⟩ => ⟨S4096x1024, .f32⟩
  | .hbm, ⟨8, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S4096x4096 : Shape := ⟨2, ![4096, 4096]⟩
abbrev S4096x1024 : Shape := ⟨2, ![4096, 1024]⟩
abbrev S4x13056x1024 : Shape := ⟨3, ![4, 13056, 1024]⟩
abbrev S1024x1024 : Shape := ⟨2, ![1024, 1024]⟩
abbrev S1x1024x1024 : Shape := ⟨3, ![1, 1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4x13056x1024, .bf16⟩
  | .hbm, ⟨3, _⟩ => ⟨S4x13056x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c4_i32 : BitVec 32 := 4#32
  let v27 : BitVec 32 := Scalar.addi c4_i32 v26
  let c0_i32_11 : BitVec 32 := 0#32
  let c0_i32_12 : BitVec 32 := 0#32
  ![v16.toNat, v27.toNat, c0_i32_11.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference4Ideal.lean ====
abbrev S4096x4096 : Shape := ⟨2, ![4096, 4096]⟩
abbrev S4096x1024 : Shape := ⟨2, ![4096, 1024]⟩
abbrev S4x13056x1024 : Shape := ⟨3, ![4, 13056, 1024]⟩
abbrev S_ : Shape := ⟨0, ![]⟩
abbrev S1024x4096 : Shape := ⟨2, ![1024, 4096]⟩
abbrev S4x4096x1024 : Shape := ⟨3, ![4, 4096, 1024]⟩
abbrev S4x1024x1024 : Shape := ⟨3, ![4, 1024, 1024]⟩
abbrev S4x7936x1024 : Shape := ⟨3, ![4, 7936, 1024]⟩

abbrev nBuf : Space → Nat
  | .hbm => 15
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4x13056x1024, .bf16⟩
  | .hbm, ⟨3, _⟩ => ⟨S_, .f32⟩
  | .hbm, ⟨4, _⟩ => ⟨S4096x1024, .f32⟩
  | .hbm, ⟨5, _⟩ => ⟨S4096x4096, .f32⟩
  | .hbm, ⟨6, _⟩ => ⟨S4096x1024, .f32⟩
  | .hbm, ⟨7, _⟩ => ⟨S4096x1024, .f32⟩
  | .hbm, ⟨8, _⟩ => ⟨S1024x4096, .f32⟩
  | .hbm, ⟨9, _⟩ => ⟨S4096x1024, .f32⟩
  | .hbm, ⟨10, _⟩ => ⟨S4x4096x1024, .bf16⟩
  | .hbm, ⟨11, _⟩ => ⟨S4x1024x1024, .f32⟩
  | .hbm, ⟨12, _⟩ => ⟨S4x1024x1024, .bf16⟩
  | .hbm, ⟨13, _⟩ => ⟨S4x7936x1024, .bf16⟩
  | .hbm, ⟨14, _⟩ => ⟨S4x13056x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel5.lean ====
abbrev S4096x1024 : Shape := ⟨2, ![4096, 1024]⟩
abbrev S4096x4096 : Shape := ⟨2, ![4096, 4096]⟩
abbrev S4x13056x1024 : Shape := ⟨3, ![4, 13056, 1024]⟩
abbrev S1024x1024 : Shape := ⟨2, ![1024, 1024]⟩
abbrev S1x1024x1024 : Shape := ⟨3, ![1, 1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4x13056x1024, .bf16⟩
  | .hbm, ⟨3, _⟩ => ⟨S4x13056x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let c0_i32_1 : BitVec 32 := 0#32
  ![arg1.toNat, v0.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x1024 : Shape := ⟨2, ![4096, 1024]⟩
abbrev S4096x4096 : Shape := ⟨2, ![4096, 4096]⟩
abbrev S4x13056x1024 : Shape := ⟨3, ![4, 13056, 1024]⟩
abbrev S_ : Shape := ⟨0, ![]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S4x12032x1024 : Shape := ⟨3, ![4, 12032, 1024]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4x13056x1024, .bf16⟩
  | .hbm, ⟨3, _⟩ => ⟨S_, .f32⟩
  | .hbm, ⟨4, _⟩ => ⟨S1024x4096, .f32⟩
  | .hbm, ⟨5, _⟩ => ⟨S4096x1024, .f32⟩
  | .hbm, ⟨6, _⟩ => ⟨S4096x4096, .f32⟩
  | .hbm, ⟨7, _⟩ => ⟨S4096x4096, .f32⟩
  | .hbm, ⟨8, _⟩ => ⟨S4096x1024, .f32⟩
  | .hbm, ⟨9, _⟩ => ⟨S1024x4096, .f32⟩
  | .hbm, ⟨10, _⟩ => ⟨S1024x4x1024, .f32⟩
  | .hbm, ⟨11, _⟩ => ⟨S4x1024x1024, .f32⟩
  | .hbm, ⟨12, _⟩ => ⟨S4x1024x1024, .bf16⟩
  | .hbm, ⟨13, _⟩ => ⟨S4x12032x1024, .bf16⟩
  | .hbm, ⟨14, _⟩ => ⟨S4x13056x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel6.lean ====
abbrev S4096x1024 : Shape := ⟨2, ![4096, 1024]⟩
abbrev S1024x4096 : Shape := ⟨2, ![1024, 4096]⟩
abbrev S4096x4096 : Shape := ⟨2, ![4096, 4096]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x1024, .f32⟩
  | .hbm, ⟨3, _⟩ => ⟨S1024x4096, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel7.lean ====
abbrev S4096x4096 : Shape := ⟨2, ![4096, 4096]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x4096 : Shape := ⟨2, ![4096, 4096]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x4096, .f32⟩
  | .hbm, ⟨3, _⟩ => ⟨S4096x1024, .f32⟩
  | .hbm, ⟨4, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel8.lean ====
abbrev S4096x3200 : Shape := ⟨2, ![4096, 3200]⟩
abbrev S1024x3200 : Shape := ⟨2, ![1024, 3200]⟩
abbrev S4096x1024 : Shape := ⟨2, ![4096, 1024]⟩
abbrev S2048x640 : Shape := ⟨2, ![2048, 640]⟩
abbrev S1024x640 : Shape := ⟨2, ![1024, 640]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x3200, .bf16⟩
  | .hbm, ⟨1, _⟩ => ⟨S1024x3200, .bf16⟩
  | .hbm, ⟨2, _⟩ => ⟨S4096x1024, .bf16⟩
  | .local _ .vmem, ⟨0, _⟩ => ⟨S2048x640, .bf16⟩
  | .local _ .vmem, ⟨1, _⟩ => ⟨S2048x640, .bf16⟩
  | .local _ .vmem, ⟨2, _⟩ => ⟨S1024x640, .bf16⟩
  | .local _ .vmem, ⟨3, _⟩ => ⟨S1024x640, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S4096x3200, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 5], ![false, false, false]⟩

def k0_cond2 (i : grid0.Coords) : BitVec 1 :=
  let arg2 : BitVec 32 := BitVec.ofNat 32 (i 2).val
  let c4_i32 : BitVec 32 := 4#32
  let v11 : BitVec 1 := Scalar.cmpi .eq arg2 c4_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel8Ideal.lean ====
abbrev S4096x3200 : Shape := ⟨2, ![4096, 3200]⟩
abbrev S1024x3200 : Shape := ⟨2, ![1024, 3200]⟩
abbrev S4096x1024 : Shape := ⟨2, ![4096, 1024]⟩
abbrev S2048x640 : Shape := ⟨2, ![2048, 640]⟩
abbrev S1024x640 : Shape := ⟨2, ![1024, 640]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x3200, .bf16⟩
  | .hbm, ⟨1, _⟩ => ⟨S1024x3200, .bf16⟩
  | .hbm, ⟨2, _⟩ => ⟨S4096x1024, .bf16⟩
  | .local _ .vmem, ⟨0, _⟩ => ⟨S2048x640, .bf16⟩
  | .local _ .vmem, ⟨1, _⟩ => ⟨S2048x640, .bf16⟩
  | .local _ .vmem, ⟨2, _⟩ => ⟨S1024x640, .bf16⟩
  | .local _ .vmem, ⟨3, _⟩ => ⟨S1024x640, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S4096x3200, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 5], ![false, false, false]⟩

def k0_cond2 (i : grid0.Coords) : BitVec 1 :=
  let arg2 : BitVec 32 := BitVec.ofNat 32 (i 2).val
  let c4_i32 : BitVec 32 := 4#32
  let v11 : BitVec 1 := Scalar.cmpi .eq arg2 c4_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x3200 : Shape := ⟨2, ![4096, 3200]⟩
abbrev S1024x3200 : Shape := ⟨2, ![1024, 3200]⟩
abbrev S_ : Shape := ⟨0, ![]⟩
abbrev S4096x1024 : Shape := ⟨2, ![4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x3200, .bf16⟩
  | .hbm, ⟨1, _⟩ => ⟨S1024x3200, .bf16⟩
  | .hbm, ⟨2, _⟩ => ⟨S_, .f32⟩
  | .hbm, ⟨3, _⟩ => ⟨S4096x1024, .f32⟩
  | .hbm, ⟨4, _⟩ => ⟨S1024x3200, .f32⟩
  | .hbm, ⟨5, _⟩ => ⟨S4096x3200, .f32⟩
  | .hbm, ⟨6, _⟩ => ⟨S4096x3200, .f32⟩
  | .hbm, ⟨7, _⟩ => ⟨S4096x1024, .f32⟩
  | .hbm, ⟨8, _⟩ => ⟨S4096x1024, .bf16⟩
  | _, _ => ⟨S4096x3200, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S4096x1024 : Shape := ⟨2, ![4096, 1024]⟩
abbrev S4096x3200 : Shape := ⟨2, ![4096, 3200]⟩
abbrev S1024x3200 : Shape := ⟨2, ![1024, 3200]⟩
abbrev S1024x1024 : Shape := ⟨2, ![1024, 1024]⟩
abbrev S1024x640 : Shape := ⟨2, ![1024, 640]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x3200, .bf16⟩
  | .hbm, ⟨2, _⟩ => ⟨S1024x3200, .bf16⟩
  | .local _ .vmem, ⟨0, _⟩ => ⟨S1024x1024, .bf16⟩
  | .local _ .vmem, ⟨1, _⟩ => ⟨S1024x1024, .bf16⟩
  | .local _ .vmem, ⟨2, _⟩ => ⟨S1024x640, .bf16⟩
  | .local _ .vmem, ⟨3, _⟩ => ⟨S1024x640, .bf16⟩
  | .local _ .vmem, ⟨4, _⟩ => ⟨S1024x640, .bf16⟩
  | .local _ .vmem, ⟨5, _⟩ => ⟨S1024x640, .bf16⟩
  | .local _ .vmem, ⟨6, _⟩ => ⟨S1024x640, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 5, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel9Ideal.lean ====
abbrev S4096x1024 : Shape := ⟨2, ![4096, 1024]⟩
abbrev S4096x3200 : Shape := ⟨2, ![4096, 3200]⟩
abbrev S1024x3200 : Shape := ⟨2, ![1024, 3200]⟩
abbrev S1024x1024 : Shape := ⟨2, ![1024, 1024]⟩
abbrev S1024x640 : Shape := ⟨2, ![1024, 640]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x3200, .bf16⟩
  | .hbm, ⟨2, _⟩ => ⟨S1024x3200, .bf16⟩
  | .local _ .vmem, ⟨0, _⟩ => ⟨S1024x1024, .bf16⟩
  | .local _ .vmem, ⟨1, _⟩ => ⟨S1024x1024, .bf16⟩
  | .local _ .vmem, ⟨2, _⟩ => ⟨S1024x640, .bf16⟩
  | .local _ .vmem, ⟨3, _⟩ => ⟨S1024x640, .bf16⟩
  | .local _ .vmem, ⟨4, _⟩ => ⟨S1024x640, .bf16⟩
  | .local _ .vmem, ⟨5, _⟩ => ⟨S1024x640, .bf16⟩
  | .local _ .vmem, ⟨6, _⟩ => ⟨S1024x640, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 5, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x1024 : Shape := ⟨2, ![4096, 1024]⟩
abbrev S4096x3200 : Shape := ⟨2, ![4096, 3200]⟩
abbrev S_ : Shape := ⟨0, ![]⟩
abbrev S1024x3200 : Shape := ⟨2, ![1024, 3200]⟩
abbrev S3200x1024 : Shape := ⟨2, ![3200, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x3200, .bf16⟩
  | .hbm, ⟨2, _⟩ => ⟨S_, .f32⟩
  | .hbm, ⟨3, _⟩ => ⟨S1024x3200, .f32⟩
  | .hbm, ⟨4, _⟩ => ⟨S4096x1024, .f32⟩
  | .hbm, ⟨5, _⟩ => ⟨S4096x3200, .f32⟩
  | .hbm, ⟨6, _⟩ => ⟨S4096x3200, .f32⟩
  | .hbm, ⟨7, _⟩ => ⟨S3200x1024, .f32⟩
  | .hbm, ⟨8, _⟩ => ⟨S1024x3200, .f32⟩
  | .hbm, ⟨9, _⟩ => ⟨S1024x3200, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S4096x1024 : Shape := ⟨2, ![4096, 1024]⟩
abbrev S1024x3200 : Shape := ⟨2, ![1024, 3200]⟩
abbrev S4096x3200 : Shape := ⟨2, ![4096, 3200]⟩
abbrev S2048x1024 : Shape := ⟨2, ![2048, 1024]⟩
abbrev S1024x640 : Shape := ⟨2, ![1024, 640]⟩
abbrev S2048x640 : Shape := ⟨2, ![2048, 640]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x3200, .bf16⟩
  | .hbm, ⟨2, _⟩ => ⟨S4096x3200, .f32⟩
  | .local _ .vmem, ⟨0, _⟩ => ⟨S2048x1024, .bf16⟩
  | .local _ .vmem, ⟨1, _⟩ => ⟨S2048x1024, .bf16⟩
  | .local _ .vmem, ⟨2, _⟩ => ⟨S1024x640, .bf16⟩
  | .local _ .vmem, ⟨3, _⟩ => ⟨S1024x640, .bf16⟩
  | .local _ .vmem, ⟨4, _⟩ => ⟨S2048x640, .f32⟩
  | .local _ .vmem, ⟨5, _⟩ => ⟨S2048x640, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel10Ideal.lean ====
abbrev S4096x1024 : Shape := ⟨2, ![4096, 1024]⟩
abbrev S1024x3200 : Shape := ⟨2, ![1024, 3200]⟩
abbrev S4096x3200 : Shape := ⟨2, ![4096, 3200]⟩
abbrev S2048x1024 : Shape := ⟨2, ![2048, 1024]⟩
abbrev S1024x640 : Shape := ⟨2, ![1024, 640]⟩
abbrev S2048x640 : Shape := ⟨2, ![2048, 640]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x3200, .bf16⟩
  | .hbm, ⟨2, _⟩ => ⟨S4096x3200, .f32⟩
  | .local _ .vmem, ⟨0, _⟩ => ⟨S2048x1024, .bf16⟩
  | .local _ .vmem, ⟨1, _⟩ => ⟨S2048x1024, .bf16⟩
  | .local _ .vmem, ⟨2, _⟩ => ⟨S1024x640, .bf16⟩
  | .local _ .vmem, ⟨3, _⟩ => ⟨S1024x640, .bf16⟩
  | .local _ .vmem, ⟨4, _⟩ => ⟨S2048x640, .f32⟩
  | .local _ .vmem, ⟨5, _⟩ => ⟨S2048x640, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x1024 : Shape := ⟨2, ![4096, 1024]⟩
abbrev S1024x3200 : Shape := ⟨2, ![1024, 3200]⟩
abbrev S4096x3200 : Shape := ⟨2, ![4096, 3200]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x3200, .bf16⟩
  | .hbm, ⟨2, _⟩ => ⟨S4096x1024, .f32⟩
  | .hbm, ⟨3, _⟩ => ⟨S1024x3200, .f32⟩
  | .hbm, ⟨4, _⟩ => ⟨S4096x3200, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel11.lean ====
abbrev S4096x6400 : Shape := ⟨2, ![4096, 6400]⟩
abbrev S1024x6400 : Shape := ⟨2, ![1024, 6400]⟩
abbrev S4096x1024 : Shape := ⟨2, ![4096, 1024]⟩
abbrev S2048x640 : Shape := ⟨2, ![2048, 640]⟩
abbrev S1024x640 : Shape := ⟨2, ![1024, 640]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x6400, .bf16⟩
  | .hbm, ⟨1, _⟩ => ⟨S1024x6400, .bf16⟩
  | .hbm, ⟨2, _⟩ => ⟨S4096x1024, .bf16⟩
  | .local _ .vmem, ⟨0, _⟩ => ⟨S2048x640, .bf16⟩
  | .local _ .vmem, ⟨1, _⟩ => ⟨S2048x640, .bf16⟩
  | .local _ .vmem, ⟨2, _⟩ => ⟨S1024x640, .bf16⟩
  | .local _ .vmem, ⟨3, _⟩ => ⟨S1024x640, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S4096x6400, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 10], ![false, false, false]⟩

def k0_cond2 (i : grid0.Coords) : BitVec 1 :=
  let arg2 : BitVec 32 := BitVec.ofNat 32 (i 2).val
  let c9_i32 : BitVec 32 := 9#32
  let v11 : BitVec 1 := Scalar.cmpi .eq arg2 c9_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel11Ideal.lean ====
abbrev S4096x6400 : Shape := ⟨2, ![4096, 6400]⟩
abbrev S1024x6400 : Shape := ⟨2, ![1024, 6400]⟩
abbrev S4096x1024 : Shape := ⟨2, ![4096, 1024]⟩
abbrev S2048x640 : Shape := ⟨2, ![2048, 640]⟩
abbrev S1024x640 : Shape := ⟨2, ![1024, 640]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x6400, .bf16⟩
  | .hbm, ⟨1, _⟩ => ⟨S1024x6400, .bf16⟩
  | .hbm, ⟨2, _⟩ => ⟨S4096x1024, .bf16⟩
  | .local _ .vmem, ⟨0, _⟩ => ⟨S2048x640, .bf16⟩
  | .local _ .vmem, ⟨1, _⟩ => ⟨S2048x640, .bf16⟩
  | .local _ .vmem, ⟨2, _⟩ => ⟨S1024x640, .bf16⟩
  | .local _ .vmem, ⟨3, _⟩ => ⟨S1024x640, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S4096x6400, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 10], ![false, false, false]⟩

def k0_cond2 (i : grid0.Coords) : BitVec 1 :=
  let arg2 : BitVec 32 := BitVec.ofNat 32 (i 2).val
  let c9_i32 : BitVec 32 := 9#32
  let v11 : BitVec 1 := Scalar.cmpi .eq arg2 c9_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x6400 : Shape := ⟨2, ![4096, 6400]⟩
abbrev S1024x6400 : Shape := ⟨2, ![1024, 6400]⟩
abbrev S_ : Shape := ⟨0, ![]⟩
abbrev S4096x1024 : Shape := ⟨2, ![4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x6400, .bf16⟩
  | .hbm, ⟨1, _⟩ => ⟨S1024x6400, .bf16⟩
  | .hbm, ⟨2, _⟩ => ⟨S_, .f32⟩
  | .hbm, ⟨3, _⟩ => ⟨S4096x1024, .f32⟩
  | .hbm, ⟨4, _⟩ => ⟨S1024x6400, .f32⟩
  | .hbm, ⟨5, _⟩ => ⟨S4096x6400, .f32⟩
  | .hbm, ⟨6, _⟩ => ⟨S4096x6400, .f32⟩
  | .hbm, ⟨7, _⟩ => ⟨S4096x1024, .f32⟩
  | .hbm, ⟨8, _⟩ => ⟨S4096x1024, .bf16⟩
  | _, _ => ⟨S4096x6400, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel12.lean ====
abbrev S4096x1024 : Shape := ⟨2, ![4096, 1024]⟩
abbrev S4096x6400 : Shape := ⟨2, ![4096, 6400]⟩
abbrev S1024x6400 : Shape := ⟨2, ![1024, 6400]⟩
abbrev S1024x1024 : Shape := ⟨2, ![1024, 1024]⟩
abbrev S1024x640 : Shape := ⟨2, ![1024, 640]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x6400, .bf16⟩
  | .hbm, ⟨2, _⟩ => ⟨S1024x6400, .bf16⟩
  | .local _ .vmem, ⟨0, _⟩ => ⟨S1024x1024, .bf16⟩
  | .local _ .vmem, ⟨1, _⟩ => ⟨S1024x1024, .bf16⟩
  | .local _ .vmem, ⟨2, _⟩ => ⟨S1024x640, .bf16⟩
  | .local _ .vmem, ⟨3, _⟩ => ⟨S1024x640, .bf16⟩
  | .local _ .vmem, ⟨4, _⟩ => ⟨S1024x640, .bf16⟩
  | .local _ .vmem, ⟨5, _⟩ => ⟨S1024x640, .bf16⟩
  | .local _ .vmem, ⟨6, _⟩ => ⟨S1024x640, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 10, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel12Ideal.lean ====
abbrev S4096x1024 : Shape := ⟨2, ![4096, 1024]⟩
abbrev S4096x6400 : Shape := ⟨2, ![4096, 6400]⟩
abbrev S1024x6400 : Shape := ⟨2, ![1024, 6400]⟩
abbrev S1024x1024 : Shape := ⟨2, ![1024, 1024]⟩
abbrev S1024x640 : Shape := ⟨2, ![1024, 640]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x6400, .bf16⟩
  | .hbm, ⟨2, _⟩ => ⟨S1024x6400, .bf16⟩
  | .local _ .vmem, ⟨0, _⟩ => ⟨S1024x1024, .bf16⟩
  | .local _ .vmem, ⟨1, _⟩ => ⟨S1024x1024, .bf16⟩
  | .local _ .vmem, ⟨2, _⟩ => ⟨S1024x640, .bf16⟩
  | .local _ .vmem, ⟨3, _⟩ => ⟨S1024x640, .bf16⟩
  | .local _ .vmem, ⟨4, _⟩ => ⟨S1024x640, .bf16⟩
  | .local _ .vmem, ⟨5, _⟩ => ⟨S1024x640, .bf16⟩
  | .local _ .vmem, ⟨6, _⟩ => ⟨S1024x640, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 10, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x1024 : Shape := ⟨2, ![4096, 1024]⟩
abbrev S4096x6400 : Shape := ⟨2, ![4096, 6400]⟩
abbrev S_ : Shape := ⟨0, ![]⟩
abbrev S1024x6400 : Shape := ⟨2, ![1024, 6400]⟩
abbrev S6400x1024 : Shape := ⟨2, ![6400, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x6400, .bf16⟩
  | .hbm, ⟨2, _⟩ => ⟨S_, .f32⟩
  | .hbm, ⟨3, _⟩ => ⟨S1024x6400, .f32⟩
  | .hbm, ⟨4, _⟩ => ⟨S4096x1024, .f32⟩
  | .hbm, ⟨5, _⟩ => ⟨S4096x6400, .f32⟩
  | .hbm, ⟨6, _⟩ => ⟨S4096x6400, .f32⟩
  | .hbm, ⟨7, _⟩ => ⟨S6400x1024, .f32⟩
  | .hbm, ⟨8, _⟩ => ⟨S1024x6400, .f32⟩
  | .hbm, ⟨9, _⟩ => ⟨S1024x6400, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel13.lean ====
abbrev S4096x1024 : Shape := ⟨2, ![4096, 1024]⟩
abbrev S1024x6400 : Shape := ⟨2, ![1024, 6400]⟩
abbrev S4096x6400 : Shape := ⟨2, ![4096, 6400]⟩
abbrev S2048x1024 : Shape := ⟨2, ![2048, 1024]⟩
abbrev S1024x640 : Shape := ⟨2, ![1024, 640]⟩
abbrev S2048x640 : Shape := ⟨2, ![2048, 640]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x6400, .bf16⟩
  | .hbm, ⟨2, _⟩ => ⟨S4096x6400, .f32⟩
  | .local _ .vmem, ⟨0, _⟩ => ⟨S2048x1024, .bf16⟩
  | .local _ .vmem, ⟨1, _⟩ => ⟨S2048x1024, .bf16⟩
  | .local _ .vmem, ⟨2, _⟩ => ⟨S1024x640, .bf16⟩
  | .local _ .vmem, ⟨3, _⟩ => ⟨S1024x640, .bf16⟩
  | .local _ .vmem, ⟨4, _⟩ => ⟨S2048x640, .f32⟩
  | .local _ .vmem, ⟨5, _⟩ => ⟨S2048x640, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 10, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel13Ideal.lean ====
abbrev S4096x1024 : Shape := ⟨2, ![4096, 1024]⟩
abbrev S1024x6400 : Shape := ⟨2, ![1024, 6400]⟩
abbrev S4096x6400 : Shape := ⟨2, ![4096, 6400]⟩
abbrev S2048x1024 : Shape := ⟨2, ![2048, 1024]⟩
abbrev S1024x640 : Shape := ⟨2, ![1024, 640]⟩
abbrev S2048x640 : Shape := ⟨2, ![2048, 640]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x6400, .bf16⟩
  | .hbm, ⟨2, _⟩ => ⟨S4096x6400, .f32⟩
  | .local _ .vmem, ⟨0, _⟩ => ⟨S2048x1024, .bf16⟩
  | .local _ .vmem, ⟨1, _⟩ => ⟨S2048x1024, .bf16⟩
  | .local _ .vmem, ⟨2, _⟩ => ⟨S1024x640, .bf16⟩
  | .local _ .vmem, ⟨3, _⟩ => ⟨S1024x640, .bf16⟩
  | .local _ .vmem, ⟨4, _⟩ => ⟨S2048x640, .f32⟩
  | .local _ .vmem, ⟨5, _⟩ => ⟨S2048x640, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 10, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x1024 : Shape := ⟨2, ![4096, 1024]⟩
abbrev S1024x6400 : Shape := ⟨2, ![1024, 6400]⟩
abbrev S4096x6400 : Shape := ⟨2, ![4096, 6400]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x6400, .bf16⟩
  | .hbm, ⟨2, _⟩ => ⟨S4096x1024, .f32⟩
  | .hbm, ⟨3, _⟩ => ⟨S1024x6400, .f32⟩
  | .hbm, ⟨4, _⟩ => ⟨S4096x6400, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel14.lean ====
abbrev S4096x4096 : Shape := ⟨2, ![4096, 4096]⟩
abbrev S4096x1024 : Shape := ⟨2, ![4096, 1024]⟩
abbrev S4x13056x1024 : Shape := ⟨3, ![4, 13056, 1024]⟩
abbrev S1024x1024 : Shape := ⟨2, ![1024, 1024]⟩
abbrev S1x1024x1024 : Shape := ⟨3, ![1, 1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4x13056x1024, .bf16⟩
  | .hbm, ⟨3, _⟩ => ⟨S4x13056x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c5_i32 : BitVec 32 := 5#32
  let v27 : BitVec 32 := Scalar.addi c5_i32 v26
  let c0_i32_11 : BitVec 32 := 0#32
  let c0_i32_12 : BitVec 32 := 0#32
  ![v16.toNat, v27.toNat, c0_i32_11.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Kernel14Ideal.lean ====
abbrev S4096x4096 : Shape := ⟨2, ![4096, 4096]⟩
abbrev S4096x1024 : Shape := ⟨2, ![4096, 1024]⟩
abbrev S4x13056x1024 : Shape := ⟨3, ![4, 13056, 1024]⟩
abbrev S1024x1024 : Shape := ⟨2, ![1024, 1024]⟩
abbrev S1x1024x1024 : Shape := ⟨3, ![1, 1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4x13056x1024, .bf16⟩
  | .hbm, ⟨3, _⟩ => ⟨S4x13056x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c5_i32 : BitVec 32 := 5#32
  let v27 : BitVec 32 := Scalar.addi c5_i32 v26
  let c0_i32_11 : BitVec 32 := 0#32
  let c0_i32_12 : BitVec 32 := 0#32
  ![v16.toNat, v27.toNat, c0_i32_11.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference14Ideal.lean ====
abbrev S4096x4096 : Shape := ⟨2, ![4096, 4096]⟩
abbrev S4096x1024 : Shape := ⟨2, ![4096, 1024]⟩
abbrev S4x13056x1024 : Shape := ⟨3, ![4, 13056, 1024]⟩
abbrev S_ : Shape := ⟨0, ![]⟩
abbrev S1024x4096 : Shape := ⟨2, ![1024, 4096]⟩
abbrev S4x5120x1024 : Shape := ⟨3, ![4, 5120, 1024]⟩
abbrev S4x1024x1024 : Shape := ⟨3, ![4, 1024, 1024]⟩
abbrev S4x6912x1024 : Shape := ⟨3, ![4, 6912, 1024]⟩

abbrev nBuf : Space → Nat
  | .hbm => 15
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4x13056x1024, .bf16⟩
  | .hbm, ⟨3, _⟩ => ⟨S_, .f32⟩
  | .hbm, ⟨4, _⟩ => ⟨S4096x1024, .f32⟩
  | .hbm, ⟨5, _⟩ => ⟨S4096x4096, .f32⟩
  | .hbm, ⟨6, _⟩ => ⟨S4096x1024, .f32⟩
  | .hbm, ⟨7, _⟩ => ⟨S4096x1024, .f32⟩
  | .hbm, ⟨8, _⟩ => ⟨S1024x4096, .f32⟩
  | .hbm, ⟨9, _⟩ => ⟨S4096x1024, .f32⟩
  | .hbm, ⟨10, _⟩ => ⟨S4x5120x1024, .bf16⟩
  | .hbm, ⟨11, _⟩ => ⟨S4x1024x1024, .f32⟩
  | .hbm, ⟨12, _⟩ => ⟨S4x1024x1024, .bf16⟩
  | .hbm, ⟨13, _⟩ => ⟨S4x6912x1024, .bf16⟩
  | .hbm, ⟨14, _⟩ => ⟨S4x13056x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel15.lean ====
abbrev S4096x1024 : Shape := ⟨2, ![4096, 1024]⟩
abbrev S4096x4096 : Shape := ⟨2, ![4096, 4096]⟩
abbrev S4x13056x1024 : Shape := ⟨3, ![4, 13056, 1024]⟩
abbrev S1024x1024 : Shape := ⟨2, ![1024, 1024]⟩
abbrev S1x1024x1024 : Shape := ⟨3, ![1, 1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4x13056x1024, .bf16⟩
  | .hbm, ⟨3, _⟩ => ⟨S4x13056x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg0
  let c0_i32 : BitVec 32 := 0#32
  let c0_i32_0 : BitVec 32 := 0#32
  ![arg1.toNat, v0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel15Ideal.lean ====
  let c1_i32 : BitVec 32 := 1#32
  let v0 : BitVec 32 := Scalar.addi c1_i32 arg0
-- ==== Reference15Ideal.lean ====
abbrev S4096x1024 : Shape := ⟨2, ![4096, 1024]⟩
abbrev S4096x4096 : Shape := ⟨2, ![4096, 4096]⟩
abbrev S4x13056x1024 : Shape := ⟨3, ![4, 13056, 1024]⟩
abbrev S_ : Shape := ⟨0, ![]⟩
abbrev S1024x4096 : Shape := ⟨2, ![1024, 4096]⟩
abbrev S4x1024x1024 : Shape := ⟨3, ![4, 1024, 1024]⟩
abbrev S1024x4x1024 : Shape := ⟨3, ![1024, 4, 1024]⟩
abbrev S4x11008x1024 : Shape := ⟨3, ![4, 11008, 1024]⟩

abbrev nBuf : Space → Nat
  | .hbm => 16
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4x13056x1024, .bf16⟩
  | .hbm, ⟨3, _⟩ => ⟨S_, .f32⟩
  | .hbm, ⟨4, _⟩ => ⟨S1024x4096, .f32⟩
  | .hbm, ⟨5, _⟩ => ⟨S4096x1024, .f32⟩
  | .hbm, ⟨6, _⟩ => ⟨S4096x4096, .f32⟩
  | .hbm, ⟨7, _⟩ => ⟨S4096x4096, .f32⟩
  | .hbm, ⟨8, _⟩ => ⟨S4096x1024, .f32⟩
  | .hbm, ⟨9, _⟩ => ⟨S1024x4096, .f32⟩
  | .hbm, ⟨10, _⟩ => ⟨S4x1024x1024, .bf16⟩
  | .hbm, ⟨11, _⟩ => ⟨S1024x4x1024, .f32⟩
  | .hbm, ⟨12, _⟩ => ⟨S4x1024x1024, .f32⟩
  | .hbm, ⟨13, _⟩ => ⟨S4x1024x1024, .bf16⟩
  | .hbm, ⟨14, _⟩ => ⟨S4x11008x1024, .bf16⟩
  | .hbm, ⟨15, _⟩ => ⟨S4x13056x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Kernel16.lean ====
abbrev S4096x4096 : Shape := ⟨2, ![4096, 4096]⟩
abbrev S4096x1024 : Shape := ⟨2, ![4096, 1024]⟩
abbrev S4x13056x1024 : Shape := ⟨3, ![4, 13056, 1024]⟩
abbrev S1024x1024 : Shape := ⟨2, ![1024, 1024]⟩
abbrev S1x1024x1024 : Shape := ⟨3, ![1, 1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4x13056x1024, .bf16⟩
  | .hbm, ⟨3, _⟩ => ⟨S4x13056x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c6_i32 : BitVec 32 := 6#32
  let v27 : BitVec 32 := Scalar.addi c6_i32 v26
  let c0_i32_11 : BitVec 32 := 0#32
  let c0_i32_12 : BitVec 32 := 0#32
  ![v16.toNat, v27.toNat, c0_i32_11.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Kernel16Ideal.lean ====
abbrev S4096x4096 : Shape := ⟨2, ![4096, 4096]⟩
abbrev S4096x1024 : Shape := ⟨2, ![4096, 1024]⟩
abbrev S4x13056x1024 : Shape := ⟨3, ![4, 13056, 1024]⟩
abbrev S1024x1024 : Shape := ⟨2, ![1024, 1024]⟩
abbrev S1x1024x1024 : Shape := ⟨3, ![1, 1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4x13056x1024, .bf16⟩
  | .hbm, ⟨3, _⟩ => ⟨S4x13056x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c6_i32 : BitVec 32 := 6#32
  let v27 : BitVec 32 := Scalar.addi c6_i32 v26
  let c0_i32_11 : BitVec 32 := 0#32
  let c0_i32_12 : BitVec 32 := 0#32
  ![v16.toNat, v27.toNat, c0_i32_11.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference16Ideal.lean ====
abbrev S4096x4096 : Shape := ⟨2, ![4096, 4096]⟩
abbrev S4096x1024 : Shape := ⟨2, ![4096, 1024]⟩
abbrev S4x13056x1024 : Shape := ⟨3, ![4, 13056, 1024]⟩
abbrev S_ : Shape := ⟨0, ![]⟩
abbrev S1024x4096 : Shape := ⟨2, ![1024, 4096]⟩
abbrev S4x6144x1024 : Shape := ⟨3, ![4, 6144, 1024]⟩
abbrev S4x1024x1024 : Shape := ⟨3, ![4, 1024, 1024]⟩
abbrev S4x5888x1024 : Shape := ⟨3, ![4, 5888, 1024]⟩

abbrev nBuf : Space → Nat
  | .hbm => 15
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4x13056x1024, .bf16⟩
  | .hbm, ⟨3, _⟩ => ⟨S_, .f32⟩
  | .hbm, ⟨4, _⟩ => ⟨S4096x1024, .f32⟩
  | .hbm, ⟨5, _⟩ => ⟨S4096x4096, .f32⟩
  | .hbm, ⟨6, _⟩ => ⟨S4096x1024, .f32⟩
  | .hbm, ⟨7, _⟩ => ⟨S4096x1024, .f32⟩
  | .hbm, ⟨8, _⟩ => ⟨S1024x4096, .f32⟩
  | .hbm, ⟨9, _⟩ => ⟨S4096x1024, .f32⟩
  | .hbm, ⟨10, _⟩ => ⟨S4x6144x1024, .bf16⟩
  | .hbm, ⟨11, _⟩ => ⟨S4x1024x1024, .f32⟩
  | .hbm, ⟨12, _⟩ => ⟨S4x1024x1024, .bf16⟩
  | .hbm, ⟨13, _⟩ => ⟨S4x5888x1024, .bf16⟩
  | .hbm, ⟨14, _⟩ => ⟨S4x13056x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel17.lean ====
abbrev S4096x1024 : Shape := ⟨2, ![4096, 1024]⟩
abbrev S4096x4096 : Shape := ⟨2, ![4096, 4096]⟩
abbrev S4x13056x1024 : Shape := ⟨3, ![4, 13056, 1024]⟩
abbrev S1024x1024 : Shape := ⟨2, ![1024, 1024]⟩
abbrev S1x1024x1024 : Shape := ⟨3, ![1, 1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4x13056x1024, .bf16⟩
  | .hbm, ⟨3, _⟩ => ⟨S4x13056x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg0
  let c0_i32 : BitVec 32 := 0#32
  let c0_i32_0 : BitVec 32 := 0#32
  ![arg1.toNat, v0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel17Ideal.lean ====
  let c2_i32 : BitVec 32 := 2#32
  let v0 : BitVec 32 := Scalar.addi c2_i32 arg0
-- ==== Reference17Ideal.lean ====
abbrev S4096x1024 : Shape := ⟨2, ![4096, 1024]⟩
abbrev S4096x4096 : Shape := ⟨2, ![4096, 4096]⟩
abbrev S4x13056x1024 : Shape := ⟨3, ![4, 13056, 1024]⟩
abbrev S_ : Shape := ⟨0, ![]⟩
abbrev S1024x4096 : Shape := ⟨2, ![1024, 4096]⟩
abbrev S4x2048x1024 : Shape := ⟨3, ![4, 2048, 1024]⟩
abbrev S1024x4x1024 : Shape := ⟨3, ![1024, 4, 1024]⟩
abbrev S4x1024x1024 : Shape := ⟨3, ![4, 1024, 1024]⟩
abbrev S4x9984x1024 : Shape := ⟨3, ![4, 9984, 1024]⟩

abbrev nBuf : Space → Nat
  | .hbm => 16
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4x13056x1024, .bf16⟩
  | .hbm, ⟨3, _⟩ => ⟨S_, .f32⟩
  | .hbm, ⟨4, _⟩ => ⟨S1024x4096, .f32⟩
  | .hbm, ⟨5, _⟩ => ⟨S4096x1024, .f32⟩
  | .hbm, ⟨6, _⟩ => ⟨S4096x4096, .f32⟩
  | .hbm, ⟨7, _⟩ => ⟨S4096x4096, .f32⟩
  | .hbm, ⟨8, _⟩ => ⟨S4096x1024, .f32⟩
  | .hbm, ⟨9, _⟩ => ⟨S1024x4096, .f32⟩
  | .hbm, ⟨10, _⟩ => ⟨S4x2048x1024, .bf16⟩
  | .hbm, ⟨11, _⟩ => ⟨S1024x4x1024, .f32⟩
  | .hbm, ⟨12, _⟩ => ⟨S4x1024x1024, .f32⟩
  | .hbm, ⟨13, _⟩ => ⟨S4x1024x1024, .bf16⟩
  | .hbm, ⟨14, _⟩ => ⟨S4x9984x1024, .bf16⟩
  | .hbm, ⟨15, _⟩ => ⟨S4x13056x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Kernel18.lean ====
abbrev S4096x4096 : Shape := ⟨2, ![4096, 4096]⟩
abbrev S4096x1024 : Shape := ⟨2, ![4096, 1024]⟩
abbrev S4x13056x1024 : Shape := ⟨3, ![4, 13056, 1024]⟩
abbrev S1024x1024 : Shape := ⟨2, ![1024, 1024]⟩
abbrev S1x1024x1024 : Shape := ⟨3, ![1, 1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4x13056x1024, .bf16⟩
  | .hbm, ⟨3, _⟩ => ⟨S4x13056x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c7_i32 : BitVec 32 := 7#32
  let v27 : BitVec 32 := Scalar.addi c7_i32 v26
  let c0_i32_11 : BitVec 32 := 0#32
  let c0_i32_12 : BitVec 32 := 0#32
  ![v16.toNat, v27.toNat, c0_i32_11.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Kernel18Ideal.lean ====
abbrev S4096x4096 : Shape := ⟨2, ![4096, 4096]⟩
abbrev S4096x1024 : Shape := ⟨2, ![4096, 1024]⟩
abbrev S4x13056x1024 : Shape := ⟨3, ![4, 13056, 1024]⟩
abbrev S1024x1024 : Shape := ⟨2, ![1024, 1024]⟩
abbrev S1x1024x1024 : Shape := ⟨3, ![1, 1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4x13056x1024, .bf16⟩
  | .hbm, ⟨3, _⟩ => ⟨S4x13056x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c7_i32 : BitVec 32 := 7#32
  let v27 : BitVec 32 := Scalar.addi c7_i32 v26
  let c0_i32_11 : BitVec 32 := 0#32
  let c0_i32_12 : BitVec 32 := 0#32
  ![v16.toNat, v27.toNat, c0_i32_11.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference18Ideal.lean ====
abbrev S4096x4096 : Shape := ⟨2, ![4096, 4096]⟩
abbrev S4096x1024 : Shape := ⟨2, ![4096, 1024]⟩
abbrev S4x13056x1024 : Shape := ⟨3, ![4, 13056, 1024]⟩
abbrev S_ : Shape := ⟨0, ![]⟩
abbrev S1024x4096 : Shape := ⟨2, ![1024, 4096]⟩
abbrev S4x7168x1024 : Shape := ⟨3, ![4, 7168, 1024]⟩
abbrev S4x1024x1024 : Shape := ⟨3, ![4, 1024, 1024]⟩
abbrev S4x4864x1024 : Shape := ⟨3, ![4, 4864, 1024]⟩

abbrev nBuf : Space → Nat
  | .hbm => 15
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4x13056x1024, .bf16⟩
  | .hbm, ⟨3, _⟩ => ⟨S_, .f32⟩
  | .hbm, ⟨4, _⟩ => ⟨S4096x1024, .f32⟩
  | .hbm, ⟨5, _⟩ => ⟨S4096x4096, .f32⟩
  | .hbm, ⟨6, _⟩ => ⟨S4096x1024, .f32⟩
  | .hbm, ⟨7, _⟩ => ⟨S4096x1024, .f32⟩
  | .hbm, ⟨8, _⟩ => ⟨S1024x4096, .f32⟩
  | .hbm, ⟨9, _⟩ => ⟨S4096x1024, .f32⟩
  | .hbm, ⟨10, _⟩ => ⟨S4x7168x1024, .bf16⟩
  | .hbm, ⟨11, _⟩ => ⟨S4x1024x1024, .f32⟩
  | .hbm, ⟨12, _⟩ => ⟨S4x1024x1024, .bf16⟩
  | .hbm, ⟨13, _⟩ => ⟨S4x4864x1024, .bf16⟩
  | .hbm, ⟨14, _⟩ => ⟨S4x13056x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel19.lean ====
abbrev S4096x1024 : Shape := ⟨2, ![4096, 1024]⟩
abbrev S4096x4096 : Shape := ⟨2, ![4096, 4096]⟩
abbrev S4x13056x1024 : Shape := ⟨3, ![4, 13056, 1024]⟩
abbrev S1024x1024 : Shape := ⟨2, ![1024, 1024]⟩
abbrev S1x1024x1024 : Shape := ⟨3, ![1, 1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4x13056x1024, .bf16⟩
  | .hbm, ⟨3, _⟩ => ⟨S4x13056x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi c3_i32 arg0
  let c0_i32 : BitVec 32 := 0#32
  let c0_i32_0 : BitVec 32 := 0#32
  ![arg1.toNat, v0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S4096x1024 : Shape := ⟨2, ![4096, 1024]⟩
abbrev S4096x4096 : Shape := ⟨2, ![4096, 4096]⟩
abbrev S4x13056x1024 : Shape := ⟨3, ![4, 13056, 1024]⟩
abbrev S_ : Shape := ⟨0, ![]⟩
abbrev S1024x4096 : Shape := ⟨2, ![1024, 4096]⟩
abbrev S4x3072x1024 : Shape := ⟨3, ![4, 3072, 1024]⟩
abbrev S1024x4x1024 : Shape := ⟨3, ![1024, 4, 1024]⟩
abbrev S4x1024x1024 : Shape := ⟨3, ![4, 1024, 1024]⟩
abbrev S4x8960x1024 : Shape := ⟨3, ![4, 8960, 1024]⟩

abbrev nBuf : Space → Nat
  | .hbm => 16
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4x13056x1024, .bf16⟩
  | .hbm, ⟨3, _⟩ => ⟨S_, .f32⟩
  | .hbm, ⟨4, _⟩ => ⟨S1024x4096, .f32⟩
  | .hbm, ⟨5, _⟩ => ⟨S4096x1024, .f32⟩
  | .hbm, ⟨6, _⟩ => ⟨S4096x4096, .f32⟩
  | .hbm, ⟨7, _⟩ => ⟨S4096x4096, .f32⟩
  | .hbm, ⟨8, _⟩ => ⟨S4096x1024, .f32⟩
  | .hbm, ⟨9, _⟩ => ⟨S1024x4096, .f32⟩
  | .hbm, ⟨10, _⟩ => ⟨S4x3072x1024, .bf16⟩
  | .hbm, ⟨11, _⟩ => ⟨S1024x4x1024, .f32⟩
  | .hbm, ⟨12, _⟩ => ⟨S4x1024x1024, .f32⟩
  | .hbm, ⟨13, _⟩ => ⟨S4x1024x1024, .bf16⟩
  | .hbm, ⟨14, _⟩ => ⟨S4x8960x1024, .bf16⟩
  | .hbm, ⟨15, _⟩ => ⟨S4x13056x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Proof.Spec.lean ====
/- The gradient of chunk-causal attention for one head, over the reals: no program in it. -/
module

public import Mathlib.Analysis.SpecialFunctions.Log.Basic
public import Mathlib.Algebra.BigOperators.Intervals
public import Mathlib.Algebra.BigOperators.Field

@[expose] public section

noncomputable section

namespace Cert.Attn

open Finset

/-! Tokens and channels are natural numbers, so that a block of rows is a shift of the index. -/

variable (q k v g : ℕ → ℕ → ℝ) (c : ℝ)

/-- Query `i` sees key `j`: the key's chunk of 64 is not after the query's. -/
def sees (i j : ℕ) : Prop := j / 64 ≤ i / 64

instance (i j : ℕ) : Decidable (sees i j) := Nat.decLe _ _

/-- The scaled score of a query and a key. -/
def score (i j : ℕ) : ℝ := (∑ d ∈ range 96, q i d * k j d) * c

/-- The weight of a key, shifted by `μ`: zero where the query does not see it. -/
def wt (μ : ℝ) (i j : ℕ) : ℝ := if sees i j then Real.exp (score q k c i j - μ) else 0

/-- The sum of the weights over all keys. -/
def tot (μ : ℝ) (i : ℕ) : ℝ := ∑ j ∈ range 4096, wt q k c μ i j

/-- The probability of a key. -/
def prob (i j : ℕ) : ℝ := wt q k c 0 i j / tot q k c 0 i

/-- The gradient of a probability. -/
def dprob (i j : ℕ) : ℝ := ∑ d ∈ range 64, g i d * v j d

/-- The attention's output. -/
def out (i d : ℕ) : ℝ := ∑ j ∈ range 4096, prob q k c i j * v j d

/-- The output's product with its gradient. -/
def dot (i : ℕ) : ℝ := ∑ d ∈ range 64, g i d * out q k v c i d

/-- The gradient of a score before its scale. -/
def dscore (i j : ℕ) : ℝ := prob q k c i j * (dprob v g i j - dot q k v g c i) * c

def dq (i d : ℕ) : ℝ := ∑ j ∈ range 4096, dscore q k v g c i j * k j d
def dk (j d : ℕ) : ℝ := ∑ i ∈ range 4096, dscore q k v g c i j * q i d
def dv (j d : ℕ) : ℝ := ∑ i ∈ range 4096, prob q k c i j * g i d

variable {q k v g c}

/-! ## The softmax does not depend on the shift -/

theorem wt_shift (μ : ℝ) (i j : ℕ) : wt q k c μ i j = wt q k c 0 i j * Real.exp (-μ) := by
  unfold wt; split
  · rw [← Real.exp_add]; congr 1; ring
  · rw [zero_mul]

theorem tot_shift (μ : ℝ) (i : ℕ) : tot q k c μ i = tot q k c 0 i * Real.exp (-μ) := by
  unfold tot; rw [Finset.sum_mul]; exact Finset.sum_congr rfl fun j _ => wt_shift μ i j

theorem wt_nonneg (μ : ℝ) (i j : ℕ) : 0 ≤ wt q k c μ i j := by
  unfold wt; split
  · exact (Real.exp_pos _).le
  · exact le_rfl

theorem tot_pos (μ : ℝ) (i : ℕ) : 0 < tot q k c μ i := by
  refine Finset.sum_pos' (fun j _ => wt_nonneg μ i j) ⟨0, by simp, ?_⟩
  unfold wt; rw [if_pos (by unfold sees; simp)]; exact Real.exp_pos _

theorem prob_eq (μ : ℝ) (i j : ℕ) : wt q k c μ i j / tot q k c μ i = prob q k c i j := by
  unfold prob; rw [wt_shift μ, tot_shift μ, mul_div_mul_right _ _ (Real.exp_pos _).ne']

/-- A probability from the logarithm of the sum. -/
theorem prob_log (μ : ℝ) {i j : ℕ} (h : sees i j) :
    Real.exp (score q k c i j - (μ + Real.log (tot q k c μ i))) = prob q k c i j := by
  rw [← prob_eq μ, ← sub_sub, Real.exp_sub, Real.exp_log (tot_pos μ i)]
  unfold wt; rw [if_pos h]

theorem prob_unseen {i j : ℕ} (h : ¬sees i j) : prob q k c i j = 0 := by
  unfold prob wt; rw [if_neg h, zero_div]

theorem dscore_unseen {i j : ℕ} (h : ¬sees i j) : dscore q k v g c i j = 0 := by
  unfold dscore; rw [prob_unseen h, zero_mul, zero_mul]

/-! ## The two forms of the softmax's derivative -/

theorem dot_eq (i : ℕ) : dot q k v g c i = ∑ j ∈ range 4096, prob q k c i j * dprob v g i j := by
  unfold dot out dprob
  simp only [Finset.mul_sum]
  rw [Finset.sum_comm]
  exact Finset.sum_congr rfl fun j _ => Finset.sum_congr rfl fun d _ => by ring

/-- The derivative of a quotient, written as the derivative of its numerator and of its denominator. -/
theorem quotient_form (μ : ℝ) (i j : ℕ) :
    (dprob v g i j / tot q k c μ i
      + -(∑ j' ∈ range 4096, dprob v g i j' * (1 / (tot q k c μ i * tot q k c μ i)) * wt q k c μ i j')) * wt q k c μ i j
      = prob q k c i j * (dprob v g i j - dot q k v g c i) := by
  have hp := (tot_pos (q := q) (k := k) (c := c) μ i).ne'
  have hs : (∑ j' ∈ range 4096, dprob v g i j' * (1 / (tot q k c μ i * tot q k c μ i)) * wt q k c μ i j')
      = dot q k v g c i / tot q k c μ i := by
    rw [dot_eq, Finset.sum_div]
    refine Finset.sum_congr rfl fun j' _ => ?_
    rw [← prob_eq μ]; field_simp
  rw [hs, ← prob_eq μ]; field_simp; ring

/-! ## Blocks of 512 -/

theorem sum_blocks (f : ℕ → ℝ) (n : ℕ) :
    (∑ j ∈ range (512 * n), f j) = ∑ b ∈ range n, ∑ y ∈ range 512, f (512 * b + y) := by
  induction n with
  | zero => simp
  | succ n ih => rw [Nat.mul_succ, Finset.sum_range_add, ih, Finset.sum_range_succ _ n]

/-- A query block after a key block sees all of it. -/
theorem sees_block {b j y z : ℕ} (h : j < b) (hz : z < 512) : sees (512 * b + y) (512 * j + z) := by
  unfold sees; omega

/-- Inside a block: the chunks of 64 compare as in the whole. -/
theorem sees_diag {b y z : ℕ} : sees (512 * b + y) (512 * b + z) ↔ z / 64 ≤ y / 64 := by
  unfold sees; omega

/-- A query block before a key block sees none of it. -/
theorem unseen_block {b j y z : ℕ} (h : b < j) (hy : y < 512) : ¬sees (512 * b + y) (512 * j + z) := by
  unfold sees; omega

/-- What a block of keys adds to dq. -/
def dqPart (q k v g : ℕ → ℕ → ℝ) (c : ℝ) (j i d : ℕ) : ℝ := ∑ z ∈ range 512, dscore q k v g c i (512 * j + z) * k (512 * j + z) d
/-- What a block of queries adds to dk. -/
def dkPart (q k v g : ℕ → ℕ → ℝ) (c : ℝ) (b j d : ℕ) : ℝ := ∑ y ∈ range 512, dscore q k v g c (512 * b + y) j * q (512 * b + y) d
/-- What a block of queries adds to dv. -/
def dvPart (q k g : ℕ → ℕ → ℝ) (c : ℝ) (b j d : ℕ) : ℝ := ∑ y ∈ range 512, prob q k c (512 * b + y) j * g (512 * b + y) d

theorem dq_parts (i d : ℕ) : dq q k v g c i d = ∑ j ∈ range 8, dqPart q k v g c j i d := sum_blocks _ 8
theorem dk_parts (j d : ℕ) : dk q k v g c j d = ∑ b ∈ range 8, dkPart q k v g c b j d := sum_blocks _ 8
theorem dv_parts (j d : ℕ) : dv q k g c j d = ∑ b ∈ range 8, dvPart q k g c b j d := sum_blocks _ 8

theorem dqPart_unseen {b j y d : ℕ} (h : b < j) (hy : y < 512) : dqPart q k v g c j (512 * b + y) d = 0 :=
  Finset.sum_eq_zero fun z _ => by rw [dscore_unseen (unseen_block h hy), zero_mul]
theorem dkPart_unseen {b j z d : ℕ} (h : b < j) : dkPart q k v g c b (512 * j + z) d = 0 :=
  Finset.sum_eq_zero fun y hy => by rw [dscore_unseen (unseen_block h (Finset.mem_range.mp hy)), zero_mul]
theorem dvPart_unseen {b j z d : ℕ} (h : b < j) : dvPart q k g c b (512 * j + z) d = 0 :=
  Finset.sum_eq_zero fun y hy => by rw [prob_unseen (unseen_block h (Finset.mem_range.mp hy)), zero_mul]

/-- The blocks of queries from a key block on: the ones before add nothing. -/
theorem dk_from {j z d : ℕ} (hj : j < 8) :
    dk q k v g c (512 * j + z) d = ∑ n ∈ range (8 - j), dkPart q k v g c (j + n) (512 * j + z) d := by
  rw [dk_parts, show (8 : ℕ) = j + (8 - j) by omega, Finset.sum_range_add,
    Finset.sum_eq_zero fun b hb => dkPart_unseen (Finset.mem_range.mp hb), zero_add, Nat.add_sub_cancel_left]
theorem dv_from {j z d : ℕ} (hj : j < 8) :
    dv q k g c (512 * j + z) d = ∑ n ∈ range (8 - j), dvPart q k g c (j + n) (512 * j + z) d := by
  rw [dv_parts, show (8 : ℕ) = j + (8 - j) by omega, Finset.sum_range_add,
    Finset.sum_eq_zero fun b hb => dvPart_unseen (Finset.mem_range.mp hb), zero_add, Nat.add_sub_cancel_left]

end Cert.Attn

end
-- ==== Proof.Args.lean ====
/- The arguments as real numbers: an array of finite elements read at natural-number indices, sums of reals in the
   extended reals, the literals of the two programs, and the words that compare chunks of 64. -/
module

public import proofs.«01_k».proof.Proof.Spec
public import Idealize.ShloMosaic.PureOps.Ideal.Laws
public import Idealize.ShloMosaic.Lib.KernelVsHost

@[expose] public section

noncomputable section

namespace Cert.Args

open Idealize.ShloMosaic

/-! ## Reals among the extended reals -/

/-- A sum of reals over the indices below `n`. -/
theorem sum_coe {n : ℕ} {G : Fin n → EReal} (f : ℕ → ℝ) (h : ∀ k : Fin n, G k = ((f k.val : ℝ) : EReal)) :
    (∑ k : Fin n, G k) = ((∑ d ∈ Finset.range n, f d : ℝ) : EReal) := by
  rw [Finset.sum_congr rfl fun k _ => h k, Fin.sum_univ_eq_sum_range (fun d => ((f d : ℝ) : EReal))]
  induction n with
  | zero => simp
  | succ n ih =>
    rw [Finset.sum_range_succ, Finset.sum_range_succ, EReal.coe_add,
      ih (G := fun k => ((f k.val : ℝ) : EReal)) (fun _ => rfl)]

theorem real_of_finite {x : EReal} (h1 : x ≠ ⊤) (h2 : x ≠ ⊥) : ∃ r : ℝ, x = (r : EReal) :=
  ⟨x.toReal, (EReal.coe_toReal h1 h2).symm⟩

/-- The quotient of two reals. -/
theorem div_reals (a : ℝ) {b : ℝ} (h : b ≠ 0) : Ideal.div (a : EReal) (b : EReal) = ((a / b : ℝ) : EReal) := by
  rw [Ideal.div_coe h, ← EReal.coe_mul, mul_one_div]

/-! ## The literals -/

/-- The scale of the scores: the rational that the two programs' float word is. -/
def scale : ℝ := (Ideal.ofBits .f32 0x3DD105EC#32).toReal

theorem scale_word : Ideal.ofBits .f32 0x3DD105EC#32 = ((scale : ℝ) : EReal) := by
  have h : ∃ r : ℝ, Ideal.ofBits .f32 0x3DD105EC#32 = (r : EReal) := by
    simp only [Ideal.ofBits, Ideal.ieee]
    norm_num [-EReal.coe_mul]
    exact ⟨_, rfl⟩
  obtain ⟨r, hr⟩ := h
  unfold scale; rw [hr, EReal.toReal_coe]

theorem one_word : Ideal.ofBits .f32 0x3F800000#32 = ((1 : ℝ) : EReal) := by
  simp [Ideal.ofBits, Ideal.ieee, -EReal.coe_mul]
  norm_num

theorem zero_word : Ideal.ofBits .f32 0x00000000#32 = ((0 : ℝ) : EReal) := by
  simp [Ideal.ofBits, Ideal.ieee]

theorem bot_word : Ideal.ofBits .f32 0xFF800000#32 = ⊥ := by
  simp [Ideal.ofBits, Ideal.ieee]

theorem top_word : Ideal.ofBits .f32 0x7F800000#32 = ⊤ := by
  simp [Ideal.ofBits, Ideal.ieee]

/-! ## An array [token, head, channel] -/

/-- An array of the arguments: tokens by heads by `n` channels. -/
abbrev Arr (n : ℕ) : Type := (⟨3, ![4096, 16, n]⟩ : Shape).Idx → EReal

/-- The element of head `h`, token `i`, channel `d` as a real, zero outside the array. -/
def rd {n : ℕ} (x : Arr n) (h i d : ℕ) : ℝ :=
  if hb : i < 4096 ∧ h < 16 ∧ d < n then
    (x (fun a => match a with | ⟨0, _⟩ => ⟨i, hb.1⟩ | ⟨1, _⟩ => ⟨h, hb.2.1⟩ | ⟨2, _⟩ => ⟨d, hb.2.2⟩)).toReal
  else 0

/-- Every element is a real. -/
def Fin' {n : ℕ} (x : Arr n) : Prop := ∀ a, x a ≠ ⊤ ∧ x a ≠ ⊥

theorem rd_eq {n : ℕ} {x : Arr n} (hx : Fin' x) (a : (⟨3, ![4096, 16, n]⟩ : Shape).Idx) :
    x a = ((rd x (a 1).val (a 0).val (a 2).val : ℝ) : EReal) := by
  have hb : (a 0).val < 4096 ∧ (a 1).val < 16 ∧ (a 2).val < n := ⟨(a 0).isLt, (a 1).isLt, (a 2).isLt⟩
  unfold rd
  rw [dif_pos hb, EReal.coe_toReal (hx _).1 (hx _).2]
  refine congrArg x (funext fun b => ?_)
  match b with
  | ⟨0, _⟩ => rfl
  | ⟨1, _⟩ => rfl
  | ⟨2, _⟩ => rfl

/-- Past the last channel the element reads zero. -/
theorem rd_wide {n : ℕ} (x : Arr n) {h i d : ℕ} (hd : n ≤ d) : rd x h i d = 0 := by
  unfold rd; rw [dif_neg (by omega)]

/-! ## The chunk of a token, as the programs compute it in words -/

/-- The quotient by 64, rounded down, as both programs write it: the quotient rounded towards zero, less one where the
    signs differ and the remainder is not zero. -/
def chunk (x : BitVec 32) : BitVec 32 :=
  Scalar.select (IntOp.andi (IntOp.cmpi .ne (if x = 0 then 0 else if x.msb then -1 else 1) (1#32))
    (IntOp.cmpi .ne (x.srem 64#32) 0#32)) (IntOp.subi (x.sdiv 64#32) 1#32) (x.sdiv 64#32)

theorem chunk_eq : ∀ n : Fin 4096, chunk (BitVec.ofNat 32 n.val) = BitVec.ofNat 32 (n.val / 64) := by
  decide +kernel

/-- The sign as the kernel's body writes it. -/
theorem sign_words : ∀ n : Fin 4096,
    IntOp.subi ((IntOp.cmpi .sgt (BitVec.ofNat 32 n.val) 0#32).setWidth 32) ((IntOp.cmpi .slt (BitVec.ofNat 32 n.val) 0#32).setWidth 32)
      = if BitVec.ofNat 32 n.val = 0 then 0 else if (BitVec.ofNat 32 n.val).msb then -1 else 1 := by
  decide +kernel

theorem sdiv_word (u : ArithUnit) (x : BitVec 32) : IntOp.divsi u x 64#32 = x.sdiv 64#32 := by
  unfold IntOp.divsi; rw [if_neg (by rintro (h | h) <;> simp at h)]
theorem srem_word (u : ArithUnit) (x : BitVec 32) : IntOp.remsi u x 64#32 = x.srem 64#32 := by
  unfold IntOp.remsi; rw [if_neg (by rintro (h | h) <;> simp at h)]

/-- The comparison of two chunks. -/
theorem chunk_le (i j : ℕ) (hi : i < 4096) (hj : j < 4096) :
    (IntOp.cmpi .sle (BitVec.ofNat 32 (j / 64)) (BitVec.ofNat 32 (i / 64)) = 1#1) ↔ Attn.sees i j := by
  have key : ∀ a b : Fin 64, (IntOp.cmpi .sle (BitVec.ofNat 32 a.val) (BitVec.ofNat 32 b.val) = 1#1) ↔ a.val ≤ b.val := by
    decide +kernel
  exact key ⟨j / 64, by omega⟩ ⟨i / 64, by omega⟩

end Cert.Args

end
-- ==== Proof.Finite.lean ====
/- What the precondition says: every element of the four arguments is a real. -/
module

public import proofs.«01_k».proof.Proof.Args
public import proofs.«01_k».proof.Pre_finite

@[expose] public section

set_option maxRecDepth 16384

noncomputable section

namespace Cert.Finite

open Idealize.ShloMosaic Cert.Args Cert.Pre_finite Cert.Pre_finite.Facts

/-- Two bits whose conjunction is set are both set. -/
theorem both_set : ∀ a b : BitVec 1, IntOp.andi a b = 1#1 → a = 1#1 ∧ b = 1#1 := by decide

/-- A magnitude below infinity is that of a real. -/
theorem finite_of_below {x : EReal} (h : Ideal.cmp .olt (max x (-x)) ⊤ = 1#1) : x ≠ ⊤ ∧ x ≠ ⊥ := by
  constructor
  · rintro rfl
    revert h
    simp [Ideal.cmp]
  · rintro rfl
    revert h
    simp [Ideal.cmp]

variable [Cert.Pre_finite.Facts]

/-- The test that the precondition makes of one array. -/
def below (x : S4096x16x96.Idx → EReal) : IVec S4096x16x96 1 :=
  cmpf .olt (Host.absf (F := Ideal) (φ := .f32) x) (broadcastInDim S4096x16x96 ![] bcast_S_S4096x16x96 (constant (F := Ideal) S_ .f32 0x7F800000#32))

theorem below_at (x : S4096x16x96.Idx → EReal) (i : S4096x16x96.Idx) (h : below x i = 1#1) : x i ≠ ⊤ ∧ x i ≠ ⊥ := by
  refine finite_of_below ?_
  rw [← top_word]
  exact h

/-- An array of 64 channels padded to 96. -/
def wide (x : S4096x16x64.Idx → EReal) : S4096x16x96.Idx → EReal :=
  pad S4096x16x96 ![0, 0, 0] ![0, 0, 32] ![0, 0, 0] x (constant (F := Ideal) S_ .f32 0x00000000#32) pads_S4096x16x64_S4096x16x96_000_000_0320 h_S_

/-- An index of the narrow array among those of the wide one. -/
def among (i : S4096x16x64.Idx) : S4096x16x96.Idx := fun a => match a with
  | ⟨0, _⟩ => ⟨(i 0).val, (i 0).isLt⟩
  | ⟨1, _⟩ => ⟨(i 1).val, (i 1).isLt⟩
  | ⟨2, _⟩ => ⟨(i 2).val, Nat.lt_of_lt_of_le (i 2).isLt (show 64 ≤ 96 by omega)⟩

theorem wide_at (x : S4096x16x64.Idx → EReal) (i : S4096x16x64.Idx) : wide x (among i) = x i := by
  unfold wide pad
  rw [dif_pos]
  · refine congrArg x (funext fun a => Fin.ext ?_)
    match a with
    | ⟨0, _⟩ => show ((i 0).val - 0) / (0 + 1) = (i 0).val; simp
    | ⟨1, _⟩ => show ((i 1).val - 0) / (0 + 1) = (i 1).val; simp
    | ⟨2, _⟩ => show ((i 2).val - 0) / (0 + 1) = (i 2).val; simp
  · intro a
    match a with
    | ⟨0, _⟩ => exact ⟨Nat.zero_le _, Nat.mod_one _, by show ((i 0).val - 0) / (0 + 1) < 4096; have := (i 0).isLt; simpa using this⟩
    | ⟨1, _⟩ => exact ⟨Nat.zero_le _, Nat.mod_one _, by show ((i 1).val - 0) / (0 + 1) < 16; have := (i 1).isLt; simpa using this⟩
    | ⟨2, _⟩ => exact ⟨Nat.zero_le _, Nat.mod_one _, by show ((i 2).val - 0) / (0 + 1) < 64; have := (i 2).isLt; simpa using this⟩

/-- The precondition, element by element. -/
theorem tests (q k : S4096x16x96.Idx → EReal) (v g : S4096x16x64.Idx → EReal)
    (h : Cert.Pre_finite.fn (F := Ideal) q k v g = fun _ => 1#1) (i : S4096x16x96.Idx) :
    below q i = 1#1 ∧ below k i = 1#1 ∧ below (wide v) i = 1#1 ∧ below (wide g) i = 1#1 := by
  have h0 : IntOp.andi (IntOp.andi (IntOp.andi (below q i) (below k i)) (below (wide v) i)) (below (wide g) i) = 1#1 := congrFun h i
  obtain ⟨h1, hg⟩ := both_set _ _ h0
  obtain ⟨h2, hv⟩ := both_set _ _ h1
  obtain ⟨hq, hk⟩ := both_set _ _ h2
  exact ⟨hq, hk, hv, hg⟩

theorem reals (q k : S4096x16x96.Idx → EReal) (v g : S4096x16x64.Idx → EReal)
    (h : Cert.Pre_finite.fn (F := Ideal) q k v g = fun _ => 1#1) : Fin' (n := 96) q ∧ Fin' (n := 96) k ∧ Fin' (n := 64) v ∧ Fin' (n := 64) g :=
  ⟨fun i => below_at q i (tests q k v g h i).1, fun i => below_at k i (tests q k v g h i).2.1,
    fun i => by have := below_at _ _ (tests q k v g h (among i)).2.2.1; rwa [wide_at v i] at this,
    fun i => by have := below_at _ _ (tests q k v g h (among i)).2.2.2; rwa [wide_at g i] at this⟩

end Cert.Finite

end
-- ==== Proof.HostRead.lean ====
/- What the host lines before the call leave in the arrays that the call reads: the terms of their operations. -/
module

public import proofs.«01_k».proof.Proof.Gen.KernelIdeal.Frame
public import proofs.«01_k».proof.Proof.Gen.ReferenceIdeal.Read
public import Idealize.ShloMosaic.Lib.StableHlo.RunRead

@[expose] public section

set_option maxRecDepth 16384

noncomputable section

namespace Cert.KernelIdeal.Host

open Cert.KernelIdeal Cert.KernelIdeal.Gen Idealize.ShloMosaic Idealize.ShloMosaic.TcCoe Idealize.SL.Sem

variable (m : (ℓ : Loc nD τ sig) → Buf (Elt Ideal) ℓ) (c : Dev nD)

/-- The four arguments. -/
abbrev argQ : (⟨S4096x16x96, .f32⟩ : BufTy).Contents (Elt Ideal) := m ((c : Thread nD τ).loc main_arg0)
abbrev argK : (⟨S4096x16x96, .f32⟩ : BufTy).Contents (Elt Ideal) := m ((c : Thread nD τ).loc main_arg1)
abbrev argV : (⟨S4096x16x64, .f32⟩ : BufTy).Contents (Elt Ideal) := m ((c : Thread nD τ).loc main_arg2)
abbrev argG : (⟨S4096x16x64, .f32⟩ : BufTy).Contents (Elt Ideal) := m ((c : Thread nD τ).loc main_arg3)

/-- Heads first, the lanes padded to 128. -/
def lanes (x : (⟨S4096x16x96, .f32⟩ : BufTy).Contents (Elt Ideal)) : (⟨S16x4096x128, .bf16⟩ : BufTy).Contents (Elt Ideal) :=
  truncf .bf16 (pad S16x4096x128 ![0, 0, 0] ![0, 0, 32] ![0, 0, 0]
    (transpose S16x4096x96 [1, 0, 2] x transposes_S4096x16x96_S16x4096x96_1_0_2)
    (sitofp (F := Ideal) .f32 (constantI S_ 32 0#32)) pads_S16x4096x96_S16x4096x128_000_000_0320 h_S_) bitsLt_bf16_f32

/-- Heads first. -/
def heads (x : (⟨S4096x16x64, .f32⟩ : BufTy).Contents (Elt Ideal)) : (⟨S16x4096x64, .bf16⟩ : BufTy).Contents (Elt Ideal) :=
  truncf .bf16 (transpose S16x4096x64 [1, 0, 2] x transposes_S4096x16x64_S16x4096x64_1_0_2 : FVec Ideal S16x4096x64 .f32) bitsLt_bf16_f32

theorem V_q : V m c main_v26 = lanes (argQ m c) := by
  after_reads_simp
  rfl
theorem V_k : V m c main_v29 = lanes (argK m c) := by
  after_reads_simp
  rfl
theorem V_v : V m c main_v31 = heads (argV m c) := by
  after_reads_simp
  rfl
theorem V_do : V m c main_v33 = heads (argG m c) := by
  after_reads_simp
  rfl

/-! ## What the forward pass saved -/

open Cert.ReferenceIdeal.Read (val_main_v10_0 val_main_v11)

/-- The weights, from the masked scores and their greatest element. -/
def weights (s : FVec Ideal S16x4096x4096 .f32) (mx : FVec Ideal S16x4096 .f32) : FVec Ideal S16x4096x4096 .f32 :=
  Host.exp (subf s (broadcastInDim S16x4096x4096 ![0, 1, 2] bcast_S16x4096x1_S16x4096x4096_0_1_2
    (broadcastInDim S16x4096x1 ![0, 1] bcast_S16x4096_S16x4096x1_0_1 mx)))

/-- The sums of the weights. -/
def sums (w : FVec Ideal S16x4096x4096 .f32) : FVec Ideal S16x4096x1 .f32 :=
  broadcastInDim S16x4096x1 ![0, 1] bcast_S16x4096_S16x4096x1_0_1
    (Host.reduceAdd w (constant (F := Ideal) S_ .f32 0x00000000#32) reducesTo_S16x4096x4096_S16x4096_d2 h_S_)

theorem V_lse : V m c main_v23
    = (addf (broadcastInDim S16x4096x1 ![0, 1] bcast_S16x4096_S16x4096x1_0_1 (val_main_v11 (F := Ideal) (argQ m c) (argK m c)))
        (Host.log (sums (weights (val_main_v10_0 (F := Ideal) (argQ m c) (argK m c)) (val_main_v11 (F := Ideal) (argQ m c) (argK m c)))))
        : FVec Ideal S16x4096x1 .f32) := by
  after_reads_simp
  rfl

theorem V_out : V m c main_v21
    = (truncf .bf16 (Host.dotGeneral (F := Ideal) (φ₂ := .f32) dot_S16x4096x4096_S4096x16x64_S16x4096x64_2_0_1_2_0_1 none
        (Host.divf (weights (val_main_v10_0 (F := Ideal) (argQ m c) (argK m c)) (val_main_v11 (F := Ideal) (argQ m c) (argK m c)))
          (broadcastInDim S16x4096x4096 ![0, 1, 2] bcast_S16x4096x1_S16x4096x4096_0_1_2
            (sums (weights (val_main_v10_0 (F := Ideal) (argQ m c) (argK m c)) (val_main_v11 (F := Ideal) (argQ m c) (argK m c))))))
        (argV m c : FVec Ideal S4096x16x64 .f32) : FVec Ideal S16x4096x64 .f32) bitsLt_bf16_f32 : FVec Ideal S16x4096x64 .bf16) := by
  after_reads_simp
  rfl

end Cert.KernelIdeal.Host

end
-- ==== Proof.RefValue.lean ====
/- What the reference computes on finite arguments: each array of its softmax and of the gradients, at an index, as the
   real number of Spec. -/
module

public import proofs.«01_k».proof.Proof.Gen.ReferenceIdeal.Read
public import proofs.«01_k».proof.Proof.Args

@[expose] public section

noncomputable section

namespace Cert.RefValue

open Cert.ReferenceIdeal Cert.ReferenceIdeal.Gen Cert.ReferenceIdeal.Read Cert.Args Cert.Attn Idealize.ShloMosaic

/-! ## The mask -/

theorem sign64 (i : S_.Idx) : val_main_call0_v4 (F := Ideal) i = 1#32 := by
  have h : val_main_call0_v0 (F := Ideal) i = 64#32 := by rw [val_main_call0_v0_apply, val_main_c_apply]
  unfold val_main_call0_v4 signi; rw [h]; decide

theorem v4_eq (i : S4096.Idx) : val_main_v4 (F := Ideal) i = BitVec.ofNat 32 ((i 0).val / 64) := by
  rw [← chunk_eq (i 0)]
  have h3 : val_main_call0_v3 (F := Ideal) i
      = if BitVec.ofNat 32 (i 0).val = 0 then 0 else if (BitVec.ofNat 32 (i 0).val).msb then -1 else 1 := rfl
  rw [val_main_v4_apply, val_main_call0_v11_apply, val_main_call0_v13_apply, val_main_call0_v6_apply,
    val_main_call0_v10_apply, val_main_call0_v8_apply, val_main_call0_v2_apply, val_main_call0_v1_apply,
    val_main_call0_v7_apply, val_main_call0_v9_apply, val_main_call0_v12_apply, val_main_call0_v5_apply, sign64,
    val_main_call0_v0_apply, val_main_c_apply, val_main_call0_c_apply,
    val_main_call0_c_0_apply, val_main_v3_apply, sdiv_word, srem_word, h3]
  rfl

theorem mask_eq (i : S16x4096x4096.Idx) : val_main_v10_1 (F := Ideal) i = 1 ↔ sees (i 1).val (i 2).val := by
  rw [val_main_v10_1_apply, val_main_v9_apply, val_main_v7_apply, val_main_v8_apply, val_main_v5_apply,
    val_main_v6_apply, v4_eq, v4_eq]
  exact chunk_le (i 1).val (i 2).val (i 1).isLt (i 2).isLt

/-! ## The softmax -/

variable {q k : Arr 96} {v g : Arr 64} (hq : Fin' q) (hk : Fin' k) (hv : Fin' v) (hg : Fin' g)
include hq hk

theorem v2_eq (i : S16x4096x4096.Idx) : val_main_v2 (F := Ideal) q k i
    = ((score (rd q (i 0).val) (rd k (i 0).val) scale (i 1).val (i 2).val : ℝ) : EReal) := by
  rw [val_main_v2_apply, val_main_v0_apply, val_main_v1_apply, val_main_cst_apply, Ideal.ofBits_def, scale_word,
    Ideal.mulf_def]
  rw [sum_coe (fun d => rd q (i 0).val (i 1).val d * rd k (i 0).val (i 2).val d)
    (fun d => by rw [rd_eq hq, rd_eq hk, ← EReal.coe_mul]), ← EReal.coe_mul]
  rfl

/-- A score where the query sees the key, the least element elsewhere. -/
theorem v10_eq (i : S16x4096x4096.Idx) : val_main_v10_0 (F := Ideal) q k i
    = if sees (i 1).val (i 2).val then ((score (rd q (i 0).val) (rd k (i 0).val) scale (i 1).val (i 2).val : ℝ) : EReal)
      else ⊥ := by
  rw [val_main_v10_0_apply, v2_eq hq hk, val_main_call1_v2_apply, val_main_call1_v0_apply, val_main_cst_0_apply,
    Ideal.ofBits_def, bot_word]
  unfold Scalar.select
  by_cases h : sees (i 1).val (i 2).val
  · rw [if_pos ((mask_eq i).mpr h), if_pos h]
  · rw [if_neg (fun hh => h ((mask_eq i).mp hh)), if_neg h]

omit hq hk in
/-- The greatest element of a row as a fold of `max`. -/
theorem max_fold (x : FVec Ideal S16x4096x4096 .f32) (hr : S16x4096x4096.Reduces [2] S16x4096) (i : S16x4096.Idx) :
    Host.reduce FloatOps.maximumf x (constant S_ .f32 0xFF800000#32) reducesTo_S16x4096x4096_S16x4096_d2 h_S_ i
      = (Finset.univ : Finset (Fin (S16x4096x4096.size 2))).fold max (⊥ : EReal) (x ∘ hr.lift i) := by
  refine (congrFun (hostReduce_maximumf_eq_multiReduction x 0xFF800000#32 reducesTo_S16x4096x4096_S16x4096_d2 h_S_ hr
    (.inl rfl) rfl) i).trans ((Ideal.multiReduction_maximumf_single x _ hr _ _ i).trans ?_)
  rw [Ideal.ofBits_def, bot_word]

/-- The greatest score of a query is a real: key 0 is always seen. -/
theorem max_real (i : S16x4096.Idx) : ∃ μ : ℝ, val_main_v11 (F := Ideal) q k i = (μ : EReal) := by
  have hr : S16x4096x4096.Reduces [2] S16x4096 := by decide
  have e : val_main_v11 (F := Ideal) q k i
      = (Finset.univ : Finset (Fin 4096)).fold max (⊥ : EReal) (val_main_v10_0 (F := Ideal) q k ∘ hr.lift i) := by
    exact max_fold (val_main_v10_0 (F := Ideal) q k) hr i
  rw [e]
  refine real_of_finite (ne_of_lt ?_) (ne_of_gt ?_)
  · refine (Finset.fold_max_lt _).mpr ⟨bot_lt_top, fun x _ => ?_⟩
    show val_main_v10_0 (F := Ideal) q k (hr.lift i x) < ⊤
    rw [v10_eq hq hk]
    split
    · exact EReal.coe_lt_top _
    · exact bot_lt_top
  · refine (Finset.lt_fold_max _).mpr (.inr ⟨⟨0, by decide⟩, Finset.mem_univ _, ?_⟩)
    show ⊥ < val_main_v10_0 (F := Ideal) q k (hr.lift i _)
    rw [v10_eq hq hk, if_pos]
    · exact EReal.bot_lt_coe _
    · show (0 : ℕ) / 64 ≤ _; simp

/-- The shift of a query's scores: the greatest of them. -/
def shift (q k : Arr 96) (h i : ℕ) : ℝ :=
  if hb : h < 16 ∧ i < 4096 then
    (val_main_v11 (F := Ideal) q k (fun a => match a with | ⟨0, _⟩ => ⟨h, hb.1⟩ | ⟨1, _⟩ => ⟨i, hb.2⟩)).toReal
  else 0

theorem v11_eq (i : S16x4096.Idx) : val_main_v11 (F := Ideal) q k i = ((shift q k (i 0).val (i 1).val : ℝ) : EReal) := by
  have hb : (i 0).val < 16 ∧ (i 1).val < 4096 := ⟨(i 0).isLt, (i 1).isLt⟩
  have hi : i = (fun a => match a with | ⟨0, _⟩ => ⟨(i 0).val, hb.1⟩ | ⟨1, _⟩ => ⟨(i 1).val, hb.2⟩ : S16x4096.Idx) := by
    funext a; match a with | ⟨0, _⟩ => rfl | ⟨1, _⟩ => rfl
  obtain ⟨μ, hμ⟩ := max_real hq hk i
  have e : shift q k (i 0).val (i 1).val = (val_main_v11 (F := Ideal) q k i).toReal := by
    unfold shift; rw [dif_pos hb]; exact congrArg (fun j => (val_main_v11 (F := Ideal) q k j).toReal) hi.symm
  rw [e, hμ, EReal.toReal_coe]

theorem v29_eq (i : S16x4096x4096.Idx) : val_main_v29 (F := Ideal) q k i = ((shift q k (i 0).val (i 1).val : ℝ) : EReal) := by
  rw [val_main_v29_apply, val_main_v28_apply, val_main_v18_apply, val_main_v17_apply, val_main_cst_3_apply,
    Ideal.ofBits_def, bot_word, v11_eq hq hk, Ideal.maximumf_def, max_eq_right bot_le]

/-- The weights. -/
theorem v31_eq (i : S16x4096x4096.Idx) : val_main_v31 (F := Ideal) q k i
    = ((wt (rd q (i 0).val) (rd k (i 0).val) scale (shift q k (i 0).val (i 1).val) (i 1).val (i 2).val : ℝ) : EReal) := by
  rw [val_main_v31_apply, val_main_v30_apply, v29_eq hq hk, v10_eq hq hk, Ideal.hostUnary_exp_def, Ideal.subf_def]
  unfold wt
  split
  · rw [← EReal.coe_sub, Ideal.exp_coe]
  · rw [EReal.bot_sub, Ideal.exp_bot, EReal.coe_zero]

theorem v32_eq (i : S16x4096.Idx) : val_main_v32 (F := Ideal) q k i
    = ((tot (rd q (i 0).val) (rd k (i 0).val) scale (shift q k (i 0).val (i 1).val) (i 1).val : ℝ) : EReal) := by
  rw [val_main_v32_apply, val_main_cst_9_apply, Ideal.ofBits_def, zero_word, EReal.coe_zero, zero_add]
  exact sum_coe _ fun j => v31_eq hq hk _

theorem v33_eq (i : S16x4096x1.Idx) : val_main_v33 (F := Ideal) q k i
    = ((tot (rd q (i 0).val) (rd k (i 0).val) scale (shift q k (i 0).val (i 1).val) (i 1).val : ℝ) : EReal) := by
  rw [val_main_v33_apply]; exact v32_eq hq hk _

/-- The probabilities. -/
theorem v35_eq (i : S16x4096x4096.Idx) : val_main_v35 (F := Ideal) q k i
    = ((prob (rd q (i 0).val) (rd k (i 0).val) scale (i 1).val (i 2).val : ℝ) : EReal) := by
  rw [val_main_v35_apply, val_main_v34_apply, v33_eq hq hk, v31_eq hq hk, Ideal.hostDivf_def]
  refine (div_reals _ (tot_pos _ _).ne').trans ?_
  exact congrArg _ (prob_eq _ _ _)

/-! ## The gradients -/

include hg in
/-- The gradient of v. -/
theorem v68_eq (i : S16x4096x64.Idx) : val_main_v68 (F := Ideal) q k g i
    = ((dv (rd q (i 0).val) (rd k (i 0).val) (rd g (i 0).val) scale (i 1).val (i 2).val : ℝ) : EReal) := by
  rw [val_main_v68_apply, val_main_v44_apply, val_main_v43_apply]
  refine sum_coe _ fun j => ?_
  rw [val_main_v41_apply, v35_eq hq hk, rd_eq hg, ← EReal.coe_mul, mul_comm]

include hv hg in
omit hq hk in
theorem v42_eq (i : S16x4096x4096.Idx) : val_main_v42 (F := Ideal) v g i
    = ((dprob (rd v (i 0).val) (rd g (i 0).val) (i 1).val (i 2).val : ℝ) : EReal) := by
  rw [val_main_v42_apply]
  refine sum_coe _ fun d => ?_
  rw [val_main_v41_apply, rd_eq hg, rd_eq hv, ← EReal.coe_mul]

theorem v38_eq (i : S16x4096x1.Idx) : val_main_v38 (F := Ideal) q k i
    = ((1 / (tot (rd q (i 0).val) (rd k (i 0).val) scale (shift q k (i 0).val (i 1).val) (i 1).val
        * tot (rd q (i 0).val) (rd k (i 0).val) scale (shift q k (i 0).val (i 1).val) (i 1).val) : ℝ) : EReal) := by
  rw [val_main_v38_apply, val_main_v37_apply, val_main_cst_10_apply, val_main_v36_apply, v33_eq hq hk, Ideal.ofBits_def,
    one_word, Ideal.mulf_def, ← EReal.coe_mul, Ideal.hostDivf_def]
  exact div_reals _ (mul_pos (tot_pos _ _) (tot_pos _ _)).ne'

include hv hg

theorem v50_eq (i : S16x4096x1.Idx) : val_main_v50 (F := Ideal) q k v g i
    = ((-(∑ j ∈ Finset.range 4096, dprob (rd v (i 0).val) (rd g (i 0).val) (i 1).val j
        * (1 / (tot (rd q (i 0).val) (rd k (i 0).val) scale (shift q k (i 0).val (i 1).val) (i 1).val
          * tot (rd q (i 0).val) (rd k (i 0).val) scale (shift q k (i 0).val (i 1).val) (i 1).val))
        * wt (rd q (i 0).val) (rd k (i 0).val) scale (shift q k (i 0).val (i 1).val) (i 1).val j) : ℝ) : EReal) := by
  have h0 : (i 0).val < 16 := (i 0).isLt
  have h1 : (i 1).val < 4096 := (i 1).isLt
  have h2 : (i 2).val < 1 := (i 2).isLt
  have e0 : ((idx_main_v49 i) 0).val = (i 0).val := by
    show (((i 0).val * 4096 + (i 1).val) * 1 + (i 2).val) / 4096 = _; omega
  have e1 : ((idx_main_v49 i) 1).val = (i 1).val := by
    show (((i 0).val * 4096 + (i 1).val) * 1 + (i 2).val) % 4096 = _; omega
  rw [val_main_v50_apply, val_main_v49_apply, val_main_v48_apply, val_main_cst_11_apply, Ideal.ofBits_def, zero_word,
    EReal.coe_zero, zero_add, Ideal.hostNegf_def, ← e0, ← e1, EReal.coe_neg]
  refine congrArg (fun x : EReal => -x) (sum_coe _ fun j => ?_)
  rw [val_main_v47_apply, val_main_v46_apply, val_main_v45_apply, v42_eq hv hg, v38_eq hq hk, v31_eq hq hk,
    Ideal.mulf_def, Ideal.mulf_def, ← EReal.coe_mul, ← EReal.coe_mul]

theorem v56_eq (i : S16x4096x4096.Idx) : val_main_v56 (F := Ideal) q k v g i
    = ((prob (rd q (i 0).val) (rd k (i 0).val) scale (i 1).val (i 2).val
        * (dprob (rd v (i 0).val) (rd g (i 0).val) (i 1).val (i 2).val
          - dot (rd q (i 0).val) (rd k (i 0).val) (rd v (i 0).val) (rd g (i 0).val) scale (i 1).val) : ℝ) : EReal) := by
  rw [val_main_v56_apply, val_main_v55_apply, val_main_v52_apply, val_main_v54_apply, val_main_v53_apply,
    val_main_v51_apply, v33_eq hq hk, v42_eq hv hg, v31_eq hq hk, val_main_cst_12_apply, Ideal.ofBits_def, zero_word,
    EReal.coe_zero, zero_add, Fin.sum_univ_one, v50_eq hq hk hv hg, Ideal.hostDivf_def, Ideal.addf_def, Ideal.mulf_def]
  rw [div_reals _ (tot_pos _ _).ne', ← EReal.coe_add, ← EReal.coe_mul]
  exact congrArg _ (quotient_form _ _ _)

/-- The gradients of the scores. -/
theorem v59_eq (i : S16x4096x4096.Idx) : val_main_v59 (F := Ideal) q k v g i
    = ((dscore (rd q (i 0).val) (rd k (i 0).val) (rd v (i 0).val) (rd g (i 0).val) scale (i 1).val (i 2).val : ℝ) : EReal) := by
  have h57 : val_main_v57 (F := Ideal) q k v g i
      = ((prob (rd q (i 0).val) (rd k (i 0).val) scale (i 1).val (i 2).val
        * (dprob (rd v (i 0).val) (rd g (i 0).val) (i 1).val (i 2).val
          - dot (rd q (i 0).val) (rd k (i 0).val) (rd v (i 0).val) (rd g (i 0).val) scale (i 1).val) : ℝ) : EReal) := by
    rw [val_main_v57_apply]; unfold Scalar.select
    by_cases h : sees (i 1).val (i 2).val
    · rw [if_pos ((mask_eq i).mpr h), v56_eq hq hk hv hg]
    · rw [if_neg (fun hh => h ((mask_eq i).mp hh)), val_main_call2_v0_apply, val_main_call2_cst_apply, Ideal.ofBits_def,
        zero_word, prob_unseen h, zero_mul]
  rw [val_main_v59_apply, h57, val_main_v58_apply, val_main_cst_13_apply, Ideal.ofBits_def, scale_word, Ideal.mulf_def,
    ← EReal.coe_mul]
  rfl

theorem v66_eq (i : S16x4096x96.Idx) : val_main_v66 (F := Ideal) q k v g i
    = ((dk (rd q (i 0).val) (rd k (i 0).val) (rd v (i 0).val) (rd g (i 0).val) scale (i 1).val (i 2).val : ℝ) : EReal) := by
  rw [val_main_v66_apply, val_main_v61_apply, val_main_v60_apply]
  refine sum_coe _ fun j => ?_
  rw [v59_eq hq hk hv hg, rd_eq hq, ← EReal.coe_mul]

theorem v64_eq (i : S16x4096x96.Idx) : val_main_v64 (F := Ideal) q k v g i
    = ((dq (rd q (i 0).val) (rd k (i 0).val) (rd v (i 0).val) (rd g (i 0).val) scale (i 1).val (i 2).val : ℝ) : EReal) := by
  rw [val_main_v64_apply, val_main_v63_apply, val_main_v62_apply]
  refine sum_coe _ fun j => ?_
  rw [v59_eq hq hk hv hg, rd_eq hk, ← EReal.coe_mul]

end Cert.RefValue

end
-- ==== Proof.HostValue.lean ====
/- The arrays that the call reads, on finite arguments, as real numbers: the four arguments laid out by heads, and the
   output and the logarithm of the sums that the forward pass saved. -/
module

public import proofs.«01_k».proof.Proof.HostRead
public import proofs.«01_k».proof.Proof.RefValue
public import Idealize.ShloMosaic.Lib.Pointwise.Contract

@[expose] public section

set_option maxRecDepth 16384

noncomputable section

namespace Cert.KernelIdeal.Host

open Cert.KernelIdeal Cert.KernelIdeal.Gen Idealize.ShloMosaic Idealize.ShloMosaic.TcCoe Idealize.SL.Sem Cert.Args Cert.Attn Cert.RefValue
open Cert.ReferenceIdeal.Read (val_main_v10_0 val_main_v11)

/-- Padding with zeros an array of reals whose lanes past 96 are zero changes nothing. -/
theorem pad_real (x : S16x4096x96.Idx → EReal) (z : S_.Idx → EReal) (hz : ∀ i, z i = 0)
    (hp : S16x4096x96.Pads (![0, 0, 0] : Fin 3 → ℕ) ![0, 0, 32] ![0, 0, 0] S16x4096x128) (hu : 0 < S_.numel)
    (f : ℕ → ℕ → ℕ → ℝ) (hx : ∀ i, x i = ((f (i 0).val (i 1).val (i 2).val : ℝ) : EReal))
    (h0 : ∀ h i d, 96 ≤ d → f h i d = 0) (i : S16x4096x128.Idx) :
    pad S16x4096x128 ![0, 0, 0] ![0, 0, 32] ![0, 0, 0] x z hp hu i = ((f (i 0).val (i 1).val (i 2).val : ℝ) : EReal) := by
  unfold pad
  split
  · rename_i hin
    rw [hx]
    show ((f (((i 0).val - 0) / (0 + 1)) (((i 1).val - 0) / (0 + 1)) (((i 2).val - 0) / (0 + 1)) : ℝ) : EReal) = _
    simp only [Nat.sub_zero, Nat.zero_add, Nat.div_one]
  · rename_i hin
    rw [hz, h0, EReal.coe_zero]
    by_contra hd
    have hd : (i 2).val < 96 := by omega
    refine hin fun a => ?_
    match a with
    | ⟨0, _⟩ => exact ⟨Nat.zero_le _, Nat.mod_one _, by show ((i 0).val - 0) / (0 + 1) < 16; have := (i 0).isLt; simpa using this⟩
    | ⟨1, _⟩ => exact ⟨Nat.zero_le _, Nat.mod_one _, by show ((i 1).val - 0) / (0 + 1) < 4096; have := (i 1).isLt; simpa using this⟩
    | ⟨2, _⟩ => exact ⟨Nat.zero_le _, Nat.mod_one _, by show ((i 2).val - 0) / (0 + 1) < 96; simpa using hd⟩

theorem zero_converted (i : S_.Idx) : sitofp (F := Ideal) .f32 (constantI S_ 32 0#32) i = 0 := sitofp_zero

theorem lanes_eq {x : Arr 96} (hx : Fin' x) (i : S16x4096x128.Idx) :
    lanes x i = ((rd x (i 0).val (i 1).val (i 2).val : ℝ) : EReal) := by
  refine pad_real (transpose S16x4096x96 [1, 0, 2] x transposes_S4096x16x96_S16x4096x96_1_0_2) _ zero_converted
    pads_S16x4096x96_S16x4096x128_000_000_0320 h_S_ (rd x) (fun i => ?_) (fun h i d hd => rd_wide x hd) i
  refine (transpose_apply [1, 0, 2] x transposes_S4096x16x96_S16x4096x96_1_0_2 i
    (fun a => match a with | ⟨0, _⟩ => ⟨(i 1).val, (i 1).isLt⟩ | ⟨1, _⟩ => ⟨(i 0).val, (i 0).isLt⟩ | ⟨2, _⟩ => ⟨(i 2).val, (i 2).isLt⟩)
    (fun b => match b with | ⟨0, _⟩ => rfl | ⟨1, _⟩ => rfl | ⟨2, _⟩ => rfl)).trans (rd_eq hx _)

theorem heads_eq {x : Arr 64} (hx : Fin' x) (i : S16x4096x64.Idx) :
    heads x i = ((rd x (i 0).val (i 1).val (i 2).val : ℝ) : EReal) := by
  unfold heads
  refine (transpose_apply [1, 0, 2] x transposes_S4096x16x64_S16x4096x64_1_0_2 i
    (fun a => match a with | ⟨0, _⟩ => ⟨(i 1).val, (i 1).isLt⟩ | ⟨1, _⟩ => ⟨(i 0).val, (i 0).isLt⟩ | ⟨2, _⟩ => ⟨(i 2).val, (i 2).isLt⟩)
    (fun b => match b with | ⟨0, _⟩ => rfl | ⟨1, _⟩ => rfl | ⟨2, _⟩ => rfl)).trans (rd_eq hx _)

/-! ## What the forward pass saved -/

variable {q k : Arr 96} {v : Arr 64} (hq : Fin' q) (hk : Fin' k) (hv : Fin' v)
include hq hk

/-- A row's number laid along the row. -/
theorem column_eq (x : FVec Ideal S16x4096 .f32) (i : S16x4096x1.Idx) :
    broadcastInDim S16x4096x1 ![0, 1] bcast_S16x4096_S16x4096x1_0_1 x i
      = x (fun a => match a with | ⟨0, _⟩ => ⟨(i 0).val, (i 0).isLt⟩ | ⟨1, _⟩ => ⟨(i 1).val, (i 1).isLt⟩) :=
  broadcastInDim_apply _ bcast_S16x4096_S16x4096x1_0_1 x i _ (fun a => match a with
    | ⟨0, _⟩ => by show (i 0).val = if (16 : Nat) = 1 then 0 else (i 0).val; rw [if_neg (by decide)]
    | ⟨1, _⟩ => by show (i 1).val = if (4096 : Nat) = 1 then 0 else (i 1).val; rw [if_neg (by decide)])

omit hq hk in
theorem rows_eq (x : FVec Ideal S16x4096x1 .f32) (i : S16x4096x4096.Idx) :
    broadcastInDim S16x4096x4096 ![0, 1, 2] bcast_S16x4096x1_S16x4096x4096_0_1_2 x i
      = x (fun a => match a with | ⟨0, _⟩ => ⟨(i 0).val, (i 0).isLt⟩ | ⟨1, _⟩ => ⟨(i 1).val, (i 1).isLt⟩ | ⟨2, _⟩ => ⟨0, Nat.one_pos⟩) :=
  broadcastInDim_apply _ bcast_S16x4096x1_S16x4096x4096_0_1_2 x i _ (fun a => match a with
    | ⟨0, _⟩ => by show (i 0).val = if (16 : Nat) = 1 then 0 else (i 0).val; rw [if_neg (by decide)]
    | ⟨1, _⟩ => by show (i 1).val = if (4096 : Nat) = 1 then 0 else (i 1).val; rw [if_neg (by decide)]
    | ⟨2, _⟩ => by show 0 = if (1 : Nat) = 1 then 0 else (i 2).val; rw [if_pos rfl])

omit hq hk in
theorem exp_sub_at (a b : FVec Ideal S16x4096x4096 .f32) (i : S16x4096x4096.Idx) :
    (Host.exp (subf a b) : FVec Ideal S16x4096x4096 .f32) i = Ideal.exp (a i - b i) := rfl

omit hq hk in
theorem add_log_at (a b : FVec Ideal S16x4096x1 .f32) (i : S16x4096x1.Idx) :
    (addf a (Host.log b) : FVec Ideal S16x4096x1 .f32) i = a i + Ideal.log (b i) := rfl

omit hq hk in
theorem div_at (a b : FVec Ideal S16x4096x4096 .f32) (i : S16x4096x4096.Idx) :
    (Host.divf a b : FVec Ideal S16x4096x4096 .f32) i = Ideal.div (a i) (b i) := rfl

omit hq hk in
theorem narrowed_at (a : FVec Ideal S16x4096x64 .f32) (i : S16x4096x64.Idx) :
    (truncf .bf16 a bitsLt_bf16_f32 : FVec Ideal S16x4096x64 .bf16) i = a i := rfl

theorem weights_eq (i : S16x4096x4096.Idx) : weights (val_main_v10_0 (F := Ideal) q k) (val_main_v11 (F := Ideal) q k) i
    = ((wt (rd q (i 0).val) (rd k (i 0).val) scale (shift q k (i 0).val (i 1).val) (i 1).val (i 2).val : ℝ) : EReal) := by
  unfold weights
  rw [exp_sub_at, rows_eq, column_eq hq hk, v11_eq hq hk, v10_eq hq hk]
  unfold wt
  split
  · rw [← EReal.coe_sub, Ideal.exp_coe]
  · rw [EReal.bot_sub, Ideal.exp_bot, EReal.coe_zero]

theorem sums_eq (i : S16x4096x1.Idx) : sums (weights (val_main_v10_0 (F := Ideal) q k) (val_main_v11 (F := Ideal) q k)) i
    = ((tot (rd q (i 0).val) (rd k (i 0).val) scale (shift q k (i 0).val (i 1).val) (i 1).val : ℝ) : EReal) := by
  unfold sums
  rw [column_eq hq hk]
  simp only [Host.reduceAdd, Ideal.hostReduceAdd_def]
  rw [Ideal.hostReduceAdd_single reducesTo_S16x4096x4096_S16x4096_d2 (by decide)]
  refine (congrArg₂ (· + ·) zero_word (sum_coe (wt (rd q (i 0).val) (rd k (i 0).val) scale (shift q k (i 0).val (i 1).val) (i 1).val) fun j => weights_eq hq hk _)).trans ?_
  rw [EReal.coe_zero, zero_add]
  rfl

/-- The saved logarithm of the sums. -/
theorem lse_eq (i : S16x4096x1.Idx) :
    (addf (broadcastInDim S16x4096x1 ![0, 1] bcast_S16x4096_S16x4096x1_0_1 (val_main_v11 (F := Ideal) q k))
        (Host.log (sums (weights (val_main_v10_0 (F := Ideal) q k) (val_main_v11 (F := Ideal) q k)))) : FVec Ideal S16x4096x1 .f32) i
    = ((shift q k (i 0).val (i 1).val + Real.log (tot (rd q (i 0).val) (rd k (i 0).val) scale (shift q k (i 0).val (i 1).val) (i 1).val) : ℝ) : EReal) := by
  rw [add_log_at, column_eq hq hk, sums_eq hq hk, v11_eq hq hk, Ideal.log_coe, if_neg (not_le.mpr (tot_pos _ _)), ← EReal.coe_add]

include hv in
/-- The saved output. -/
theorem out_eq (i : S16x4096x64.Idx) :
    (truncf .bf16 (Host.dotGeneral (F := Ideal) (φ₂ := .f32) dot_S16x4096x4096_S4096x16x64_S16x4096x64_2_0_1_2_0_1 none
        (Host.divf (weights (val_main_v10_0 (F := Ideal) q k) (val_main_v11 (F := Ideal) q k))
          (broadcastInDim S16x4096x4096 ![0, 1, 2] bcast_S16x4096x1_S16x4096x4096_0_1_2
            (sums (weights (val_main_v10_0 (F := Ideal) q k) (val_main_v11 (F := Ideal) q k)))))
        (v : FVec Ideal S4096x16x64 .f32) : FVec Ideal S16x4096x64 .f32) bitsLt_bf16_f32 : FVec Ideal S16x4096x64 .bf16) i
    = ((out (rd q (i 0).val) (rd k (i 0).val) (rd v (i 0).val) scale (i 1).val (i 2).val : ℝ) : EReal) := by
  have hp : ∀ j : S16x4096x4096.Idx, Host.divf (weights (val_main_v10_0 (F := Ideal) q k) (val_main_v11 (F := Ideal) q k))
          (broadcastInDim S16x4096x4096 ![0, 1, 2] bcast_S16x4096x1_S16x4096x4096_0_1_2
            (sums (weights (val_main_v10_0 (F := Ideal) q k) (val_main_v11 (F := Ideal) q k)))) j
      = ((prob (rd q (j 0).val) (rd k (j 0).val) scale (j 1).val (j 2).val : ℝ) : EReal) := fun j => by
    rw [div_at, rows_eq, sums_eq hq hk, weights_eq hq hk]
    refine (div_reals _ (tot_pos _ _).ne').trans ?_
    exact congrArg _ (prob_eq _ _ _)
  generalize Host.divf (weights (val_main_v10_0 (F := Ideal) q k) (val_main_v11 (F := Ideal) q k))
          (broadcastInDim S16x4096x4096 ![0, 1, 2] bcast_S16x4096x1_S16x4096x4096_0_1_2
            (sums (weights (val_main_v10_0 (F := Ideal) q k) (val_main_v11 (F := Ideal) q k)))) = P at hp
  rw [narrowed_at]
  simp only [pointwise]
  rw [zero_add]
  refine sum_coe _ fun j => ?_
  rw [hp, rd_eq hv, ← EReal.coe_mul]
  rfl

end Cert.KernelIdeal.Host

end
-- ==== Proof.RefEnd.lean ====
/- The three results of the reference, over the reals and widened to 128 lanes. -/
module

public import proofs.«01_k».proof.Proof.HostValue

@[expose] public section

set_option maxRecDepth 16384

noncomputable section

namespace Cert.RefEnd

open Idealize.ShloMosaic Cert.ReferenceIdeal Cert.ReferenceIdeal.Read Cert.Args Cert.Attn Cert.RefValue Cert.ReferenceIdeal.Facts
open Finset (range)

variable {q k : Arr 96} {v g : Arr 64} (hq : Fin' q) (hk : Fin' k) (hv : Fin' v) (hg : Fin' g)

/-- Past channel 96 the gradient of the queries is zero, the keys being zero there. -/
theorem dq_wide (h i d : ℕ) (hd : 96 ≤ d) : dq (rd q h) (rd k h) (rd v h) (rd g h) scale i d = 0 :=
  Finset.sum_eq_zero fun j _ => by rw [rd_wide k hd, mul_zero]
theorem dk_wide (h i d : ℕ) (hd : 96 ≤ d) : dk (rd q h) (rd k h) (rd v h) (rd g h) scale i d = 0 :=
  Finset.sum_eq_zero fun j _ => by rw [rd_wide q hd, mul_zero]

include hq hk hv hg

theorem v65_eq (i : S16x4096x128.Idx) : val_main_v65 (F := Ideal) q k v g i
    = ((dq (rd q (i 0).val) (rd k (i 0).val) (rd v (i 0).val) (rd g (i 0).val) scale (i 1).val (i 2).val : ℝ) : EReal) := by
  unfold val_main_v65
  exact Cert.KernelIdeal.Host.pad_real _ _ Cert.KernelIdeal.Host.zero_converted _ _
    (fun h i d => dq (rd q h) (rd k h) (rd v h) (rd g h) scale i d) (v64_eq hq hk hv hg) dq_wide i

theorem v67_eq (i : S16x4096x128.Idx) : val_main_v67 (F := Ideal) q k v g i
    = ((dk (rd q (i 0).val) (rd k (i 0).val) (rd v (i 0).val) (rd g (i 0).val) scale (i 1).val (i 2).val : ℝ) : EReal) := by
  unfold val_main_v67
  exact Cert.KernelIdeal.Host.pad_real _ _ Cert.KernelIdeal.Host.zero_converted _ _
    (fun h i d => dk (rd q h) (rd k h) (rd v h) (rd g h) scale i d) (v66_eq hq hk hv hg) dk_wide i

end Cert.RefEnd

end
-- ==== Proof.Step.lean ====
/- The kernel's body, piece by piece: the blocks of rows it loads and stores, and what one trip of its loop over the
   later blocks of queries does to the block of dq and to the sums it carries. -/
module

public import proofs.«01_k».proof.Proof.Gen.KernelIdeal.Loops
public import proofs.«01_k».proof.Proof.Gen.KernelIdeal.Frame
public import Idealize.ShloMosaic.Lib.VecWindow
public import Idealize.ShloMosaic.Lib.Writes

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-! ## The blocks of rows -/

/-- The loop over the later blocks has `7 - j` trips. -/
theorem trips1 (i : grid0.Coords) : (k0_t1_loop i).trips = 7 - (i 1).val := by
  have h : (i 1).val < 8 := (i 1).isLt
  show Scf.trips (Scalar.addi (BitVec.ofNat 32 (i 1).val) 1#32) _ _ = _
  have : ∀ j < 8, Scf.trips (Scalar.addi (BitVec.ofNat 32 j) 1#32)
    (Scalar.addi (Scalar.addi (BitVec.ofNat 32 j) 1#32) (Scalar.muli (Scalar.divsi (Scalar.subi 8#32 (Scalar.addi (BitVec.ofNat 32 j) 1#32)) 1#32) 1#32)) 1#32 = 7 - j := by
    decide +kernel
  exact this _ h

/-- The second loop, over the rest of the division by the step one, has none. -/
theorem trips2 (i : grid0.Coords) : (k0_t2_loop i).trips = 0 := by
  have h : (i 1).val < 8 := (i 1).isLt
  have : ∀ j < 8, Scf.trips
    (Scalar.addi (Scalar.addi (BitVec.ofNat 32 j) 1#32) (Scalar.muli (Scalar.divsi (Scalar.subi 8#32 (Scalar.addi (BitVec.ofNat 32 j) 1#32)) 1#32) 1#32))
    (Scalar.addi (Scalar.addi (BitVec.ofNat 32 j) 1#32) (Scalar.subi 8#32 (Scalar.addi (BitVec.ofNat 32 j) 1#32))) 1#32 = 0 := by
    decide +kernel
  exact this _ h

theorem off1_eq (i : grid0.Coords) : k0_off1 i = ![0, 512 * (i 1).val, 0] := by
  have h : (i 1).val < 8 := (i 1).isLt
  have : ∀ j < 8, (Scalar.indexCast (Scalar.muli (BitVec.ofNat 32 j) 512#32)).toNat = 512 * j := by decide +kernel
  unfold k0_off1
  funext a
  match a with
  | 0 => rfl
  | 1 => exact this _ h
  | 2 => rfl

theorem off2_eq (i : grid0.Coords) : k0_off2 i = ![0, 512 * (i 1).val, 0] := off1_eq i
theorem off3_eq (i : grid0.Coords) : k0_off3 i = ![0, 512 * (i 1).val, 0] := off1_eq i
theorem off4_eq (i : grid0.Coords) : k0_off4 i = ![512 * (i 1).val, 0] := by
  have h := off1_eq i
  funext a
  match a with
  | 0 => exact congrFun h 1
  | 1 => rfl

/-- Trip `k` of the loop handles block `j + 1 + k`. -/
theorem off5_eq (i : grid0.Coords) (k : Fin (k0_t1_loop i).trips) : k0_off5 i k = ![0, 512 * ((i 1).val + 1 + k.val), 0] := by
  have h : (i 1).val < 8 := (i 1).isLt
  have hk : k.val < 7 - (i 1).val := lt_of_lt_of_eq k.isLt (trips1 i)
  have : ∀ j < 8, ∀ n < 8, (Scalar.indexCast (Scalar.muli (Scf.iv (Scalar.addi (BitVec.ofNat 32 j) 1#32) 1#32 n) 512#32)).toNat = 512 * (j + 1 + n) := by decide +kernel
  unfold k0_off5
  funext a
  match a with
  | 0 => rfl
  | 1 => exact this _ h k.val (by omega)
  | 2 => rfl

theorem off6_eq (i : grid0.Coords) (k : Fin (k0_t1_loop i).trips) : k0_off6 i k = ![0, 512 * ((i 1).val + 1 + k.val), 0] := off5_eq i k
theorem off7_eq (i : grid0.Coords) (k : Fin (k0_t1_loop i).trips) : k0_off7 i k = ![0, 512 * ((i 1).val + 1 + k.val), 0] := off5_eq i k
theorem off8_eq (i : grid0.Coords) (k : Fin (k0_t1_loop i).trips) : k0_off8 i k = ![512 * ((i 1).val + 1 + k.val), 0] := by
  have h := off5_eq i k
  funext a
  match a with
  | 0 => exact congrFun h 1
  | 1 => rfl

/-- Row `512 b + r` of 4096 rows, for any `b`. -/
abbrev row (b : ℕ) (r : Fin 512) : Fin 4096 := ⟨(512 * b + r.val) % 4096, Nat.mod_lt _ (by decide)⟩

/-- Block `b` of 512 rows of an array of one head. -/
def rows {α : Type} {d : ℕ} (X : (⟨3, ![1, 4096, d]⟩ : Shape).Idx → α) (b : ℕ) : (⟨3, ![1, 512, d]⟩ : Shape).Idx → α :=
  fun y => X (fun a => match a with
    | ⟨0, _⟩ => (0 : Fin 1)
    | ⟨1, _⟩ => row b (y 1)
    | ⟨2, _⟩ => (y 2 : Fin d))

/-- Block `b` of 512 rows of a column. -/
def rowsC {α : Type} (X : (⟨2, ![4096, 1]⟩ : Shape).Idx → α) (b : ℕ) : (⟨2, ![512, 1]⟩ : Shape).Idx → α :=
  fun y => X (fun a => match a with
    | ⟨0, _⟩ => row b (y 0)
    | ⟨1, _⟩ => (0 : Fin 1))

/-- `X` with block `b` of its rows replaced. -/
def putRows {α : Type} (X : (⟨3, ![1, 4096, 128]⟩ : Shape).Idx → α) (b : ℕ) (w : (⟨3, ![1, 512, 128]⟩ : Shape).Idx → α) :
    (⟨3, ![1, 4096, 128]⟩ : Shape).Idx → α :=
  VecWindow.put X ![0, 512 * b, 0] ![1, 512, 128] w

theorem window_rows {α : Type} {d b : ℕ} (hb : b < 8) (X : (⟨3, ![1, 4096, d]⟩ : Shape).Idx → α)
    (inb : ∀ a, (![0, 512 * b, 0] : Fin 3 → ℕ) a + (![1, 512, d] : Fin 3 → ℕ) a ≤ (⟨3, ![1, 4096, d]⟩ : Shape).size a) :
    VecWindow.window X ![0, 512 * b, 0] ![1, 512, d] inb = rows X b := by
  funext y
  refine congrArg X (funext fun a => Fin.ext ?_)
  match a with
  | ⟨0, _⟩ => show 0 + 1 * (y 0).val = 0; have : (y 0).val < 1 := (y 0).isLt; omega
  | ⟨1, _⟩ =>
    have : (y 1).val < 512 := (y 1).isLt
    show 512 * b + 1 * (y 1).val = (512 * b + (y 1).val) % 4096
    omega
  | ⟨2, _⟩ => show 0 + 1 * (y 2).val = (y 2).val; omega

theorem window_rowsC {α : Type} {b : ℕ} (hb : b < 8) (X : (⟨2, ![4096, 1]⟩ : Shape).Idx → α)
    (inb : ∀ a, (![512 * b, 0] : Fin 2 → ℕ) a + (![512, 1] : Fin 2 → ℕ) a ≤ (⟨2, ![4096, 1]⟩ : Shape).size a) :
    VecWindow.window X ![512 * b, 0] ![512, 1] inb = rowsC X b := by
  funext y
  refine congrArg X (funext fun a => Fin.ext ?_)
  match a with
  | ⟨0, _⟩ =>
    have : (y 0).val < 512 := (y 0).isLt
    show 512 * b + 1 * (y 0).val = (512 * b + (y 0).val) % 4096
    omega
  | ⟨1, _⟩ => show 0 + 1 * (y 1).val = 0; have : (y 1).val < 1 := (y 1).isLt; omega

theorem inb3 {d b : ℕ} (hb : b < 8) : ∀ a, (![0, 512 * b, 0] : Fin 3 → ℕ) a + (![1, 512, d] : Fin 3 → ℕ) a ≤ (⟨3, ![1, 4096, d]⟩ : Shape).size a := by
  intro a
  match a with
  | ⟨0, _⟩ => show 0 + 1 ≤ 1; omega
  | ⟨1, _⟩ => show 512 * b + 512 ≤ 4096; omega
  | ⟨2, _⟩ => show 0 + d ≤ d; omega

theorem inb2 {b : ℕ} (hb : b < 8) : ∀ a, (![512 * b, 0] : Fin 2 → ℕ) a + (![512, 1] : Fin 2 → ℕ) a ≤ (⟨2, ![4096, 1]⟩ : Shape).size a := by
  intro a
  match a with
  | ⟨0, _⟩ => show 512 * b + 512 ≤ 4096; omega
  | ⟨1, _⟩ => show 0 + 1 ≤ 1; omega

/-- A load of a block of rows. -/
theorem readAt_rows {κ : Kind} {sp : Space} {d : ℕ} {e : EltTy} (v : View sig κ sp ⟨3, ![1, 4096, d]⟩ e) (f : v.ty.Contents (Elt F))
    {off : Fin 3 → ℕ} {b : ℕ} (hb : b < 8)
    (inb : ∀ a, off a + (![1, 512, d] : Fin 3 → ℕ) a ≤ (⟨3, ![1, 4096, d]⟩ : Shape).size a) (h : off = ![0, 512 * b, 0]) :
    v.readAt (Elt F) (Rect.unit off ![1, 512, d] inb).toLoadRect f = rows (v.read (Elt F) f) b :=
  (View.readAt_unit v f inb h (inb3 hb)).trans (window_rows hb _ _)

theorem readAt_rowsC {κ : Kind} {sp : Space} {e : EltTy} (v : View sig κ sp ⟨2, ![4096, 1]⟩ e) (f : v.ty.Contents (Elt F))
    {off : Fin 2 → ℕ} {b : ℕ} (hb : b < 8)
    (inb : ∀ a, off a + (![512, 1] : Fin 2 → ℕ) a ≤ (⟨2, ![4096, 1]⟩ : Shape).size a) (h : off = ![512 * b, 0]) :
    v.readAt (Elt F) (Rect.unit off ![512, 1] inb).toLoadRect f = rowsC (v.read (Elt F) f) b :=
  (View.readAt_unit v f inb h (inb2 hb)).trans (window_rowsC hb _ _)

/-- A store of a block of rows, over whatever was stored before. -/
theorem read_writes_rows {κ : Kind} {sp : Space} {e : EltTy} (v : View sig κ sp ⟨3, ![1, 4096, 128]⟩ e) (f : v.ty.Contents (Elt F))
    {off : Fin 3 → ℕ} {b : ℕ}
    (inb : ∀ a, off a + (![1, 512, 128] : Fin 3 → ℕ) a ≤ (⟨3, ![1, 4096, 128]⟩ : Shape).size a)
    (w : (⟨3, ![1, 512, 128]⟩ : Shape).Idx → Elt F e) (L : List (View.Piece (Elt F) ⟨3, ![1, 4096, 128]⟩ e)) (h : off = ![0, 512 * b, 0]) :
    v.read (Elt F) (v.writes (Elt F) f (⟨Rect.unit off ![1, 512, 128] inb, w⟩ :: L))
      = putRows (v.read (Elt F) (v.writes (Elt F) f L)) b w :=
  View.read_writes_cons_put v f inb w L h

/-- A load of a whole buffer, and a store over one. -/
theorem readAt_whole {κ : Kind} {sp : Space} {n d : ℕ} {e : EltTy} (v : View sig κ sp ⟨3, ![1, n, d]⟩ e) (f : v.ty.Contents (Elt F))
    (inb : ∀ a, (![0, 0, 0] : Fin 3 → ℕ) a + (![1, n, d] : Fin 3 → ℕ) a ≤ (⟨3, ![1, n, d]⟩ : Shape).size a) :
    v.readAt (Elt F) (Rect.unit ![0, 0, 0] ![1, n, d] inb).toLoadRect f = v.read (Elt F) f :=
  View.readAt_full v f inb

theorem read_writes_whole {κ : Kind} {sp : Space} {n d : ℕ} {e : EltTy} (v : View sig κ sp ⟨3, ![1, n, d]⟩ e) (f : v.ty.Contents (Elt F))
    (inb : ∀ a, (![0, 0, 0] : Fin 3 → ℕ) a + (![1, n, d] : Fin 3 → ℕ) a ≤ (⟨3, ![1, n, d]⟩ : Shape).size a)
    (w : (⟨3, ![1, n, d]⟩ : Shape).Idx → Elt F e) (L : List (View.Piece (Elt F) ⟨3, ![1, n, d]⟩ e)) :
    v.read (Elt F) (v.writes (Elt F) f (⟨Rect.unit ![0, 0, 0] ![1, n, d] inb, w⟩ :: L)) = w :=
  View.read_writes_full v f inb w L

theorem read_writes_wholeC {κ : Kind} {sp : Space} {n d : ℕ} {e : EltTy} (v : View sig κ sp ⟨2, ![n, d]⟩ e) (f : v.ty.Contents (Elt F))
    (inb : ∀ a, (![0, 0] : Fin 2 → ℕ) a + (![n, d] : Fin 2 → ℕ) a ≤ (⟨2, ![n, d]⟩ : Shape).size a)
    (w : (⟨2, ![n, d]⟩ : Shape).Idx → Elt F e) (L : List (View.Piece (Elt F) ⟨2, ![n, d]⟩ e)) :
    v.read (Elt F) (v.writes (Elt F) f (⟨Rect.unit ![0, 0] ![n, d] inb, w⟩ :: L)) = w :=
  View.read_writes_full v f inb w L

/-! ## What a block of queries adds -/

/-- What a point carries: its block of dq, and the sums of dk and dv. -/
abbrev State (F : FTy → Type) : Type := Vec F S1x4096x128 .f32 × (FVec F S512x128 .f32 × FVec F S512x64 .f32)

/-- One block `b` of later queries: the block of dq gains the product of the scores' gradient with the keys, the sums
    of dk and dv gain those with the queries and with the gradients of the output. -/
def step (x0 : Vec F S1x4096x128 .bf16) (x1 : Vec F S1x512x128 .bf16) (x2 : Vec F S1x512x64 .bf16) (x3 : Vec F S1x4096x64 .bf16)
    (x5 : Vec F S1x4096x1 .f32) (D : Vec F S4096x1 .f32) (b : ℕ) (s : State F) : State F :=
  (putRows s.1 b (k0_pay5 (k0_pay17 x1) (k0_pay18 x2) (rows x0 b) (rows x3 b) (rows x5 b) (rowsC D b) (rows s.1 b)),
   (k0_pay6 (k0_pay17 x1) (k0_pay18 x2) s.2.1 (rows x0 b) (rows x3 b) (rows x5 b) (rowsC D b),
    k0_pay32 s.2.2 (k0_pay2 (rows x3 b)) (k0_pay7 (k0_pay17 x1) (rows x0 b) (rows x5 b)) (constant S512x64 .f32 0x00000000#32)))

section Trip

variable (𝒱 : Variants) (c : Dev nD) (bd : Option 𝒱.V) (i : grid0.Coords)
  (arg2 : Memref sig .tc .vmem S1x4096x128 .bf16) (harg2 : arg2.IsWhole) (arg3 : Memref sig .tc .vmem S1x512x128 .bf16) (harg3 : arg3.IsWhole)
  (arg4 : Memref sig .tc .vmem S1x512x64 .bf16) (harg4 : arg4.IsWhole) (arg5 : Memref sig .tc .vmem S1x4096x64 .bf16) (harg5 : arg5.IsWhole)
  (arg6 : Memref sig .tc .vmem S1x4096x64 .bf16) (harg6 : arg6.IsWhole) (arg7 : Memref sig .tc .vmem S1x4096x1 .f32) (harg7 : arg7.IsWhole)
  (arg8 : Memref sig .tc .vmem S1x4096x128 .f32) (harg8 : arg8.IsWhole) (arg9 : Memref sig .tc .vmem S1x512x128 .f32) (harg9 : arg9.IsWhole)
  (arg10 : Memref sig .tc .vmem S1x512x64 .f32) (harg10 : arg10.IsWhole) (arg11 : Memref sig .tc .vmem S4096x1 .f32) (harg11 : arg11.IsWhole)
  (x0 : Vec F S1x4096x128 .bf16) (x1 : Vec F S1x512x128 .bf16) (x2 : Vec F S1x512x64 .bf16) (x3 : Vec F S1x4096x64 .bf16)
  (x5 : Vec F S1x4096x1 .f32) (D : Vec F S4096x1 .f32) (v103 : BitVec 32)

/-- One trip's result and stores, as the step on its block. -/
theorem trip_eq (k : Fin (k0_t1_loop i).trips) (s : State F) (f : BufTy.Contents (Elt F) arg8.view.ty) (hf : arg8.view.read (Elt F) f = s.1) :
    (arg8.view.read (Elt F) (arg8.view.writes (Elt F) f
        (tripL_k0_t1 (F := F) 𝒱 c bd i arg2 harg2 arg3 harg3 arg4 harg4 arg5 harg5 arg6 harg6 arg7 harg7 arg8 harg8 arg9 harg9 arg10 harg10 arg11 harg11
          (k0_pay17 x1) (k0_pay18 x2) v103 (harg2.unread x0) (harg5.unread x3) (harg7.unread x5) (harg11.unread D) k s.2 f)),
      tripR_k0_t1 (F := F) 𝒱 c bd i arg2 harg2 arg3 harg3 arg4 harg4 arg5 harg5 arg6 harg6 arg7 harg7 arg8 harg8 arg9 harg9 arg10 harg10 arg11 harg11
          (k0_pay17 x1) (k0_pay18 x2) v103 (harg2.unread x0) (harg5.unread x3) (harg7.unread x5) (harg11.unread D) k s.2 f)
      = step x0 x1 x2 x3 x5 D ((i 1).val + 1 + k.val) s := by
  have hb : (i 1).val + 1 + k.val < 8 := by have := lt_of_lt_of_eq k.isLt (trips1 i); omega
  unfold tripL_k0_t1 tripR_k0_t1 trip_k0_t1
  dsimp only
  sl_unfold_run_names
  refine Prod.ext ?_ (Prod.ext ?_ ?_)
  · refine (read_writes_rows (b := (i 1).val + 1 + k.val) arg8.view f _ _ [] (off5_eq i k)).trans ?_
    rw [View.writes_nil, hf]
    simp only [readAt_rows _ _ hb _ (off5_eq i k), readAt_rows _ _ hb _ (off6_eq i k), readAt_rows _ _ hb _ (off7_eq i k), readAt_rowsC _ _ hb _ (off8_eq i k),
      harg2.read_unread, harg5.read_unread, harg7.read_unread, harg11.read_unread, hf]
    rfl
  · dsimp only
    simp only [readAt_rows _ _ hb _ (off5_eq i k), readAt_rows _ _ hb _ (off6_eq i k), readAt_rows _ _ hb _ (off7_eq i k), readAt_rowsC _ _ hb _ (off8_eq i k),
      harg2.read_unread, harg5.read_unread, harg7.read_unread, harg11.read_unread, hf]
    rfl
  · dsimp only
    simp only [readAt_rows _ _ hb _ (off5_eq i k), readAt_rows _ _ hb _ (off6_eq i k), readAt_rows _ _ hb _ (off7_eq i k), readAt_rowsC _ _ hb _ (off8_eq i k),
      harg2.read_unread, harg5.read_unread, harg7.read_unread, harg11.read_unread, hf]
    rfl

/-- The loop's state before trip `n`: what `n` steps leave of the contents and sums it was entered with. -/
def steps (x0 : Vec F S1x4096x128 .bf16) (x1 : Vec F S1x512x128 .bf16) (x2 : Vec F S1x512x64 .bf16) (x3 : Vec F S1x4096x64 .bf16)
    (x5 : Vec F S1x4096x1 .f32) (D : Vec F S4096x1 .f32) (j : ℕ) (s : State F) : ℕ → State F
  | 0 => s
  | n + 1 => step x0 x1 x2 x3 x5 D (j + 1 + n) (steps x0 x1 x2 x3 x5 D j s n)

theorem st_eq (s : State F) (G : BufTy.Contents (Elt F) arg8.view.ty) (hG : arg8.view.read (Elt F) G = s.1) :
    ∀ n, n ≤ (k0_t1_loop i).trips →
    (arg8.view.read (Elt F) (arg8.view.writes (Elt F) G
        (st_k0_t1 (F := F) 𝒱 c bd i arg2 harg2 arg3 harg3 arg4 harg4 arg5 harg5 arg6 harg6 arg7 harg7 arg8 harg8 arg9 harg9 arg10 harg10 arg11 harg11
          (k0_pay17 x1) (k0_pay18 x2) v103 (harg2.unread x0) (harg5.unread x3) (harg7.unread x5) (harg11.unread D) G s.2 n).2),
      (st_k0_t1 (F := F) 𝒱 c bd i arg2 harg2 arg3 harg3 arg4 harg4 arg5 harg5 arg6 harg6 arg7 harg7 arg8 harg8 arg9 harg9 arg10 harg10 arg11 harg11
          (k0_pay17 x1) (k0_pay18 x2) v103 (harg2.unread x0) (harg5.unread x3) (harg7.unread x5) (harg11.unread D) G s.2 n).1)
      = steps x0 x1 x2 x3 x5 D (i 1).val s n
  | 0, _ => Prod.ext hG rfl
  | n + 1, h => by
    have ih := st_eq s G hG n (by omega)
    have e := st_k0_t1_succ (F := F) 𝒱 c bd i arg2 harg2 arg3 harg3 arg4 harg4 arg5 harg5 arg6 harg6 arg7 harg7 arg8 harg8 arg9 harg9 arg10 harg10 arg11 harg11
          (k0_pay17 x1) (k0_pay18 x2) v103 (harg2.unread x0) (harg5.unread x3) (harg7.unread x5) (harg11.unread D) G s.2 ⟨n, h⟩
    dsimp only at e
    rw [e]
    dsimp only
    rw [View.writes_append]
    have t := trip_eq 𝒱 c bd i arg2 harg2 arg3 harg3 arg4 harg4 arg5 harg5 arg6 harg6 arg7 harg7 arg8 harg8 arg9 harg9 arg10 harg10 arg11 harg11
      x0 x1 x2 x3 x5 D v103 ⟨n, h⟩ (steps x0 x1 x2 x3 x5 D (i 1).val s n) _ (congrArg Prod.fst ih)
    rw [← congrArg Prod.snd ih] at t
    exact t

theorem st_fst (s : State F) (G : BufTy.Contents (Elt F) arg8.view.ty) (hG : arg8.view.read (Elt F) G = s.1)
    (X11 : BufTy.Contents (Elt F) arg11.view.ty) (h11 : arg11.view.read (Elt F) X11 = D) :
    arg8.view.read (Elt F) (arg8.view.writes (Elt F) G
        (st_k0_t1 (F := F) 𝒱 c bd i arg2 harg2 arg3 harg3 arg4 harg4 arg5 harg5 arg6 harg6 arg7 harg7 arg8 harg8 arg9 harg9 arg10 harg10 arg11 harg11
          (k0_pay17 x1) (k0_pay18 x2) v103 (harg2.unread x0) (harg5.unread x3) (harg7.unread x5) X11 G s.2 (k0_t1_loop i).trips).2)
      = (steps x0 x1 x2 x3 x5 D (i 1).val s (7 - (i 1).val)).1 := by
  rw [harg11.eq_unread h11, ← trips1 i]
  exact congrArg Prod.fst (st_eq 𝒱 c bd i arg2 harg2 arg3 harg3 arg4 harg4 arg5 harg5 arg6 harg6 arg7 harg7 arg8 harg8 arg9 harg9 arg10 harg10 arg11 harg11 x0 x1 x2 x3 x5 D v103 s G hG _ le_rfl)

theorem st_snd (s : State F) (G : BufTy.Contents (Elt F) arg8.view.ty) (hG : arg8.view.read (Elt F) G = s.1)
    (X11 : BufTy.Contents (Elt F) arg11.view.ty) (h11 : arg11.view.read (Elt F) X11 = D) :
    (st_k0_t1 (F := F) 𝒱 c bd i arg2 harg2 arg3 harg3 arg4 harg4 arg5 harg5 arg6 harg6 arg7 harg7 arg8 harg8 arg9 harg9 arg10 harg10 arg11 harg11
          (k0_pay17 x1) (k0_pay18 x2) v103 (harg2.unread x0) (harg5.unread x3) (harg7.unread x5) X11 G s.2 (k0_t1_loop i).trips).1
      = (steps x0 x1 x2 x3 x5 D (i 1).val s (7 - (i 1).val)).2 := by
  rw [harg11.eq_unread h11, ← trips1 i]
  exact congrArg Prod.snd (st_eq 𝒱 c bd i arg2 harg2 arg3 harg3 arg4 harg4 arg5 harg5 arg6 harg6 arg7 harg7 arg8 harg8 arg9 harg9 arg10 harg10 arg11 harg11 x0 x1 x2 x3 x5 D v103 s G hG _ le_rfl)

end Trip

/-- The block of queries on the diagonal, masked: the sums of dk and dv start here. -/
def first (x0 : Vec F S1x4096x128 .bf16) (x1 : Vec F S1x512x128 .bf16) (x2 : Vec F S1x512x64 .bf16) (x3 : Vec F S1x4096x64 .bf16)
    (x5 : Vec F S1x4096x1 .f32) (D : Vec F S4096x1 .f32) (b : ℕ) (X : Vec F S1x4096x128 .f32) : State F :=
  let p : FVec F S512x512 .f32 := k0_pay26 (k0_pay23 x1 (rows x0 b)) (iota .tc S512x512 32 [1] iota_S512x512_d1_w32) 64#32 k0_pay24 k0_pay25
    (Scalar.subi (Scalar.extui (Scalar.cmpi .sgt 64#32 0#32)) (Scalar.extui (Scalar.cmpi .slt 64#32 0#32))) (rows x5 b)
  let dp : FVec F S512x512 .f32 := k0_pay27 (k0_pay18 x2) (k0_pay22 (rows x3 b))
  (putRows X b (k0_pay29 (k0_pay17 x1) p dp (rowsC D b) (rows X b)),
   (k0_pay30 k0_pay19 (k0_pay21 (rows x0 b)) p dp (rowsC D b), k0_pay31 k0_pay20 (k0_pay22 (rows x3 b)) p))

/-- What one point leaves: the block on the diagonal, then the later ones. -/
def point (x0 : Vec F S1x4096x128 .bf16) (x1 : Vec F S1x512x128 .bf16) (x2 : Vec F S1x512x64 .bf16) (x3 : Vec F S1x4096x64 .bf16)
    (x5 : Vec F S1x4096x1 .f32) (D : Vec F S4096x1 .f32) (j : ℕ) (X : Vec F S1x4096x128 .f32) : State F :=
  steps x0 x1 x2 x3 x5 D j (first x0 x1 x2 x3 x5 D j X) (7 - j)

end Cert.KernelIdeal.Body
-- ==== Proof.Blocks.lean ====
/- The values of the kernel's body on a block of queries and a block of keys, over the reals: the scores, the
   probabilities, the gradient of the scores, and the three products with it. -/
module

public import proofs.«01_k».proof.Proof.Step
public import proofs.«01_k».proof.Proof.Args
public import Idealize.ShloMosaic.Lib.Pointwise.Contract
public import Idealize.ShloMosaic.Lib.ValueIdx

@[expose] public section

set_option maxRecDepth 16384

noncomputable section

namespace Cert.KernelIdeal.Blocks

open Cert.KernelIdeal Cert.KernelIdeal.Gen Cert.KernelIdeal.Body Idealize.ShloMosaic Idealize.ShloMosaic.TcCoe Cert.Args Cert.Attn
open Finset (range)

/-! ## The five products -/

section Products

variable {n : ℕ}

theorem product_lanes (A B : FVec Ideal S512x128 .bf16) (a b : ℕ → ℕ → ℝ) (hA : ∀ y, A y = ((a (y 0).val (y 1).val : ℝ) : EReal))
    (hB : ∀ y, B y = ((b (y 0).val (y 1).val : ℝ) : EReal)) (i : S512x512.Idx) :
    (matmul dot_S512x128_S512x128_S512x512_1_1_0_0_n_n none A B (constant S512x512 .f32 0x00000000#32) : FVec Ideal S512x512 .f32) i
      = ((∑ d ∈ range 128, a (i 0).val d * b (i 1).val d : ℝ) : EReal) := by
  simp only [pointwise]
  refine (congrArg₂ (· + ·) zero_word (sum_coe (fun d => a (i 0).val d * b (i 1).val d) fun d => ?_)).trans (by rw [EReal.coe_zero, zero_add])
  rw [hA, hB, ← EReal.coe_mul]
  rfl

theorem product_heads (A B : FVec Ideal S512x64 .bf16) (a b : ℕ → ℕ → ℝ) (hA : ∀ y, A y = ((a (y 0).val (y 1).val : ℝ) : EReal))
    (hB : ∀ y, B y = ((b (y 0).val (y 1).val : ℝ) : EReal)) (i : S512x512.Idx) :
    (matmul dot_S512x64_S512x64_S512x512_1_1_0_0_n_n none A B (constant S512x512 .f32 0x00000000#32) : FVec Ideal S512x512 .f32) i
      = ((∑ d ∈ range 64, a (i 0).val d * b (i 1).val d : ℝ) : EReal) := by
  simp only [pointwise]
  refine (congrArg₂ (· + ·) zero_word (sum_coe (fun d => a (i 0).val d * b (i 1).val d) fun d => ?_)).trans (by rw [EReal.coe_zero, zero_add])
  rw [hA, hB, ← EReal.coe_mul]
  rfl

theorem product_keys (A : FVec Ideal S512x512 .bf16) (B : FVec Ideal S512x128 .bf16) (a b : ℕ → ℕ → ℝ)
    (hA : ∀ y, A y = ((a (y 0).val (y 1).val : ℝ) : EReal)) (hB : ∀ y, B y = ((b (y 0).val (y 1).val : ℝ) : EReal)) (i : S512x128.Idx) :
    (matmul dot_S512x512_S512x128_S512x128_1_0_0_1_n_n none A B (constant S512x128 .f32 0x00000000#32) : FVec Ideal S512x128 .f32) i
      = ((∑ z ∈ range 512, a (i 0).val z * b z (i 1).val : ℝ) : EReal) := by
  simp only [pointwise]
  refine (congrArg₂ (· + ·) zero_word (sum_coe (fun z => a (i 0).val z * b z (i 1).val) fun d => ?_)).trans (by rw [EReal.coe_zero, zero_add])
  rw [hA, hB, ← EReal.coe_mul]
  rfl

theorem product_queries (A : FVec Ideal S512x512 .bf16) (B : FVec Ideal S512x128 .bf16) (a b : ℕ → ℕ → ℝ)
    (hA : ∀ y, A y = ((a (y 0).val (y 1).val : ℝ) : EReal)) (hB : ∀ y, B y = ((b (y 0).val (y 1).val : ℝ) : EReal)) (i : S512x128.Idx) :
    (matmul dot_S512x512_S512x128_S512x128_0_0_1_1_n_n none A B (constant S512x128 .f32 0x00000000#32) : FVec Ideal S512x128 .f32) i
      = ((∑ y ∈ range 512, a y (i 0).val * b y (i 1).val : ℝ) : EReal) := by
  simp only [pointwise]
  refine (congrArg₂ (· + ·) zero_word (sum_coe (fun y => a y (i 0).val * b y (i 1).val) fun d => ?_)).trans (by rw [EReal.coe_zero, zero_add])
  rw [hA, hB, ← EReal.coe_mul]
  rfl

theorem product_outputs (A : FVec Ideal S512x512 .bf16) (B : FVec Ideal S512x64 .bf16) (a b : ℕ → ℕ → ℝ)
    (hA : ∀ y, A y = ((a (y 0).val (y 1).val : ℝ) : EReal)) (hB : ∀ y, B y = ((b (y 0).val (y 1).val : ℝ) : EReal)) (i : S512x64.Idx) :
    (matmul dot_S512x512_S512x64_S512x64_0_0_1_1_n_n none A B (constant S512x64 .f32 0x00000000#32) : FVec Ideal S512x64 .f32) i
      = ((∑ y ∈ range 512, a y (i 0).val * b y (i 1).val : ℝ) : EReal) := by
  simp only [pointwise]
  refine (congrArg₂ (· + ·) zero_word (sum_coe (fun y => a y (i 0).val * b y (i 1).val) fun d => ?_)).trans (by rw [EReal.coe_zero, zero_add])
  rw [hA, hB, ← EReal.coe_mul]
  rfl

end Products

/-! ## Blocks of one head as matrices -/

theorem drop_head {α : Type} {n d : ℕ} (x : (⟨3, ![1, n, d]⟩ : Shape).Idx → α) (h : (⟨3, ![1, n, d]⟩ : Shape).ShapeCasts ⟨2, ![n, d]⟩)
    (i : (⟨2, ![n, d]⟩ : Shape).Idx) :
    shapeCast ⟨2, ![n, d]⟩ x h i = x (fun a => match a with | ⟨0, _⟩ => (0 : Fin 1) | ⟨1, _⟩ => (i 0 : Fin n) | ⟨2, _⟩ => (i 1 : Fin d)) := by
  refine shapeCast_apply x h i _ ?_
  rw [Shape.rowMajor_val_two, Shape.rowMajor_val_three]
  show (0 * n + (i 0).val) * d + (i 1).val = (i 0).val * d + (i 1).val
  rw [zero_mul, zero_add]

theorem add_head {α : Type} {n d : ℕ} (x : (⟨2, ![n, d]⟩ : Shape).Idx → α) (h : (⟨2, ![n, d]⟩ : Shape).ShapeCasts ⟨3, ![1, n, d]⟩)
    (i : (⟨3, ![1, n, d]⟩ : Shape).Idx) :
    shapeCast ⟨3, ![1, n, d]⟩ x h i = x (fun a => match a with | ⟨0, _⟩ => (i 1 : Fin n) | ⟨1, _⟩ => (i 2 : Fin d)) := by
  refine shapeCast_apply x h i _ ?_
  rw [Shape.rowMajor_val_two, Shape.rowMajor_val_three]
  have : (i 0).val = 0 := by have : (i 0).val < 1 := (i 0).isLt; omega
  show (i 1).val * d + (i 2).val = ((i 0).val * n + (i 1).val) * d + (i 2).val
  rw [this, zero_mul, zero_add]

theorem column_at {α : Type} (x : S512x1.Idx → α) (i : S512x512.Idx) :
    broadcastTo S512x512 x broadcasts_S512x1_S512x512 i = x (fun a => match a with | ⟨0, _⟩ => ⟨(i 0).val, (i 0).isLt⟩ | ⟨1, _⟩ => ⟨0, Nat.one_pos⟩) := by
  simp only [pointwise]
  refine congrArg x (funext fun a => ?_)
  match a with
  | ⟨0, _⟩ => rfl
  | ⟨1, _⟩ => rfl

/-! ## The mask -/

/-- The chunk of a position, as the body writes the rounding quotient. -/
theorem chunk_word (u : ArithUnit) (n : ℕ) (hn : n < 512) :
    Scalar.select (IntOp.andi (IntOp.cmpi .ne (IntOp.subi ((IntOp.cmpi .sgt (BitVec.ofNat 32 n) 0#32).setWidth 32) ((IntOp.cmpi .slt (BitVec.ofNat 32 n) 0#32).setWidth 32))
        (Scalar.subi (Scalar.extui (Scalar.cmpi .sgt 64#32 0#32)) (Scalar.extui (Scalar.cmpi .slt 64#32 0#32))))
      (IntOp.cmpi .ne (IntOp.remsi u (BitVec.ofNat 32 n) 64#32) 0#32))
      (IntOp.subi (IntOp.divsi u (BitVec.ofNat 32 n) 64#32) 1#32) (IntOp.divsi u (BitVec.ofNat 32 n) 64#32)
      = BitVec.ofNat 32 (n / 64) := by
  rw [sdiv_word, srem_word, sign_words ⟨n, by omega⟩]
  exact chunk_eq ⟨n, by omega⟩

/-- The body's mask: keys whose chunk is not later than the query's. -/
def mask : IVec S512x512 1 :=
  cmpi .sle
    (select (andi (cmpi .ne k0_pay25 (broadcast S512x512 (Scalar.subi (Scalar.extui (Scalar.cmpi .sgt 64#32 0#32)) (Scalar.extui (Scalar.cmpi .slt 64#32 0#32)))))
        (cmpi .ne (remsi (iota .tc S512x512 32 [1] iota_S512x512_d1_w32) (broadcast S512x512 64#32)) (broadcast S512x512 0#32)))
      (subi k0_pay24 (broadcast S512x512 1#32)) k0_pay24)
    (select (andi (cmpi .ne
        (subi (extui 32 (cmpi .sgt (iota .tc S512x512 32 [0] iota_S512x512_d0_w32) (broadcast S512x512 0#32)) natLt_1_32)
          (extui 32 (cmpi .slt (iota .tc S512x512 32 [0] iota_S512x512_d0_w32) (broadcast S512x512 0#32)) natLt_1_32))
        (broadcast S512x512 (Scalar.subi (Scalar.extui (Scalar.cmpi .sgt 64#32 0#32)) (Scalar.extui (Scalar.cmpi .slt 64#32 0#32)))))
        (cmpi .ne (remsi (iota .tc S512x512 32 [0] iota_S512x512_d0_w32) (broadcast S512x512 64#32)) (broadcast S512x512 0#32)))
      (subi (divsi (iota .tc S512x512 32 [0] iota_S512x512_d0_w32) (broadcast S512x512 64#32)) (broadcast S512x512 1#32))
      (divsi (iota .tc S512x512 32 [0] iota_S512x512_d0_w32) (broadcast S512x512 64#32)))

theorem position0 (i : S512x512.Idx) : iota .tc S512x512 32 [0] iota_S512x512_d0_w32 i = BitVec.ofNat 32 (i 0).val := iota_single_apply ..
theorem position1 (i : S512x512.Idx) : iota .tc S512x512 32 [1] iota_S512x512_d1_w32 i = BitVec.ofNat 32 (i 1).val := iota_single_apply ..

theorem mask_at (i : S512x512.Idx) : mask i = IntOp.cmpi .sle (BitVec.ofNat 32 ((i 1).val / 64)) (BitVec.ofNat 32 ((i 0).val / 64)) := by
  have h0 := chunk_word .vector (i 0).val (i 0).isLt
  have h1 := chunk_word .vector (i 1).val (i 1).isLt
  rw [← h0, ← h1, ← position0, ← position1]
  rfl

theorem mask_eq (i : S512x512.Idx) : mask i = 1#1 ↔ (i 1).val / 64 ≤ (i 0).val / 64 := by
  rw [mask_at]
  exact chunk_le _ _ (lt_trans (i 0).isLt (by decide)) (lt_trans (i 1).isLt (by decide))

/-! ## A block of queries against a block of keys -/

section Pair

variable (q k v g : ℕ → ℕ → ℝ) (μ : ℕ → ℝ) (hq0 : ∀ i d, 96 ≤ d → q i d = 0) (b j : ℕ)
  {x1 : Vec Ideal S1x512x128 .bf16} {x2 : Vec Ideal S1x512x64 .bf16} {Q : Vec Ideal S1x512x128 .bf16} {G : Vec Ideal S1x512x64 .bf16}
  {L : Vec Ideal S1x512x1 .f32} {D : Vec Ideal S512x1 .f32}
  (h1 : ∀ y, x1 y = ((k (512 * j + (y 1).val) (y 2).val : ℝ) : EReal)) (h2 : ∀ y, x2 y = ((v (512 * j + (y 1).val) (y 2).val : ℝ) : EReal))
  (hQ : ∀ y, Q y = ((q (512 * b + (y 1).val) (y 2).val : ℝ) : EReal)) (hG : ∀ y, G y = ((g (512 * b + (y 1).val) (y 2).val : ℝ) : EReal))
  (hL : ∀ y, L y = ((μ (512 * b + (y 1).val) + Real.log (tot q k scale (μ (512 * b + (y 1).val)) (512 * b + (y 1).val)) : ℝ) : EReal))
  (hD : ∀ y, D y = ((dot q k v g scale (512 * b + (y 0).val) : ℝ) : EReal))

include h1 in
theorem keys_at (y : S512x128.Idx) : k0_pay17 (F := Ideal) x1 y = ((k (512 * j + (y 0).val) (y 1).val : ℝ) : EReal) :=
  (drop_head x1 shapeCasts_S1x512x128_S512x128 y).trans (h1 _)

include h2 in
theorem values_at (y : S512x64.Idx) : k0_pay18 (F := Ideal) x2 y = ((v (512 * j + (y 0).val) (y 1).val : ℝ) : EReal) :=
  (drop_head x2 shapeCasts_S1x512x64_S512x64 y).trans (h2 _)

include hQ in
theorem queries_at (y : S512x128.Idx) : k0_pay21 (F := Ideal) Q y = ((q (512 * b + (y 0).val) (y 1).val : ℝ) : EReal) :=
  (drop_head Q shapeCasts_S1x512x128_S512x128 y).trans (hQ _)

include hG in
theorem grads_at (y : S512x64.Idx) : k0_pay22 (F := Ideal) G y = ((g (512 * b + (y 0).val) (y 1).val : ℝ) : EReal) :=
  (drop_head G shapeCasts_S1x512x64_S512x64 y).trans (hG _)

include hL in
theorem logs_at (i : S512x512.Idx) : broadcastTo S512x512 (shapeCast S512x1 L shapeCasts_S1x512x1_S512x1) broadcasts_S512x1_S512x512 i
    = ((μ (512 * b + (i 0).val) + Real.log (tot q k scale (μ (512 * b + (i 0).val)) (512 * b + (i 0).val)) : ℝ) : EReal) := by
  rw [column_at]
  exact (drop_head L shapeCasts_S1x512x1_S512x1 _).trans (hL _)

include hD in
theorem dots_at (i : S512x512.Idx) : broadcastTo S512x512 D broadcasts_S512x1_S512x512 i = ((dot q k v g scale (512 * b + (i 0).val) : ℝ) : EReal) := by
  rw [column_at]
  exact hD _

include hq0 in
/-- The scores over the 128 lanes are those over the first 96. -/
theorem score_lanes (i j : ℕ) : (∑ d ∈ range 128, q i d * k j d) * scale = score q k scale i j := by
  unfold score
  rw [show (128 : ℕ) = 96 + 32 from rfl, Finset.sum_range_add,
    Finset.sum_eq_zero (s := range 32) fun d _ => by rw [hq0 i _ (Nat.le_add_right _ _), zero_mul], add_zero]

include hq0 h1 hQ in
theorem scores_at (i : S512x512.Idx) : k0_pay23 (F := Ideal) x1 Q i
    = ((score q k scale (512 * b + (i 0).val) (512 * j + (i 1).val) : ℝ) : EReal) := by
  refine (congrArg₂ (· * ·) (product_lanes _ _ (fun y d => q (512 * b + y) d) (fun z d => k (512 * j + z) d) (queries_at q b hQ) (keys_at k j h1) i)
    scale_word).trans ?_
  rw [← EReal.coe_mul, score_lanes q k hq0]

include hq0 h1 hQ hL in
/-- The probabilities of a later block of queries. -/
theorem probs_later (hb : j < b) (i : S512x512.Idx) : k0_pay3 (F := Ideal) (k0_pay17 x1) Q L i
    = ((prob q k scale (512 * b + (i 0).val) (512 * j + (i 1).val) : ℝ) : EReal) := by
  refine (congrArg₂ (fun x y : EReal => Ideal.exp (x - y)) (scores_at q k hq0 b j h1 hQ i) (logs_at q k μ b hL i)).trans ?_
  dsimp only
  rw [← EReal.coe_sub, Ideal.exp_coe, prob_log _ (sees_block hb (i 1).isLt)]

include hq0 h1 hQ hL in
/-- The probabilities of the block of queries on the diagonal. -/
theorem probs_diag (hb : b = j) (i : S512x512.Idx) :
    k0_pay26 (F := Ideal) (k0_pay23 x1 Q) (iota .tc S512x512 32 [1] iota_S512x512_d1_w32) 64#32 k0_pay24 k0_pay25
      (Scalar.subi (Scalar.extui (Scalar.cmpi .sgt 64#32 0#32)) (Scalar.extui (Scalar.cmpi .slt 64#32 0#32))) L i
    = ((prob q k scale (512 * b + (i 0).val) (512 * j + (i 1).val) : ℝ) : EReal) := by
  have hm : (Named.named (F := Ideal) (φ := .f32) κ "mask" 0xF149F2CA#32 : EReal) = ⊥ :=
    IdealRules.named_const.ideal_named_scalar _ _ _ _ rfl
  refine (congrArg₂ (fun x y : EReal => Ideal.exp ((if mask i = 1#1 then x else (Named.named (F := Ideal) (φ := .f32) κ "mask" 0xF149F2CA#32 : EReal)) - y))
    (scores_at q k hq0 b j h1 hQ i) (logs_at q k μ b hL i)).trans ?_
  dsimp only
  subst hb
  by_cases h : mask i = 1#1
  · rw [if_pos h, ← EReal.coe_sub, Ideal.exp_coe, prob_log _ (sees_diag.mpr ((mask_eq i).mp h))]
  · rw [if_neg h, hm, EReal.bot_sub, Ideal.exp_bot, prob_unseen (fun hs => h ((mask_eq i).mpr (sees_diag.mp hs))), EReal.coe_zero]

include h2 hG in
theorem dprobs_at (i : S512x512.Idx) : k0_pay27 (F := Ideal) (k0_pay18 x2) (k0_pay22 G) i
    = ((dprob v g (512 * b + (i 0).val) (512 * j + (i 1).val) : ℝ) : EReal) :=
  product_heads _ _ (fun y d => g (512 * b + y) d) (fun z d => v (512 * j + z) d) (grads_at g b hG) (values_at v j h2) i

variable {P : FVec Ideal S512x512 .f32} (hP : ∀ i, P i = ((prob q k scale (512 * b + (i 0).val) (512 * j + (i 1).val) : ℝ) : EReal))

include h2 hG hD hP in
theorem dscores_at (i : S512x512.Idx) : k0_pay28 (F := Ideal) P (k0_pay27 (k0_pay18 x2) (k0_pay22 G)) D i
    = ((dscore q k v g scale (512 * b + (i 0).val) (512 * j + (i 1).val) : ℝ) : EReal) := by
  refine (congrArg₂ (· * ·) (congrArg₂ (· * ·) (hP i) (congrArg₂ (· - ·) (dprobs_at v g b j h2 hG i) (dots_at q k v g b hD i))) scale_word).trans ?_
  rw [← EReal.coe_sub, ← EReal.coe_mul, ← EReal.coe_mul]
  rfl

include h1 h2 hG hD hP in
/-- The rows of dq gain the keys' part. -/
theorem dq_block {X : Vec Ideal S1x512x128 .f32} (f : ℕ → ℕ → ℝ) (hX : ∀ y, X y = ((f (y 1).val (y 2).val : ℝ) : EReal)) (y : S1x512x128.Idx) :
    k0_pay29 (F := Ideal) (k0_pay17 x1) P (k0_pay27 (k0_pay18 x2) (k0_pay22 G)) D X y
      = ((f (y 1).val (y 2).val + dqPart q k v g scale j (512 * b + (y 1).val) (y 2).val : ℝ) : EReal) := by
  unfold k0_pay29
  dsimp only
  refine (add_head _ shapeCasts_S512x128_S1x512x128 y).trans ?_
  refine (congrArg₂ (· + ·) ((drop_head X shapeCasts_S1x512x128_S512x128 _).trans (hX _))
    (product_keys _ _ (fun y z => dscore q k v g scale (512 * b + y) (512 * j + z)) (fun z d => k (512 * j + z) d)
      (dscores_at q k v g b j h2 hG hD hP) (keys_at k j h1) _)).trans ?_
  rw [← EReal.coe_add]
  rfl

include h2 hQ hG hD hP in
/-- The sum of dk gains the queries' part. -/
theorem dk_block {X : FVec Ideal S512x128 .f32} (f : ℕ → ℕ → ℝ) (hX : ∀ y, X y = ((f (y 0).val (y 1).val : ℝ) : EReal)) (y : S512x128.Idx) :
    k0_pay30 (F := Ideal) X (k0_pay21 Q) P (k0_pay27 (k0_pay18 x2) (k0_pay22 G)) D y
      = ((f (y 0).val (y 1).val + dkPart q k v g scale b (512 * j + (y 0).val) (y 1).val : ℝ) : EReal) := by
  refine (congrArg₂ (· + ·) (hX y)
    (product_queries _ _ (fun y z => dscore q k v g scale (512 * b + y) (512 * j + z)) (fun y d => q (512 * b + y) d)
      (dscores_at q k v g b j h2 hG hD hP) (queries_at q b hQ) y)).trans ?_
  rw [← EReal.coe_add]
  rfl

include hG hP in
/-- The sum of dv gains the queries' part. -/
theorem dv_block {X : FVec Ideal S512x64 .f32} (f : ℕ → ℕ → ℝ) (hX : ∀ y, X y = ((f (y 0).val (y 1).val : ℝ) : EReal)) (y : S512x64.Idx) :
    k0_pay31 (F := Ideal) X (k0_pay22 G) P y
      = ((f (y 0).val (y 1).val + dvPart q k g scale b (512 * j + (y 0).val) (y 1).val : ℝ) : EReal) := by
  refine (congrArg₂ (· + ·) (hX y)
    (product_outputs _ _ (fun y z => prob q k scale (512 * b + y) (512 * j + z)) (fun y d => g (512 * b + y) d) hP (grads_at g b hG) y)).trans ?_
  rw [← EReal.coe_add]
  rfl

end Pair

end Cert.KernelIdeal.Blocks

end
-- ==== Proof.RunBody.lean ====
/- The kernel's body runs, and what it leaves in each buffer. -/
module

public import proofs.«01_k».proof.Proof.Step

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords)
  (arg2 : Memref sig .tc .vmem S1x4096x128 .bf16) (harg2 : arg2.IsWhole) (arg3 : Memref sig .tc .vmem S1x512x128 .bf16) (harg3 : arg3.IsWhole)
  (arg4 : Memref sig .tc .vmem S1x512x64 .bf16) (harg4 : arg4.IsWhole) (arg5 : Memref sig .tc .vmem S1x4096x64 .bf16) (harg5 : arg5.IsWhole)
  (arg6 : Memref sig .tc .vmem S1x4096x64 .bf16) (harg6 : arg6.IsWhole) (arg7 : Memref sig .tc .vmem S1x4096x1 .f32) (harg7 : arg7.IsWhole)
  (arg8 : Memref sig .tc .vmem S1x4096x128 .f32) (harg8 : arg8.IsWhole) (arg9 : Memref sig .tc .vmem S1x512x128 .f32) (harg9 : arg9.IsWhole)
  (arg10 : Memref sig .tc .vmem S1x512x64 .f32) (harg10 : arg10.IsWhole) (arg11 : Memref sig .tc .vmem S4096x1 .f32) (harg11 : arg11.IsWhole)
  (x0 : Vec F S1x4096x128 .bf16) (x1 : Vec F S1x512x128 .bf16) (x2 : Vec F S1x512x64 .bf16) (x3 x4 : Vec F S1x4096x64 .bf16)
  (x5 : Vec F S1x4096x1 .f32)

/-- The condition of the body's conditional: the point is the first of its head. -/
abbrev isFirst (i : grid0.Coords) : Prop := (Scalar.cmpi .ne (Scalar.extui (Scalar.cmpi .eq (BitVec.ofNat 32 (i 1).val) 0#32)) 0#32) = 1#1

set_option maxHeartbeats 1000000 in
/-- The body at a later point: it goes on from the block of dq and the row sums it finds. -/
theorem run_B (hc : ¬isFirst i) (X : Vec F S1x4096x128 .f32) (D : Vec F S4096x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare X ∗ (∃ d, owns (c : Thread nD τ) arg9 fullShare d) ∗ (∃ d, owns (c : Thread nD τ) arg10 fullShare d) ∗ owns (c : Thread nD τ) arg11 fullShare D
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (point x0 x1 x2 x3 x5 D (i 1).val X).1 ∗ owns (c : Thread nD τ) arg9 fullShare (k0_pay34 (point x0 x1 x2 x3 x5 D (i 1).val X).2.1) ∗ owns (c : Thread nD τ) arg10 fullShare (k0_pay35 (point x0 x1 x2 x3 x5 D (i 1).val X).2.2) ∗ owns (c : Thread nD τ) arg11 fullShare D) -∗ K ⟨⟩))
      ⊢ wp frame (wpE (defs₀ (F := F)) Variants.none c none) E (cc0_attn_b i arg2 harg2 arg3 harg3 arg4 harg4 arg5 harg5 arg6 harg6 arg7 harg7 arg8 harg8 arg9 harg9 arg10 harg10 arg11 harg11) K := by
  have hi : (i 1).val < 8 := (i 1).isLt
  simp only [cc0_attn_b_eq_skeleton]; unfold cc0_attn_b_skel
  simp only [k0_part5_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  obtain rfl := harg8.eq_unread hf6; obtain rfl := harg11.eq_unread hfs0
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    clear hf0 hf1 hf2 hf3 hf4 hf5 K E
    sl_unfold_run_names
    simp only [show Scf.trips (k0_t2_loop i).lb (k0_t2_loop i).ub (k0_t2_loop i).st = 0 from trips2 i, st_k0_t2.eq_1]
    simp only [readAt_rows _ _ hi _ (off1_eq i), readAt_rows _ _ hi _ (off2_eq i), readAt_rows _ _ hi _ (off3_eq i), readAt_rowsC _ _ hi _ (off4_eq i),
      readAt_whole, read_writes_whole, read_writes_wholeC, List.nil_append, View.writes_append,
      harg2.read_unread, harg3.read_unread, harg4.read_unread, harg5.read_unread, harg6.read_unread, harg7.read_unread, harg8.read_unread, harg11.read_unread]
    refine st_fst Variants.none c none i arg2 harg2 arg3 harg3 arg4 harg4 arg5 harg5 arg6 harg6 arg7 harg7 arg8 harg8 arg9 harg9 arg10 harg10 arg11 harg11 x0 x1 x2 x3 x5
      D _ (first x0 x1 x2 x3 x5 D (i 1).val X) _ ?_ _ ?_
    · refine (read_writes_rows (b := (i 1).val) arg8.view _ _ _ _ (off1_eq i)).trans ?_
      rw [View.writes_nil, harg8.read_unread]
      rfl
    · exact harg11.read_unread D
  isplitl [H7]
  · iexists _; isplitr; swap; · iexact H7
    ipureintro
    clear hf0 hf1 hf2 hf3 hf4 hf5 K E
    sl_unfold_run_names
    simp only [show Scf.trips (k0_t2_loop i).lb (k0_t2_loop i).ub (k0_t2_loop i).st = 0 from trips2 i, st_k0_t2.eq_1]
    simp only [readAt_rows _ _ hi _ (off1_eq i), readAt_rows _ _ hi _ (off2_eq i), readAt_rows _ _ hi _ (off3_eq i), readAt_rowsC _ _ hi _ (off4_eq i),
      readAt_whole, read_writes_whole, read_writes_wholeC, List.nil_append, View.writes_append,
      harg2.read_unread, harg3.read_unread, harg4.read_unread, harg5.read_unread, harg6.read_unread, harg7.read_unread, harg8.read_unread, harg11.read_unread]
    refine congrArg (fun s : FVec F S512x128 .f32 × FVec F S512x64 .f32 => k0_pay34 s.1) (st_snd Variants.none c none i arg2 harg2 arg3 harg3 arg4 harg4 arg5 harg5 arg6 harg6 arg7 harg7 arg8 harg8 arg9 harg9 arg10 harg10 arg11 harg11 x0 x1 x2 x3 x5
      D _ (first x0 x1 x2 x3 x5 D (i 1).val X) _ ?_ _ ?_)
    · refine (read_writes_rows (b := (i 1).val) arg8.view _ _ _ _ (off1_eq i)).trans ?_
      rw [View.writes_nil, harg8.read_unread]
      rfl
    · exact harg11.read_unread D
  isplitl [H8]
  · iexists _; isplitr; swap; · iexact H8
    ipureintro
    clear hf0 hf1 hf2 hf3 hf4 hf5 K E
    sl_unfold_run_names
    simp only [show Scf.trips (k0_t2_loop i).lb (k0_t2_loop i).ub (k0_t2_loop i).st = 0 from trips2 i, st_k0_t2.eq_1]
    simp only [readAt_rows _ _ hi _ (off1_eq i), readAt_rows _ _ hi _ (off2_eq i), readAt_rows _ _ hi _ (off3_eq i), readAt_rowsC _ _ hi _ (off4_eq i),
      readAt_whole, read_writes_whole, read_writes_wholeC, List.nil_append, View.writes_append,
      harg2.read_unread, harg3.read_unread, harg4.read_unread, harg5.read_unread, harg6.read_unread, harg7.read_unread, harg8.read_unread, harg11.read_unread]
    refine congrArg (fun s : FVec F S512x128 .f32 × FVec F S512x64 .f32 => k0_pay35 s.2) (st_snd Variants.none c none i arg2 harg2 arg3 harg3 arg4 harg4 arg5 harg5 arg6 harg6 arg7 harg7 arg8 harg8 arg9 harg9 arg10 harg10 arg11 harg11 x0 x1 x2 x3 x5
      D _ (first x0 x1 x2 x3 x5 D (i 1).val X) _ ?_ _ ?_)
    · refine (read_writes_rows (b := (i 1).val) arg8.view _ _ _ _ (off1_eq i)).trans ?_
      rw [View.writes_nil, harg8.read_unread]
      rfl
    · exact harg11.read_unread D
  iexists _; isplitr; swap; · iexact HS0
  ipureintro
  exact harg11.read_unread D

end Cert.KernelIdeal.Body
-- ==== Proof.Points.lean ====
/- What a point of the grid leaves, over the reals: the block of dq gains one block of keys' part, and the sums are the
   whole gradients of that block of keys and values. -/
module

public import proofs.«01_k».proof.Proof.Blocks
public import proofs.«01_k».proof.Proof.RunBody

@[expose] public section

set_option maxRecDepth 16384

noncomputable section

namespace Cert.KernelIdeal.Points

open Cert.KernelIdeal Cert.KernelIdeal.Gen Cert.KernelIdeal.Body Cert.KernelIdeal.Blocks Idealize.ShloMosaic Idealize.ShloMosaic.TcCoe Cert.Args Cert.Attn
open Finset (range)

theorem rows_real {d b : ℕ} (hb : b < 8) {X : (⟨3, ![1, 4096, d]⟩ : Shape).Idx → EReal} (f : ℕ → ℕ → ℝ)
    (hX : ∀ y, X y = ((f (y 1).val (y 2).val : ℝ) : EReal)) (y : (⟨3, ![1, 512, d]⟩ : Shape).Idx) :
    rows X b y = ((f (512 * b + (y 1).val) (y 2).val : ℝ) : EReal) := by
  have hy : (y 1).val < 512 := (y 1).isLt
  refine (hX _).trans ?_
  show ((f ((512 * b + (y 1).val) % 4096) (y 2).val : ℝ) : EReal) = _
  rw [Nat.mod_eq_of_lt (by omega)]

theorem rowsC_real {b : ℕ} (hb : b < 8) {X : (⟨2, ![4096, 1]⟩ : Shape).Idx → EReal} (f : ℕ → ℝ)
    (hX : ∀ y, X y = ((f (y 0).val : ℝ) : EReal)) (y : (⟨2, ![512, 1]⟩ : Shape).Idx) :
    rowsC X b y = ((f (512 * b + (y 0).val) : ℝ) : EReal) := by
  have hy : (y 0).val < 512 := (y 0).isLt
  refine (hX _).trans ?_
  show ((f ((512 * b + (y 0).val) % 4096) : ℝ) : EReal) = _
  rw [Nat.mod_eq_of_lt (by omega)]

/-- Rows replaced by themselves and a part more. -/
theorem put_real {b : ℕ} {X : (⟨3, ![1, 4096, 128]⟩ : Shape).Idx → EReal} {w : (⟨3, ![1, 512, 128]⟩ : Shape).Idx → EReal} (f p : ℕ → ℕ → ℝ)
    (hX : ∀ y, X y = ((f (y 1).val (y 2).val : ℝ) : EReal))
    (hw : ∀ y, w y = ((f (512 * b + (y 1).val) (y 2).val + p (512 * b + (y 1).val) (y 2).val : ℝ) : EReal))
    (y : (⟨3, ![1, 4096, 128]⟩ : Shape).Idx) :
    putRows X b w y = ((f (y 1).val (y 2).val + (if (y 1).val / 512 = b then p (y 1).val (y 2).val else 0) : ℝ) : EReal) := by
  unfold putRows VecWindow.put
  split
  · rename_i h
    have h1 : 512 * b ≤ (y 1).val ∧ (y 1).val < 512 * b + 512 := h 1
    rw [hw, if_pos (by omega)]
    show ((f (512 * b + ((y 1).val - 512 * b)) ((y 2).val - 0) + p (512 * b + ((y 1).val - 512 * b)) ((y 2).val - 0) : ℝ) : EReal) = _
    rw [Nat.add_sub_cancel' h1.1, Nat.sub_zero]
  · rename_i h
    rw [hX, if_neg, add_zero]
    intro hb
    refine h fun a => ?_
    match a with
    | ⟨0, _⟩ => exact ⟨Nat.zero_le _, by show (y 0).val < 0 + 1; have : (y 0).val < 1 := (y 0).isLt; omega⟩
    | ⟨1, _⟩ => show 512 * b ≤ (y 1).val ∧ (y 1).val < 512 * b + 512; omega
    | ⟨2, _⟩ => exact ⟨Nat.zero_le _, by show (y 2).val < 0 + 128; have : (y 2).val < 128 := (y 2).isLt; omega⟩

/-- The state holds these reals. -/
def Holds (s : State Ideal) (X A B : ℕ → ℕ → ℝ) : Prop :=
  (∀ y : S1x4096x128.Idx, s.1 y = ((X (y 1).val (y 2).val : ℝ) : EReal))
    ∧ (∀ y : S512x128.Idx, s.2.1 y = ((A (y 0).val (y 1).val : ℝ) : EReal))
    ∧ ∀ y : S512x64.Idx, s.2.2 y = ((B (y 0).val (y 1).val : ℝ) : EReal)

variable (q k v g : ℕ → ℕ → ℝ) (μ : ℕ → ℝ) (hq0 : ∀ i d, 96 ≤ d → q i d = 0) (j : ℕ) (hj : j < 8)
  {x0 : Vec Ideal S1x4096x128 .bf16} {x1 : Vec Ideal S1x512x128 .bf16} {x2 : Vec Ideal S1x512x64 .bf16} {x3 : Vec Ideal S1x4096x64 .bf16}
  {x5 : Vec Ideal S1x4096x1 .f32} {D : Vec Ideal S4096x1 .f32}
  (h0 : ∀ y, x0 y = ((q (y 1).val (y 2).val : ℝ) : EReal))
  (h1 : ∀ y, x1 y = ((k (512 * j + (y 1).val) (y 2).val : ℝ) : EReal)) (h2 : ∀ y, x2 y = ((v (512 * j + (y 1).val) (y 2).val : ℝ) : EReal))
  (h3 : ∀ y, x3 y = ((g (y 1).val (y 2).val : ℝ) : EReal))
  (h5 : ∀ y, x5 y = ((μ (y 1).val + Real.log (tot q k scale (μ (y 1).val) (y 1).val) : ℝ) : EReal))
  (hD : ∀ y, D y = ((dot q k v g scale (y 0).val : ℝ) : EReal))

include hq0 h0 h1 h2 h3 h5 hD in
/-- A later block of queries. -/
theorem step_holds {b : ℕ} (hjb : j < b) (hb : b < 8) {s : State Ideal} {X A B : ℕ → ℕ → ℝ} (hs : Holds s X A B) :
    Holds (step x0 x1 x2 x3 x5 D b s) (fun i d => X i d + if i / 512 = b then dqPart q k v g scale j i d else 0)
      (fun z d => A z d + dkPart q k v g scale b (512 * j + z) d) (fun z d => B z d + dvPart q k g scale b (512 * j + z) d) := by
  have hP := probs_later q k μ hq0 b j h1 (rows_real hb q h0)
    (rows_real hb (fun i _ => μ i + Real.log (tot q k scale (μ i) i)) h5) hjb
  have hG := rows_real hb g h3
  have hDb := rowsC_real hb (dot q k v g scale) hD
  refine ⟨put_real X (dqPart q k v g scale j) hs.1 ?_, ?_, ?_⟩
  · exact dq_block q k v g b j h1 h2 hG hDb hP (fun y d => X (512 * b + y) d) (rows_real hb X hs.1)
  · exact dk_block q k v g b j h2 (rows_real hb q h0) hG hDb hP A hs.2.1
  · exact dv_block q k g b j hG hP B hs.2.2

include hj hq0 h0 h1 h2 h3 h5 hD in
/-- The block of queries on the diagonal, into sums of zero. -/
theorem first_holds {X0 : Vec Ideal S1x4096x128 .f32} {X : ℕ → ℕ → ℝ} (hX : ∀ y, X0 y = ((X (y 1).val (y 2).val : ℝ) : EReal)) :
    Holds (first x0 x1 x2 x3 x5 D j X0) (fun i d => X i d + if i / 512 = j then dqPart q k v g scale j i d else 0)
      (fun z d => 0 + dkPart q k v g scale j (512 * j + z) d) (fun z d => 0 + dvPart q k g scale j (512 * j + z) d) := by
  have hP := probs_diag q k μ hq0 j j h1 (rows_real hj q h0)
    (rows_real hj (fun i _ => μ i + Real.log (tot q k scale (μ i) i)) h5) rfl
  have hG := rows_real hj g h3
  have hDb := rowsC_real hj (dot q k v g scale) hD
  refine ⟨put_real X (dqPart q k v g scale j) hX ?_, ?_, ?_⟩
  · exact dq_block q k v g j j h1 h2 hG hDb hP (fun y d => X (512 * j + y) d) (rows_real hj X hX)
  · exact dk_block q k v g j j h2 (rows_real hj q h0) hG hDb hP (fun _ _ => 0) (fun y => zero_word)
  · exact dv_block q k g j j hG hP (fun _ _ => 0) (fun y => zero_word)

include hj hq0 h0 h1 h2 h3 h5 hD in
theorem steps_holds {X0 : Vec Ideal S1x4096x128 .f32} {X : ℕ → ℕ → ℝ} (hX : ∀ y, X0 y = ((X (y 1).val (y 2).val : ℝ) : EReal)) (n : ℕ) (hn : j + n < 8) :
    Holds (steps x0 x1 x2 x3 x5 D j (first x0 x1 x2 x3 x5 D j X0) n)
      (fun i d => X i d + if j ≤ i / 512 ∧ i / 512 ≤ j + n then dqPart q k v g scale j i d else 0)
      (fun z d => ∑ m ∈ range (n + 1), dkPart q k v g scale (j + m) (512 * j + z) d)
      (fun z d => ∑ m ∈ range (n + 1), dvPart q k g scale (j + m) (512 * j + z) d) := by
  induction n with
  | zero =>
    obtain ⟨hx, ha, hb⟩ := first_holds q k v g μ hq0 j hj h0 h1 h2 h3 h5 hD hX
    refine ⟨fun y => (hx y).trans ?_, fun y => (ha y).trans ?_, fun y => (hb y).trans ?_⟩
    · have : ((y 1).val / 512 = j) = (j ≤ (y 1).val / 512 ∧ (y 1).val / 512 ≤ j + 0) := propext (by omega)
      simp only [this]
    · simp only [Finset.sum_range_one, zero_add, add_zero]
    · simp only [Finset.sum_range_one, zero_add, add_zero]
  | succ n ih =>
    obtain ⟨hx, ha, hb⟩ := step_holds q k v g μ hq0 j h0 h1 h2 h3 h5 hD (b := j + 1 + n) (by omega) (by omega) (ih (by omega))
    refine ⟨fun y => (hx y).trans ?_, fun y => (ha y).trans ?_, fun y => (hb y).trans ?_⟩
    · dsimp only
      rw [add_assoc (X _ _)]
      refine congrArg (fun r : ℝ => ((X (y 1).val (y 2).val + r : ℝ) : EReal)) ?_
      by_cases h : (y 1).val / 512 = j + 1 + n
      · rw [if_pos h, if_neg (by omega), if_pos (by omega), zero_add]
      · rw [if_neg h, add_zero]
        exact if_congr (by omega) rfl rfl
    · dsimp only
      rw [Finset.sum_range_succ _ (n + 1), show j + 1 + n = j + (n + 1) by omega]
    · dsimp only
      rw [Finset.sum_range_succ _ (n + 1), show j + 1 + n = j + (n + 1) by omega]

include hj hq0 h0 h1 h2 h3 h5 hD in
/-- A point leaves the rows of dq with its keys' part more, and the gradients of its keys and values. -/
theorem point_holds {X0 : Vec Ideal S1x4096x128 .f32} {X : ℕ → ℕ → ℝ} (hX : ∀ y, X0 y = ((X (y 1).val (y 2).val : ℝ) : EReal)) :
    Holds (point x0 x1 x2 x3 x5 D j X0) (fun i d => X i d + dqPart q k v g scale j i d)
      (fun z d => dk q k v g scale (512 * j + z) d) (fun z d => dv q k g scale (512 * j + z) d) := by
  obtain ⟨hx, ha, hb⟩ := steps_holds q k v g μ hq0 j hj h0 h1 h2 h3 h5 hD hX (7 - j) (by omega)
  refine ⟨fun y => (hx y).trans ?_, fun y => (ha y).trans ?_, fun y => (hb y).trans ?_⟩
  · refine congrArg (fun r : ℝ => ((X (y 1).val (y 2).val + r : ℝ) : EReal)) ?_
    have hy : (y 1).val < 4096 := (y 1).isLt
    by_cases h : j ≤ (y 1).val / 512
    · rw [if_pos (by omega)]
    · rw [if_neg (by omega)]
      have := dqPart_unseen (q := q) (k := k) (v := v) (g := g) (c := scale) (b := (y 1).val / 512) (j := j) (y := (y 1).val % 512) (d := (y 2).val) (by omega) (Nat.mod_lt _ (by decide))
      rw [Nat.div_add_mod] at this
      exact this.symm
  · dsimp only
    rw [dk_from hj, show 7 - j + 1 = 8 - j by omega]
  · dsimp only
    rw [dv_from hj, show 7 - j + 1 = 8 - j by omega]

end Cert.KernelIdeal.Points

end
-- ==== Proof.RunBodyA.lean ====
/- The kernel's body at the first point of a head. -/
module

public import proofs.«01_k».proof.Proof.RunBody

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords)
  (arg2 : Memref sig .tc .vmem S1x4096x128 .bf16) (harg2 : arg2.IsWhole) (arg3 : Memref sig .tc .vmem S1x512x128 .bf16) (harg3 : arg3.IsWhole)
  (arg4 : Memref sig .tc .vmem S1x512x64 .bf16) (harg4 : arg4.IsWhole) (arg5 : Memref sig .tc .vmem S1x4096x64 .bf16) (harg5 : arg5.IsWhole)
  (arg6 : Memref sig .tc .vmem S1x4096x64 .bf16) (harg6 : arg6.IsWhole) (arg7 : Memref sig .tc .vmem S1x4096x1 .f32) (harg7 : arg7.IsWhole)
  (arg8 : Memref sig .tc .vmem S1x4096x128 .f32) (harg8 : arg8.IsWhole) (arg9 : Memref sig .tc .vmem S1x512x128 .f32) (harg9 : arg9.IsWhole)
  (arg10 : Memref sig .tc .vmem S1x512x64 .f32) (harg10 : arg10.IsWhole) (arg11 : Memref sig .tc .vmem S4096x1 .f32) (harg11 : arg11.IsWhole)
  (x0 : Vec F S1x4096x128 .bf16) (x1 : Vec F S1x512x128 .bf16) (x2 : Vec F S1x512x64 .bf16) (x3 x4 : Vec F S1x4096x64 .bf16)
  (x5 : Vec F S1x4096x1 .f32)

set_option maxHeartbeats 1000000 in
/-- The body at the first point of a head: it clears the block of dq and takes the row sums. -/
theorem run_A (hc : isFirst i) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (point x0 x1 x2 x3 x5 (k0_pay16 x3 x4) (i 1).val k0_pay15).1 ∗ owns (c : Thread nD τ) arg9 fullShare (k0_pay34 (point x0 x1 x2 x3 x5 (k0_pay16 x3 x4) (i 1).val k0_pay15).2.1) ∗ owns (c : Thread nD τ) arg10 fullShare (k0_pay35 (point x0 x1 x2 x3 x5 (k0_pay16 x3 x4) (i 1).val k0_pay15).2.2) ∗ owns (c : Thread nD τ) arg11 fullShare (k0_pay16 x3 x4)) -∗ K ⟨⟩))
      ⊢ wp frame (wpE (defs₀ (F := F)) Variants.none c none) E (cc0_attn_b i arg2 harg2 arg3 harg3 arg4 harg4 arg5 harg5 arg6 harg6 arg7 harg7 arg8 harg8 arg9 harg9 arg10 harg10 arg11 harg11) K := by
  have hi : (i 1).val < 8 := (i 1).isLt
  simp only [cc0_attn_b_eq_skeleton]; unfold cc0_attn_b_skel
  simp only [k0_part5_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    clear hf0 hf1 hf2 hf3 hf4 hf5 K E
    sl_unfold_run_names
    simp only [show Scf.trips (k0_t2_loop i).lb (k0_t2_loop i).ub (k0_t2_loop i).st = 0 from trips2 i, st_k0_t2.eq_1]
    simp only [readAt_rows _ _ hi _ (off1_eq i), readAt_rows _ _ hi _ (off2_eq i), readAt_rows _ _ hi _ (off3_eq i), readAt_rowsC _ _ hi _ (off4_eq i),
      readAt_whole, read_writes_whole, read_writes_wholeC, List.nil_append, View.writes_append,
      harg2.read_unread, harg3.read_unread, harg4.read_unread, harg5.read_unread, harg6.read_unread, harg7.read_unread, harg8.read_unread, harg11.read_unread]
    refine st_fst Variants.none c none i arg2 harg2 arg3 harg3 arg4 harg4 arg5 harg5 arg6 harg6 arg7 harg7 arg8 harg8 arg9 harg9 arg10 harg10 arg11 harg11 x0 x1 x2 x3 x5
      (k0_pay16 x3 x4) _ (first x0 x1 x2 x3 x5 (k0_pay16 x3 x4) (i 1).val k0_pay15) _ ?_ _ ?_
    · refine (read_writes_rows (b := (i 1).val) arg8.view _ _ _ _ (off1_eq i)).trans ?_
      rw [read_writes_whole]
      rfl
    · exact read_writes_wholeC _ _ _ _ _
  isplitl [H7]
  · iexists _; isplitr; swap; · iexact H7
    ipureintro
    clear hf0 hf1 hf2 hf3 hf4 hf5 K E
    sl_unfold_run_names
    simp only [show Scf.trips (k0_t2_loop i).lb (k0_t2_loop i).ub (k0_t2_loop i).st = 0 from trips2 i, st_k0_t2.eq_1]
    simp only [readAt_rows _ _ hi _ (off1_eq i), readAt_rows _ _ hi _ (off2_eq i), readAt_rows _ _ hi _ (off3_eq i), readAt_rowsC _ _ hi _ (off4_eq i),
      readAt_whole, read_writes_whole, read_writes_wholeC, List.nil_append, View.writes_append,
      harg2.read_unread, harg3.read_unread, harg4.read_unread, harg5.read_unread, harg6.read_unread, harg7.read_unread, harg8.read_unread, harg11.read_unread]
    refine congrArg (fun s : FVec F S512x128 .f32 × FVec F S512x64 .f32 => k0_pay34 s.1) (st_snd Variants.none c none i arg2 harg2 arg3 harg3 arg4 harg4 arg5 harg5 arg6 harg6 arg7 harg7 arg8 harg8 arg9 harg9 arg10 harg10 arg11 harg11 x0 x1 x2 x3 x5
      (k0_pay16 x3 x4) _ (first x0 x1 x2 x3 x5 (k0_pay16 x3 x4) (i 1).val k0_pay15) _ ?_ _ ?_)
    · refine (read_writes_rows (b := (i 1).val) arg8.view _ _ _ _ (off1_eq i)).trans ?_
      rw [read_writes_whole]
      rfl
    · exact read_writes_wholeC _ _ _ _ _
  isplitl [H8]
  · iexists _; isplitr; swap; · iexact H8
    ipureintro
    clear hf0 hf1 hf2 hf3 hf4 hf5 K E
    sl_unfold_run_names
    simp only [show Scf.trips (k0_t2_loop i).lb (k0_t2_loop i).ub (k0_t2_loop i).st = 0 from trips2 i, st_k0_t2.eq_1]
    simp only [readAt_rows _ _ hi _ (off1_eq i), readAt_rows _ _ hi _ (off2_eq i), readAt_rows _ _ hi _ (off3_eq i), readAt_rowsC _ _ hi _ (off4_eq i),
      readAt_whole, read_writes_whole, read_writes_wholeC, List.nil_append, View.writes_append,
      harg2.read_unread, harg3.read_unread, harg4.read_unread, harg5.read_unread, harg6.read_unread, harg7.read_unread, harg8.read_unread, harg11.read_unread]
    refine congrArg (fun s : FVec F S512x128 .f32 × FVec F S512x64 .f32 => k0_pay35 s.2) (st_snd Variants.none c none i arg2 harg2 arg3 harg3 arg4 harg4 arg5 harg5 arg6 harg6 arg7 harg7 arg8 harg8 arg9 harg9 arg10 harg10 arg11 harg11 x0 x1 x2 x3 x5
      (k0_pay16 x3 x4) _ (first x0 x1 x2 x3 x5 (k0_pay16 x3 x4) (i 1).val k0_pay15) _ ?_ _ ?_)
    · refine (read_writes_rows (b := (i 1).val) arg8.view _ _ _ _ (off1_eq i)).trans ?_
      rw [read_writes_whole]
      rfl
    · exact read_writes_wholeC _ _ _ _ _
  iexists _; isplitr; swap; · iexact HS0
  ipureintro
  sl_unfold_run_names
  simp only [readAt_whole, harg5.read_unread, harg6.read_unread, read_writes_wholeC]
  rfl

end Cert.KernelIdeal.Body
-- ==== Proof.RunMain.lean ====
/- The kernel's launch: what the windows and the scratch hold from point to point, the run, and its frame. -/
module

public import proofs.«01_k».proof.Proof.RunBodyA
public import proofs.«01_k».proof.Proof.Gen.KernelIdeal.Frame
public import Idealize.ShloMosaic.Lib.Claim

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The grid -/

theorem coord0 (t : Fin cfg0.N) : (grid0.coords t 0).val = t.val / 8 := by
  have ht : t.val < 128 := Nat.lt_of_lt_of_eq t.isLt N_0
  have e0 : (grid0.coords t 0).val = t.val / 8 % 16 := Pipeline.Grid.coords_val t 0 (by decide) rfl
  omega

theorem coord1 (t : Fin cfg0.N) : (grid0.coords t 1).val = t.val % 8 := by
  have e1 : (grid0.coords t 1).val = t.val / 1 % 8 := Pipeline.Grid.coords_val t 1 (by decide) rfl
  omega

/-- A point is the first of its head exactly when its second coordinate is 0. -/
theorem isFirst_iff (t : Fin cfg0.N) : isFirst (grid0.coords t) ↔ t.val % 8 = 0 := by
  have ht : t.val < 128 := Nat.lt_of_lt_of_eq t.isLt N_0
  simp only [isFirst, coord1]
  word_cmp

/-! ## What the buffers hold -/

variable (m : (ℓ : Loc nD τ sig) → Buf (Elt F) ℓ) (ρ : Dev nD → PrngReg)

/-- What a head starts from: a cleared block of dq, and the row sums of do·o. -/
def fresh (c : Dev nD) (t : Fin cfg0.N) : Vec F S1x4096x128 .f32 × Vec F S4096x1 .f32 :=
  (k0_pay15, k0_pay16 (iblk m c 3 t) (iblk m c 4 t))

/-- What a point leaves, run from the block of dq and the row sums in `s`. -/
def ran (c : Dev nD) (t : Fin cfg0.N) (s : Vec F S1x4096x128 .f32 × Vec F S4096x1 .f32) : State F :=
  point (iblk m c 0 t) (iblk m c 1 t) (iblk m c 2 t) (iblk m c 3 t) (iblk m c 5 t) s.2 (grid0.coords t 1).val s.1

/-- What the block of dq and the row sums hold when a point's blocks begin. -/
def start (c : Dev nD) : (n : ℕ) → n < cfg0.N → Vec F S1x4096x128 .f32 × Vec F S4096x1 .f32
  | 0, hn => fresh m c ⟨0, hn⟩
  | n + 1, hn =>
    if (n + 1) % 8 = 0 then fresh m c ⟨n + 1, hn⟩
    else ((ran m c ⟨n, Nat.lt_of_succ_lt hn⟩ (start c n (Nat.lt_of_succ_lt hn))).1, (start c n (Nat.lt_of_succ_lt hn)).2)

/-- What point `t` leaves. -/
def left (c : Dev nD) (t : Fin cfg0.N) : State F := ran m c t (start m c t.val t.isLt)

theorem start_first (c : Dev nD) (t : Fin cfg0.N) (h : t.val % 8 = 0) : start m c t.val t.isLt = fresh m c t := by
  obtain ⟨n, hn⟩ := t
  cases n with
  | zero => rfl
  | succ n => exact if_pos h

theorem start_next (c : Dev nD) (t : Fin cfg0.N) (h : ¬t.val % 8 = 0) :
    start m c t.val t.isLt = ((left m c ⟨t.val - 1, Nat.lt_of_le_of_lt (Nat.sub_le _ _) t.isLt⟩).1,
      (start m c (t.val - 1) (Nat.lt_of_le_of_lt (Nat.sub_le _ _) t.isLt)).2) := by
  obtain ⟨n, hn⟩ := t
  cases n with
  | zero => exact absurd (Nat.zero_mod _) h
  | succ n => exact if_neg h

theorem left_first (c : Dev nD) (t : Fin cfg0.N) (h : t.val % 8 = 0) :
    left m c t = point (iblk m c 0 t) (iblk m c 1 t) (iblk m c 2 t) (iblk m c 3 t) (iblk m c 5 t)
      (k0_pay16 (iblk m c 3 t) (iblk m c 4 t)) (grid0.coords t 1).val k0_pay15 := by
  unfold left; rw [start_first m c t h]; rfl

theorem left_next (c : Dev nD) (t : Fin cfg0.N) (h : ¬t.val % 8 = 0) :
    left m c t = point (iblk m c 0 t) (iblk m c 1 t) (iblk m c 2 t) (iblk m c 3 t) (iblk m c 5 t)
      (start m c (t.val - 1) (Nat.lt_of_le_of_lt (Nat.sub_le _ _) t.isLt)).2 (grid0.coords t 1).val
      (left m c ⟨t.val - 1, Nat.lt_of_le_of_lt (Nat.sub_le _ _) t.isLt⟩).1 := by
  show ran m c t _ = _
  rw [start_next m c t h]; rfl

/-! ## The memrefs the body is called with -/

abbrev ms0 (t : Fin cfg0.N) : Memref sig .tc .vmem S1x4096x128 .bf16 := win0_0.stage (cfg0.slots t 0)
abbrev ms1 (t : Fin cfg0.N) : Memref sig .tc .vmem S1x512x128 .bf16 := win0_1.stage (cfg0.slots t 1)
abbrev ms2 (t : Fin cfg0.N) : Memref sig .tc .vmem S1x512x64 .bf16 := win0_2.stage (cfg0.slots t 2)
abbrev ms3 (t : Fin cfg0.N) : Memref sig .tc .vmem S1x4096x64 .bf16 := win0_3.stage (cfg0.slots t 3)
abbrev ms4 (t : Fin cfg0.N) : Memref sig .tc .vmem S1x4096x64 .bf16 := win0_4.stage (cfg0.slots t 4)
abbrev ms5 (t : Fin cfg0.N) : Memref sig .tc .vmem S1x4096x1 .f32 := win0_5.stage (cfg0.slots t 5)
abbrev ms6 (t : Fin cfg0.N) : Memref sig .tc .vmem S1x4096x128 .f32 := win0_6.stage (cfg0.slots t 6)
abbrev ms7 (t : Fin cfg0.N) : Memref sig .tc .vmem S1x512x128 .f32 := win0_7.stage (cfg0.slots t 7)
abbrev ms8 (t : Fin cfg0.N) : Memref sig .tc .vmem S1x512x64 .f32 := win0_8.stage (cfg0.slots t 8)
abbrev scM : Memref sig .tc .vmem S4096x1 .f32 := Memref.whole cc0_scratch0

/-- What the launch hands the region: the scratch at anything, and the generator register. -/
theorem PhiA_eq (c : Dev nD) : Pipeline.ΦA spec0 c
    = iprop(iprop((∃ d, owns (c : Thread nD τ) scM fullShare d)) ∗ (∃ r, prngReg c r) : sProp 𝕄) := by
  unfold Pipeline.ΦA; rw [scopedRest0_eq]; simp only [scM, owns_whole]; try rfl

/-- Before a point: the scratch at the row sums of the point before, once there is one. -/
def inv (c : Dev nD) : (n : ℕ) → n ≤ cfg0.N → sProp 𝕄
  | 0, _ => Pipeline.ΦA spec0 c
  | n + 1, hn => iprop(iprop(owns (c : Thread nD τ) scM fullShare (start m c n hn).2) ∗ (∃ r, prngReg c r))

theorem inv_zero (c : Dev nD) (n : ℕ) (h : n ≤ cfg0.N) (hz : n = 0) : inv m c n h = Pipeline.ΦA spec0 c := by
  subst hz; rfl

theorem inv_succ (c : Dev nD) (n : ℕ) (hn : n < cfg0.N) :
    inv m c (n + 1) hn = iprop(iprop(owns (c : Thread nD τ) scM fullShare (start m c n hn).2) ∗ (∃ r, prngReg c r)) := rfl

theorem inv_pos (c : Dev nD) (n : ℕ) (h : n ≤ cfg0.N) (hz : n ≠ 0) :
    inv m c n h = iprop(iprop(owns (c : Thread nD τ) scM fullShare (start m c (n - 1) (by omega)).2) ∗ (∃ r, prngReg c r)) := by
  cases n with
  | zero => exact absurd rfl hz
  | succ n => rfl

/-! ## The pipeline's proof data -/

/-- The arrays as the region finds them; after a point the inputs at their blocks, the outputs at what the point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (left m c t).1
    | ⟨7, _⟩ => k0_pay34 (left m c t).2.1
    | ⟨8, _⟩ => k0_pay35 (left m c t).2.2
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = inv m c t.val (Nat.le_of_lt t.isLt) := by
  dsimp only [dats]; exact Pipeline.Dat.Φ_castSucc (inv m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = (left m c t).1 := by dsimp only [dats]
theorem after_7 (c : Dev nD) (t : Fin cfg0.N) : (dats m 0 c).after 7 t = k0_pay34 (left m c t).2.1 := by dsimp only [dats]
theorem after_8 (c : Dev nD) (t : Fin cfg0.N) : (dats m 0 c).after 8 t = k0_pay35 (left m c t).2.2 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- Past the first point of a head the block of dq still holds what the point before left. -/
theorem before_6 (c : Dev nD) (t : Fin cfg0.N) (h : ¬t.val % 8 = 0) (d) :
    (dats m 0 c).before 6 t d = (left m c ⟨t.val - 1, Nat.lt_of_le_of_lt (Nat.sub_le _ _) t.isLt⟩).1 := by
  rw [(dats m 0 c).before_out_kept 6 rfl t (fun h0 => h (by omega))
    (Bool.eq_false_iff.mpr fun hf => by have := (flush0_6 _).mp hf; dsimp only at this; omega) (fun _ => rfl) (fun _ _ => rfl) d, after_6]

/-! ## The body obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t))

set_option maxHeartbeats 6400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl,
    after_0, after_1, after_2, after_3, after_4, after_5, after_6, after_7, after_8]
  rw [show (dats m 0 c).Φ t.succ = inv m c (t.val + 1) t.isLt from rfl, inv_succ]
  by_cases h0 : t.val % 8 = 0
  · rw [left_first m c t h0, start_first m c t h0]
    have hscr : (dats m 0 c).Φ t.castSucc ⊢ iprop(iprop((∃ d, owns (c : Thread nD τ) scM fullShare d)) ∗ (∃ r, prngReg c r)) := by
      by_cases hz : t.val = 0
      · rw [inv_castSucc m c t, inv_zero m c _ _ hz, PhiA_eq]
      · rw [inv_castSucc m c t, inv_pos m c _ _ hz]
        iintro ⟨HS0, Hg⟩
        isplitl [HS0]; · iexists _; iexact HS0
        iexact Hg
    refine (BI.Laws.sep_mono hscr (Idealize.SL.BI.Entails.refl _)).trans ?_
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_A c (grid0.coords t) _ _ _ _ _ _ _ _ _ _ _ _ _ _ _ _ _ _ _ _ (iblk m c 0 t) (iblk m c 1 t) (iblk m c 2 t) (iblk m c 3 t) (iblk m c 4 t) (iblk m c 5 t) ((isFirst_iff t).mpr h0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS0]; · iexact HS0
    iintro ⟨H0, H1, H2, H3, H4, H5, H6, H7, H8, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have hz : t.val ≠ 0 := fun hz => h0 (by omega)
    rw [inv_castSucc m c t, inv_pos m c _ _ hz, left_next m c t h0, start_next m c t h0]
    simp only [before_6 m c t h0]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_B c (grid0.coords t) _ _ _ _ _ _ _ _ _ _ _ _ _ _ _ _ _ _ _ _ (iblk m c 0 t) (iblk m c 1 t) (iblk m c 2 t) (iblk m c 3 t) (iblk m c 4 t) (iblk m c 5 t) (fun h => h0 ((isFirst_iff t).mp h)) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS0]; · iexact HS0
    iintro ⟨H0, H1, H2, H3, H4, H5, H6, H7, H8, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem defs_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

theorem inv_in (c : Dev nD) : Pipeline.ΦA spec0 c ⊢ (dats m 0 c).Φ 0 := by
  rw [show (dats m 0 c).Φ 0 = inv m c 0 (Nat.zero_le _) from rfl, inv_zero m c 0 _ rfl]

theorem inv_out (c : Dev nD) : (dats m 0 c).Φ (Fin.last cfg0.N) ⊢ Pipeline.ΦA spec0 c := by
  rw [show (dats m 0 c).Φ (Fin.last cfg0.N) = inv m c (Fin.last cfg0.N).val (Nat.le_of_lt_succ (Fin.last cfg0.N).isLt) from rfl,
    inv_pos m c _ _ (by rw [Fin.val_last]; have : cfg0.N = 128 := N_0; omega), PhiA_eq]
  iintro ⟨HS0, Hg⟩
  isplitl [HS0]
  · iexists _; iexact HS0
  iexact Hg

/-! ## The run and the frame -/

set_option backward.isDefEq.respectTransparency.types false in
/-- Every run ends with the windows' arrays at what the points leave, and every semaphore at zero. -/
theorem run_quiet : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := inv_in m) (hout := inv_out m)

theorem run_arrays : θ_run defs (onTc (τ := τ) (main (F := F))) (s₀ m ρ) (Pipeline.FramePost cfgs (dats m) 0 (V m)) :=
  (θ_run defs _ _).mono (fun _ h => h.1) (run_quiet m ρ)

/-- The frame of the kernel: its arguments end unchanged and every semaphore at zero. -/
theorem frame_ideal : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Idealize.ShloMosaic.θ_run_and (frame_of m ρ (dats m) (A_eq m) (run_arrays m ρ)) ((θ_run defs _ _).mono (fun _ h => h.2) (run_quiet m ρ))

end Cert.KernelIdeal.Body

end
-- ==== Proof.OutValue.lean ====
/- The three arrays that the kernel leaves, over the reals: the gradients of the queries, keys and values. -/
module

public import proofs.«01_k».proof.Proof.HostValue
public import proofs.«01_k».proof.Proof.Points
public import proofs.«01_k».proof.Proof.RunMain

@[expose] public section

set_option maxRecDepth 16384

noncomputable section

namespace Cert.KernelIdeal.Out

open Cert.KernelIdeal Cert.KernelIdeal.Gen Cert.KernelIdeal.Body Cert.KernelIdeal.Host Cert.KernelIdeal.Points Cert.KernelIdeal.Blocks
open Idealize.ShloMosaic Idealize.ShloMosaic.TcCoe Idealize.ShloMosaic.Pipeline Idealize.SL.Sem Cert.Args Cert.Attn Cert.RefValue
open Finset (range)

/-! ## Where a point's blocks lie -/

theorem index0 : ∀ t : Fin cfg0.N, win0_0.index t (0 : Fin 3) = t.val / 8 ∧ win0_0.index t (1 : Fin 3) = 0 ∧ win0_0.index t (2 : Fin 3) = 0 :=
  (by decide +kernel : ∀ t : Fin grid0.N, _)
theorem index1 : ∀ t : Fin cfg0.N, win0_1.index t (0 : Fin 3) = t.val / 8 ∧ win0_1.index t (1 : Fin 3) = t.val % 8 ∧ win0_1.index t (2 : Fin 3) = 0 :=
  (by decide +kernel : ∀ t : Fin grid0.N, _)
theorem index2 : ∀ t : Fin cfg0.N, win0_2.index t (0 : Fin 3) = t.val / 8 ∧ win0_2.index t (1 : Fin 3) = t.val % 8 ∧ win0_2.index t (2 : Fin 3) = 0 :=
  (by decide +kernel : ∀ t : Fin grid0.N, _)
theorem index3 : ∀ t : Fin cfg0.N, win0_3.index t (0 : Fin 3) = t.val / 8 ∧ win0_3.index t (1 : Fin 3) = 0 ∧ win0_3.index t (2 : Fin 3) = 0 :=
  (by decide +kernel : ∀ t : Fin grid0.N, _)
theorem index4 : ∀ t : Fin cfg0.N, win0_4.index t (0 : Fin 3) = t.val / 8 ∧ win0_4.index t (1 : Fin 3) = 0 ∧ win0_4.index t (2 : Fin 3) = 0 :=
  (by decide +kernel : ∀ t : Fin grid0.N, _)
theorem index5 : ∀ t : Fin cfg0.N, win0_5.index t (0 : Fin 3) = t.val / 8 ∧ win0_5.index t (1 : Fin 3) = 0 ∧ win0_5.index t (2 : Fin 3) = 0 :=
  (by decide +kernel : ∀ t : Fin grid0.N, _)
theorem index6 : ∀ t : Fin cfg0.N, win0_6.index t (0 : Fin 3) = t.val / 8 ∧ win0_6.index t (1 : Fin 3) = 0 ∧ win0_6.index t (2 : Fin 3) = 0 :=
  (by decide +kernel : ∀ t : Fin grid0.N, _)
theorem index7 : ∀ t : Fin cfg0.N, win0_7.index t (0 : Fin 3) = t.val / 8 ∧ win0_7.index t (1 : Fin 3) = t.val % 8 ∧ win0_7.index t (2 : Fin 3) = 0 :=
  (by decide +kernel : ∀ t : Fin grid0.N, _)
theorem index8 : ∀ t : Fin cfg0.N, win0_8.index t (0 : Fin 3) = t.val / 8 ∧ win0_8.index t (1 : Fin 3) = t.val % 8 ∧ win0_8.index t (2 : Fin 3) = 0 :=
  (by decide +kernel : ∀ t : Fin grid0.N, _)

/-- A block's entry, by the entry of the array it lies at. -/
theorem block_real {n d : ℕ} (f : ℕ → ℕ → ℕ → ℝ) {x : EReal} {I0 I1 I2 h j : ℕ} (y : (⟨3, ![1, n, d]⟩ : Shape).Idx)
    (e : I0 = h ∧ I1 = j ∧ I2 = 0)
    (hx : x = ((f (I0 * 1 + 1 * (y 0).val) (I1 * n + 1 * (y 1).val) (I2 * d + 1 * (y 2).val) : ℝ) : EReal)) :
    x = ((f h (n * j + (y 1).val) (y 2).val : ℝ) : EReal) := by
  obtain ⟨rfl, rfl, rfl⟩ := e
  have h0 : (y 0).val = 0 := by have : (y 0).val < 1 := (y 0).isLt; omega
  rw [hx, h0, mul_one, mul_zero, add_zero, one_mul, zero_mul, zero_add, one_mul, mul_comm I1 n]

variable (m : (ℓ : Loc nD τ sig) → Buf (Elt Ideal) ℓ) (ρ : Dev nD → PrngReg) (c : Dev nD)
  (hq : Fin' (argQ m c)) (hk : Fin' (argK m c)) (hv : Fin' (argV m c)) (hg : Fin' (argG m c))

include hq hk hv in
theorem V_out_real (i : S16x4096x64.Idx) : V m c main_v21 i
    = ((out (rd (argQ m c) (i 0).val) (rd (argK m c) (i 0).val) (rd (argV m c) (i 0).val) scale (i 1).val (i 2).val : ℝ) : EReal) := by
  rw [V_out]
  exact out_eq hq hk hv i

include hq hk in
theorem V_lse_real (i : S16x4096x1.Idx) : V m c main_v23 i
    = ((shift (argQ m c) (argK m c) (i 0).val (i 1).val + Real.log (tot (rd (argQ m c) (i 0).val) (rd (argK m c) (i 0).val) scale
        (shift (argQ m c) (argK m c) (i 0).val (i 1).val) (i 1).val) : ℝ) : EReal) := by
  rw [V_lse]
  exact lse_eq hq hk i

section Blocks

variable (t : Fin cfg0.N)

include hq in
theorem iblk0_real (y : S1x4096x128.Idx) : iblk m c 0 t y = ((rd (argQ m c) (t.val / 8) (y 1).val (y 2).val : ℝ) : EReal) := by
  refine (block_real (rd (argQ m c)) y (index0 t) ((congrFun (V_q m c) _).trans (lanes_eq hq _))).trans ?_
  rw [mul_zero, zero_add]

include hk in
theorem iblk1_real (y : S1x512x128.Idx) : iblk m c 1 t y = ((rd (argK m c) (t.val / 8) (512 * (t.val % 8) + (y 1).val) (y 2).val : ℝ) : EReal) :=
  block_real (rd (argK m c)) y (index1 t) ((congrFun (V_k m c) _).trans (lanes_eq hk _))

include hv in
theorem iblk2_real (y : S1x512x64.Idx) : iblk m c 2 t y = ((rd (argV m c) (t.val / 8) (512 * (t.val % 8) + (y 1).val) (y 2).val : ℝ) : EReal) :=
  block_real (rd (argV m c)) y (index2 t) ((congrFun (V_v m c) _).trans (heads_eq hv _))

include hg in
theorem iblk3_real (y : S1x4096x64.Idx) : iblk m c 3 t y = ((rd (argG m c) (t.val / 8) (y 1).val (y 2).val : ℝ) : EReal) := by
  refine (block_real (rd (argG m c)) y (index3 t) ((congrFun (V_do m c) _).trans (heads_eq hg _))).trans ?_
  rw [mul_zero, zero_add]

theorem iblk4_of (f : ℕ → ℕ → ℕ → ℝ) (hf : ∀ i : S16x4096x64.Idx, V m c main_v21 i = ((f (i 0).val (i 1).val (i 2).val : ℝ) : EReal)) (y : S1x4096x64.Idx) :
    iblk m c 4 t y = ((f (t.val / 8) (y 1).val (y 2).val : ℝ) : EReal) := by
  refine (block_real f y (index4 t) (hf _)).trans ?_
  rw [mul_zero, zero_add]

theorem read5 (X : S16x4096x1.Idx → EReal) (f : ℕ → ℕ → ℝ) (hf : ∀ i : S16x4096x1.Idx, X i = ((f (i 0).val (i 1).val : ℝ) : EReal)) (y : S1x4096x1.Idx) :
    ((cfg0.win 5).blk t).view.read (Elt Ideal) X y = ((f (t.val / 8) (y 1).val : ℝ) : EReal) := by
  refine (block_real (fun h i _ => f h i) y (index5 t) (hf _)).trans ?_
  rw [mul_zero, zero_add]

theorem iblk5_of (f : ℕ → ℕ → ℝ) (hf : ∀ i : S16x4096x1.Idx, V m c main_v23 i = ((f (i 0).val (i 1).val : ℝ) : EReal)) (y : S1x4096x1.Idx) :
    iblk m c 5 t y = ((f (t.val / 8) (y 1).val : ℝ) : EReal) := by
  unfold iblk
  exact read5 t (V m c main_v23) f hf y

include hq hk hv in
theorem iblk4_real (y : S1x4096x64.Idx) : iblk m c 4 t y
    = ((out (rd (argQ m c) (t.val / 8)) (rd (argK m c) (t.val / 8)) (rd (argV m c) (t.val / 8)) scale (y 1).val (y 2).val : ℝ) : EReal) :=
  iblk4_of m c t (fun h i d => out (rd (argQ m c) h) (rd (argK m c) h) (rd (argV m c) h) scale i d) (V_out_real m c hq hk hv) y

/-- The logarithm of the sums, of a head and a row. -/
def lse (h i : ℕ) : ℝ := shift (argQ m c) (argK m c) h i + Real.log (tot (rd (argQ m c) h) (rd (argK m c) h) scale (shift (argQ m c) (argK m c) h i) i)

include hq hk in
theorem iblk5_real (y : S1x4096x1.Idx) : iblk m c 5 t y = ((lse m c (t.val / 8) (y 1).val : ℝ) : EReal) :=
  iblk5_of m c t (lse m c) (V_lse_real m c hq hk) y

end Blocks

/-! ## The row sums -/

theorem dots_real (q k v g : ℕ → ℕ → ℝ) {G O : Vec Ideal S1x4096x64 .bf16} (hG : ∀ y, G y = ((g (y 1).val (y 2).val : ℝ) : EReal))
    (hO : ∀ y, O y = ((out q k v scale (y 1).val (y 2).val : ℝ) : EReal)) (y : S4096x1.Idx) :
    k0_pay16 (F := Ideal) G O y = ((dot q k v g scale (y 0).val : ℝ) : EReal) := by
  unfold k0_pay16
  dsimp only
  refine (shapeCast_apply _ shapeCasts_S4096x1_S4096x1 y y rfl).trans ?_
  refine (shapeCast_apply _ shapeCasts_S4096_S4096x1 y (fun a => match a with | ⟨0, _⟩ => (y 0 : Fin 4096)) ?_).trans ?_
  · rw [Shape.rowMajor_val_one, Shape.rowMajor_val_two]
    have : (y 1).val = 0 := by have : (y 1).val < 1 := (y 1).isLt; omega
    show (y 0).val = (y 0).val * 1 + (y 1).val
    omega
  · refine (Ideal.multiReduction_add_single _ _ reduces_S4096x64_S4096 (.inl rfl) rfl _).trans ?_
    refine sum_coe (fun d => g (y 0).val d * out q k v scale (y 0).val d) fun d => ?_
    refine (congrArg₂ (· * ·) ((drop_head G shapeCasts_S1x4096x64_S4096x64 _).trans (hG _)) ((drop_head O shapeCasts_S1x4096x64_S4096x64 _).trans (hO _))).trans ?_
    rw [← EReal.coe_mul]
    rfl

include hq hk hv hg in
theorem start_dots (n : ℕ) (hn : n < cfg0.N) (y : S4096x1.Idx) : (start m c n hn).2 y
    = ((dot (rd (argQ m c) (n / 8)) (rd (argK m c) (n / 8)) (rd (argV m c) (n / 8)) (rd (argG m c) (n / 8)) scale (y 0).val : ℝ) : EReal) := by
  induction n with
  | zero => exact dots_real _ _ _ _ (iblk3_real m c hg ⟨0, hn⟩) (iblk4_real m c hq hk hv ⟨0, hn⟩) y
  | succ n ih =>
    by_cases h : (n + 1) % 8 = 0
    · rw [start_first m c ⟨n + 1, hn⟩ h]
      exact dots_real _ _ _ _ (iblk3_real m c hg ⟨n + 1, hn⟩) (iblk4_real m c hq hk hv ⟨n + 1, hn⟩) y
    · rw [start_next m c ⟨n + 1, hn⟩ h, show (n + 1) / 8 = n / 8 by omega]
      exact ih _

/-! ## What a point leaves -/

include hq hk hv hg in
theorem point_real (t : Fin cfg0.N) {D : Vec Ideal S4096x1 .f32} (hD : ∀ y, D y
      = ((dot (rd (argQ m c) (t.val / 8)) (rd (argK m c) (t.val / 8)) (rd (argV m c) (t.val / 8)) (rd (argG m c) (t.val / 8)) scale (y 0).val : ℝ) : EReal))
    {X0 : Vec Ideal S1x4096x128 .f32} (X : ℕ → ℕ → ℝ) (hX : ∀ y, X0 y = ((X (y 1).val (y 2).val : ℝ) : EReal)) :
    Holds (point (iblk m c 0 t) (iblk m c 1 t) (iblk m c 2 t) (iblk m c 3 t) (iblk m c 5 t) D (grid0.coords t 1).val X0)
      (fun i d => X i d + dqPart (rd (argQ m c) (t.val / 8)) (rd (argK m c) (t.val / 8)) (rd (argV m c) (t.val / 8)) (rd (argG m c) (t.val / 8)) scale (t.val % 8) i d)
      (fun z d => dk (rd (argQ m c) (t.val / 8)) (rd (argK m c) (t.val / 8)) (rd (argV m c) (t.val / 8)) (rd (argG m c) (t.val / 8)) scale (512 * (t.val % 8) + z) d)
      (fun z d => dv (rd (argQ m c) (t.val / 8)) (rd (argK m c) (t.val / 8)) (rd (argG m c) (t.val / 8)) scale (512 * (t.val % 8) + z) d) := by
  rw [coord1]
  exact point_holds (rd (argQ m c) (t.val / 8)) (rd (argK m c) (t.val / 8)) (rd (argV m c) (t.val / 8)) (rd (argG m c) (t.val / 8))
    (shift (argQ m c) (argK m c) (t.val / 8)) (fun i d hd => rd_wide (argQ m c) hd) (t.val % 8) (Nat.mod_lt _ (by decide))
    (iblk0_real m c hq t) (iblk1_real m c hk t) (iblk2_real m c hv t) (iblk3_real m c hg t) (iblk5_real m c hq hk t) hD hX

include hq hk hv hg in
theorem left_real (n : ℕ) (hn : n < cfg0.N) : Holds (left m c ⟨n, hn⟩)
    (fun i d => ∑ j ∈ range (n % 8 + 1), dqPart (rd (argQ m c) (n / 8)) (rd (argK m c) (n / 8)) (rd (argV m c) (n / 8)) (rd (argG m c) (n / 8)) scale j i d)
    (fun z d => dk (rd (argQ m c) (n / 8)) (rd (argK m c) (n / 8)) (rd (argV m c) (n / 8)) (rd (argG m c) (n / 8)) scale (512 * (n % 8) + z) d)
    (fun z d => dv (rd (argQ m c) (n / 8)) (rd (argK m c) (n / 8)) (rd (argG m c) (n / 8)) scale (512 * (n % 8) + z) d) := by
  induction n with
  | zero =>
    rw [left_first m c ⟨0, hn⟩ rfl]
    obtain ⟨hx, ha, hb⟩ := point_real m c hq hk hv hg ⟨0, hn⟩
      (dots_real _ _ _ _ (iblk3_real m c hg ⟨0, hn⟩) (iblk4_real m c hq hk hv ⟨0, hn⟩)) (fun _ _ => 0) (fun y => zero_word)
    refine ⟨fun y => (hx y).trans ?_, ha, hb⟩
    dsimp only
    rw [zero_add, Nat.zero_mod, zero_add, Finset.sum_range_one]
  | succ n ih =>
    by_cases h : (n + 1) % 8 = 0
    · rw [left_first m c ⟨n + 1, hn⟩ h]
      obtain ⟨hx, ha, hb⟩ := point_real m c hq hk hv hg ⟨n + 1, hn⟩
        (dots_real _ _ _ _ (iblk3_real m c hg ⟨n + 1, hn⟩) (iblk4_real m c hq hk hv ⟨n + 1, hn⟩)) (fun _ _ => 0) (fun y => zero_word)
      refine ⟨fun y => (hx y).trans ?_, ha, hb⟩
      dsimp only
      rw [zero_add, h, zero_add, Finset.sum_range_one]
    · rw [left_next m c ⟨n + 1, hn⟩ h]
      have e : n / 8 = (n + 1) / 8 := by omega
      have hD := start_dots m c hq hk hv hg n (Nat.lt_of_succ_lt hn)
      rw [e] at hD
      have ih := ih (Nat.lt_of_succ_lt hn)
      rw [e] at ih
      obtain ⟨hx, ha, hb⟩ := point_real m c hq hk hv hg ⟨n + 1, hn⟩ hD
        (fun i d => ∑ j ∈ range (n % 8 + 1), dqPart (rd (argQ m c) ((n + 1) / 8)) (rd (argK m c) ((n + 1) / 8)) (rd (argV m c) ((n + 1) / 8))
          (rd (argG m c) ((n + 1) / 8)) scale j i d) ih.1
      refine ⟨fun y => (hx y).trans ?_, ha, hb⟩
      dsimp only
      rw [show (n + 1) % 8 = n % 8 + 1 by omega, Finset.sum_range_succ _ (n % 8 + 1)]

/-! ## The arrays -/

/-- The gradient of the queries. -/
def resQ : S16x4096x128.Idx → EReal := fun i =>
  ((dq (rd (argQ m c) (i 0).val) (rd (argK m c) (i 0).val) (rd (argV m c) (i 0).val) (rd (argG m c) (i 0).val) scale (i 1).val (i 2).val : ℝ) : EReal)
/-- The gradient of the keys. -/
def resK : S16x4096x128.Idx → EReal := fun i =>
  ((dk (rd (argQ m c) (i 0).val) (rd (argK m c) (i 0).val) (rd (argV m c) (i 0).val) (rd (argG m c) (i 0).val) scale (i 1).val (i 2).val : ℝ) : EReal)
/-- The gradient of the values. -/
def resV : S16x4096x64.Idx → EReal := fun i =>
  ((dv (rd (argQ m c) (i 0).val) (rd (argK m c) (i 0).val) (rd (argG m c) (i 0).val) scale (i 1).val (i 2).val : ℝ) : EReal)

include hq hk hv hg

theorem flushed6 (t : Fin cfg0.N) (hf : (cfg0.win 6).flush t = true) :
    (dats m 0 c).flushed 6 t = ((cfg0.win 6).blk t).view.read (Elt Ideal) (resQ m c) := by
  have h7 := (flush0_6 t).mp hf
  show (cfg0.win 6).cut (grid0.coords t) ((dats m 0 c).after 6 t) = _
  rw [after_6]
  funext y
  refine ((left_real m c hq hk hv hg t.val t.isLt).1 y).trans ?_
  dsimp only
  rw [h7, ← dq_parts]
  refine Eq.symm ((block_real (fun h i d => dq (rd (argQ m c) h) (rd (argK m c) h) (rd (argV m c) h) (rd (argG m c) h) scale i d) y (index6 t) rfl).trans ?_)
  rw [mul_zero, zero_add]

theorem flushed7 (t : Fin cfg0.N) : (dats m 0 c).flushed 7 t = ((cfg0.win 7).blk t).view.read (Elt Ideal) (resK m c) := by
  show (cfg0.win 7).cut (grid0.coords t) ((dats m 0 c).after 7 t) = _
  rw [after_7]
  funext y
  refine ((add_head _ shapeCasts_S512x128_S1x512x128 y).trans ((left_real m c hq hk hv hg t.val t.isLt).2.1 _)).trans ?_
  exact Eq.symm (block_real (fun h i d => dk (rd (argQ m c) h) (rd (argK m c) h) (rd (argV m c) h) (rd (argG m c) h) scale i d) y (index7 t) rfl)

theorem flushed8 (t : Fin cfg0.N) : (dats m 0 c).flushed 8 t = ((cfg0.win 8).blk t).view.read (Elt Ideal) (resV m c) := by
  show (cfg0.win 8).cut (grid0.coords t) ((dats m 0 c).after 8 t) = _
  rw [after_8]
  funext y
  refine ((add_head _ shapeCasts_S512x64_S1x512x64 y).trans ((left_real m c hq hk hv hg t.val t.isLt).2.2 _)).trans ?_
  exact Eq.symm (block_real (fun h i d => dv (rd (argQ m c) h) (rd (argK m c) h) (rd (argG m c) h) scale i d) y (index8 t) rfl)

omit hq hk hv hg in
theorem cover6 (i : S16x4096x128.Idx) : ∃ t : Fin cfg0.N, (cfg0.win 6).flush t = true ∧ i ∈ ((cfg0.win 6).blk t).view.set := by
  have h0 : (i 0).val < 16 := (i 0).isLt
  have h1 : (i 1).val < 4096 := (i 1).isLt
  have h2 : (i 2).val < 128 := (i 2).isLt
  obtain ⟨t, ht⟩ : ∃ t : Fin cfg0.N, t.val = 8 * (i 0).val + 7 := ⟨⟨8 * (i 0).val + 7, Nat.lt_of_lt_of_eq (by omega) N_0.symm⟩, rfl⟩
  refine ⟨t, (flush0_6 t).mpr (by omega), ?_⟩
  show i ∈ ((View.whole main_v34_0).slice (win0_6.rect t)).set
  rw [View.set_slice_whole, Rect.mem_set_unit]
  obtain ⟨e0, e1, e2⟩ := index6 t
  intro a
  match a with
  | ⟨0, _⟩ => show win0_6.index t 0 * 1 ≤ (i 0).val ∧ (i 0).val < win0_6.index t 0 * 1 + 1; omega
  | ⟨1, _⟩ => show win0_6.index t 1 * 4096 ≤ (i 1).val ∧ (i 1).val < win0_6.index t 1 * 4096 + 4096; omega
  | ⟨2, _⟩ => show win0_6.index t 2 * 128 ≤ (i 2).val ∧ (i 2).val < win0_6.index t 2 * 128 + 128; omega

omit hq hk hv hg in
theorem cover7 (i : S16x4096x128.Idx) : ∃ t : Fin cfg0.N, (cfg0.win 7).flush t = true ∧ i ∈ ((cfg0.win 7).blk t).view.set := by
  have h0 : (i 0).val < 16 := (i 0).isLt
  have h1 : (i 1).val < 4096 := (i 1).isLt
  have h2 : (i 2).val < 128 := (i 2).isLt
  obtain ⟨t, ht⟩ : ∃ t : Fin cfg0.N, t.val = 8 * (i 0).val + (i 1).val / 512 := ⟨⟨8 * (i 0).val + (i 1).val / 512, Nat.lt_of_lt_of_eq (by omega) N_0.symm⟩, rfl⟩
  refine ⟨t, flush0_7 t, ?_⟩
  show i ∈ ((View.whole main_v34_1).slice (win0_7.rect t)).set
  rw [View.set_slice_whole, Rect.mem_set_unit]
  obtain ⟨e0, e1, e2⟩ := index7 t
  intro a
  match a with
  | ⟨0, _⟩ => show win0_7.index t 0 * 1 ≤ (i 0).val ∧ (i 0).val < win0_7.index t 0 * 1 + 1; omega
  | ⟨1, _⟩ => show win0_7.index t 1 * 512 ≤ (i 1).val ∧ (i 1).val < win0_7.index t 1 * 512 + 512; omega
  | ⟨2, _⟩ => show win0_7.index t 2 * 128 ≤ (i 2).val ∧ (i 2).val < win0_7.index t 2 * 128 + 128; omega

omit hq hk hv hg in
theorem cover8 (i : S16x4096x64.Idx) : ∃ t : Fin cfg0.N, (cfg0.win 8).flush t = true ∧ i ∈ ((cfg0.win 8).blk t).view.set := by
  have h0 : (i 0).val < 16 := (i 0).isLt
  have h1 : (i 1).val < 4096 := (i 1).isLt
  have h2 : (i 2).val < 64 := (i 2).isLt
  obtain ⟨t, ht⟩ : ∃ t : Fin cfg0.N, t.val = 8 * (i 0).val + (i 1).val / 512 := ⟨⟨8 * (i 0).val + (i 1).val / 512, Nat.lt_of_lt_of_eq (by omega) N_0.symm⟩, rfl⟩
  refine ⟨t, flush0_8 t, ?_⟩
  show i ∈ ((View.whole main_v34_2).slice (win0_8.rect t)).set
  rw [View.set_slice_whole, Rect.mem_set_unit]
  obtain ⟨e0, e1, e2⟩ := index8 t
  intro a
  match a with
  | ⟨0, _⟩ => show win0_8.index t 0 * 1 ≤ (i 0).val ∧ (i 0).val < win0_8.index t 0 * 1 + 1; omega
  | ⟨1, _⟩ => show win0_8.index t 1 * 512 ≤ (i 1).val ∧ (i 1).val < win0_8.index t 1 * 512 + 512; omega
  | ⟨2, _⟩ => show win0_8.index t 2 * 64 ≤ (i 2).val ∧ (i 2).val < win0_8.index t 2 * 64 + 64; omega

theorem final6 : (dats m 0 c).arrAt 6 cfg0.N = resQ m c :=
  (dats m 0 c).arrAt_eq_of_cover 6 (resQ m c) (flushed6 m c hq hk hv hg) cover6
theorem final7 : (dats m 0 c).arrAt 7 cfg0.N = resK m c :=
  (dats m 0 c).arrAt_eq_of_cover 7 (resK m c) (fun t _ => flushed7 m c hq hk hv hg t) cover7
theorem final8 : (dats m 0 c).arrAt 8 cfg0.N = resV m c :=
  (dats m 0 c).arrAt_eq_of_cover 8 (resV m c) (fun t _ => flushed8 m c hq hk hv hg t) cover8

end Cert.KernelIdeal.Out

end
-- ==== Proof.Equal.lean ====
/- The kernel and the reference end with the same three arrays. -/
module

public import proofs.«01_k».proof.Defs
public import proofs.«01_k».proof.Proof.Finite
public import proofs.«01_k».proof.Proof.RefEnd
public import proofs.«01_k».proof.Proof.OutValue
public import proofs.«01_k».proof.Proof.Gen.ReferenceIdeal
public import proofs.«01_k».proof.Proof.Gen.ReferenceIdeal.Run
public import Idealize.ShloMosaic.Lib.Quiescent
public import Idealize.ShloMosaic.Lib.Claim

@[expose] public section

set_option maxRecDepth 16384

noncomputable section

namespace Cert.Equal

open Idealize.ShloMosaic Idealize.ShloMosaic.TcCoe Idealize.ShloMosaic.Pipeline Idealize.SL.Sem Cert.Args Cert.Attn
open Cert.KernelIdeal.Out Cert.KernelIdeal.Body Cert.KernelIdeal.Host

attribute [local instance] Cert.KernelIdeal.Gen.facts Cert.ReferenceIdeal.Gen.facts

/-! ## The kernel's run -/

section Kernel
open Cert.KernelIdeal Cert.KernelIdeal.Gen

variable (m : (ℓ : Loc nD τ sig) → Buf (Elt Ideal) ℓ) (ρ : Dev nD → PrngReg)

theorem kernel_run (hfin : ∀ c : Dev nD, Fin' (argQ m c) ∧ Fin' (argK m c) ∧ Fin' (argV m c) ∧ Fin' (argG m c)) :
    θ_run (defs (F := Ideal)) (onTc (τ := τ) (main (F := Ideal))) ⟨m, fun _ => 0, ρ⟩ (fun r => ∀ c : Dev nD,
      r.2.mem ((c.tc : Thread nD τ).loc main_v34_0) = resQ m c
      ∧ r.2.mem ((c.tc : Thread nD τ).loc main_v34_1) = resK m c
      ∧ r.2.mem ((c.tc : Thread nD τ).loc main_v34_2) = resV m c) :=
  (θ_run (defs (F := Ideal)) _ _).mono (fun _ h c =>
    ⟨((h c).1 6).trans (final6 m c (hfin c).1 (hfin c).2.1 (hfin c).2.2.1 (hfin c).2.2.2),
     ((h c).1 7).trans (final7 m c (hfin c).1 (hfin c).2.1 (hfin c).2.2.1 (hfin c).2.2.2),
     ((h c).1 8).trans (final8 m c (hfin c).1 (hfin c).2.1 (hfin c).2.2.1 (hfin c).2.2.2)⟩) (run_arrays m ρ)

theorem kernel_both (hfin : ∀ c : Dev nD, Fin' (argQ m c) ∧ Fin' (argK m c) ∧ Fin' (argV m c) ∧ Fin' (argG m c)) :
    θ_run (defs (F := Ideal)) (onTc (τ := τ) (main (F := Ideal))) ⟨m, fun _ => 0, ρ⟩ (fun r => ∀ c : Dev nD,
      r.2.mem ((c.tc : Thread nD τ).loc main_v34_0) = resQ m c
      ∧ r.2.mem ((c.tc : Thread nD τ).loc main_v34_1) = resK m c
      ∧ r.2.mem ((c.tc : Thread nD τ).loc main_v34_2) = resV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run (defs (F := Ideal)) _ _).mono (fun _ h c => ⟨(h.1 c).1, (h.1 c).2.1, (h.1 c).2.2, h.2.1 c⟩)
    (Idealize.ShloMosaic.θ_run_and (kernel_run m ρ hfin) (frame_ideal m ρ))

end Kernel

/-! ## The reference's run -/

section Reference
open Cert.ReferenceIdeal Cert.ReferenceIdeal.Read

variable (m : (ℓ : Loc nD τ sig) → Buf (Elt Ideal) ℓ) (ρ : Dev nD → PrngReg)

theorem reference_frame : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run (defs (F := Ideal)) _ _).mono (fun r h => ⟨fun c => (h c).2.2.2, sem_eq_zero_of_no_sems (by decide) r.2⟩)
    (Cert.ReferenceIdeal.Value.run m ρ)

/-- The reference's results of arguments that are reals. -/
theorem reference_run {Q K : Dev nD → Arr 96} {V G : Dev nD → Arr 64}
    (hQ : ∀ c : Dev nD, m ((c.tc : Thread nD τ).loc main_arg0) = Q c) (hK : ∀ c : Dev nD, m ((c.tc : Thread nD τ).loc main_arg1) = K c)
    (hV : ∀ c : Dev nD, m ((c.tc : Thread nD τ).loc main_arg2) = V c) (hG : ∀ c : Dev nD, m ((c.tc : Thread nD τ).loc main_arg3) = G c)
    (hfin : ∀ c, Fin' (Q c) ∧ Fin' (K c) ∧ Fin' (V c) ∧ Fin' (G c)) :
    θ_run (defs (F := Ideal)) (onTc (τ := τ) (main (F := Ideal))) ⟨m, fun _ => 0, ρ⟩ (fun r => ∀ c : Dev nD,
      r.2.mem ((c.tc : Thread nD τ).loc main_v65) = (fun i => ((dq (rd (Q c) (i 0).val) (rd (K c) (i 0).val) (rd (V c) (i 0).val) (rd (G c) (i 0).val) scale (i 1).val (i 2).val : ℝ) : EReal))
      ∧ r.2.mem ((c.tc : Thread nD τ).loc main_v67) = (fun i => ((dk (rd (Q c) (i 0).val) (rd (K c) (i 0).val) (rd (V c) (i 0).val) (rd (G c) (i 0).val) scale (i 1).val (i 2).val : ℝ) : EReal))
      ∧ r.2.mem ((c.tc : Thread nD τ).loc main_v68) = (fun i => ((dv (rd (Q c) (i 0).val) (rd (K c) (i 0).val) (rd (G c) (i 0).val) scale (i 1).val (i 2).val : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run (defs (F := Ideal)) _ _).mono (fun r h c => by
    obtain ⟨h0, h1, h2, hrest⟩ := h c
    refine ⟨h0.trans ?_, h1.trans ?_, h2.trans ?_, hrest⟩
    · rw [val_main_v65_eq, hQ, hK, hV, hG]
      exact funext fun i => Cert.RefEnd.v65_eq (hfin c).1 (hfin c).2.1 (hfin c).2.2.1 (hfin c).2.2.2 i
    · rw [val_main_v67_eq, hQ, hK, hV, hG]
      exact funext fun i => Cert.RefEnd.v67_eq (hfin c).1 (hfin c).2.1 (hfin c).2.2.1 (hfin c).2.2.2 i
    · rw [val_main_v68_eq, hQ, hK, hG]
      exact funext fun i => Cert.RefValue.v68_eq (hfin c).1 (hfin c).2.1 (hfin c).2.2.2 i)
    (Cert.ReferenceIdeal.Value.run m ρ)

end Reference

variable [Cert.Pre_finite.Facts]

/-- Of finite arguments the kernel and the reference end with the same arrays. -/
theorem algebraic : Cert.algebraic_KernelIdeal_ReferenceIdeal_pre_finite := by
  intro m g m' g' hpre hagree
  have hfin := fun c => Cert.Finite.reals _ _ _ _ (hpre c)
  exact ⟨resQ m, resK m, resV m, kernel_both m g hfin,
    reference_run m' g' (fun c => (hagree c).1) (fun c => (hagree c).2.1) (fun c => (hagree c).2.2.1) (fun c => (hagree c).2.2.2) hfin⟩

end Cert.Equal

end
-- ==== Proof.Product.lean ====
/-
  Products of two matrices, read at an index.

  A tile's product in a kernel is taken onto a zero accumulator.  The three lemmas below read it as a sum over the one
  contracted coordinate, for the three ways the operands may lie: both as they are, the right one transposed, the left
  one transposed.  The extents are variables.
-/
module

public import Idealize.ShloMosaic.Lib.MatmulPlain
public import Idealize.ShloMosaic.Lib.Pipeline.ValueKit.Geometry
public import Idealize.ShloMosaic.Lib.Pipeline.ValueKit.Acc

@[expose] public section

namespace Cert.Product

open Idealize.ShloMosaic Idealize.ShloMosaic.ValueIdx
open scoped BigOperators

/-- An index of a matrix is its two coordinates put together. -/
theorem eq_ix2 {M N : ℕ} (i : (⟨2, ![M, N]⟩ : Shape).Idx) : i = ix2 (i 0) (i 1) := by
  funext a
  match a with
  | ⟨0, _⟩ => rfl
  | ⟨1, _⟩ => rfl

/-- Two places of a matrix with the same coordinates are one. -/
theorem ext2 {M N : ℕ} {i j : (⟨2, ![M, N]⟩ : Shape).Idx} (h0 : (i 0).val = (j 0).val) (h1 : (i 1).val = (j 1).val) : i = j := by
  funext a
  match a with
  | ⟨0, _⟩ => exact Fin.ext h0
  | ⟨1, _⟩ => exact Fin.ext h1

/-- Two places of a stack of matrices with the same coordinates are one. -/
theorem ext3 {L M N : ℕ} {i j : (⟨3, ![L, M, N]⟩ : Shape).Idx} (h0 : (i 0).val = (j 0).val) (h1 : (i 1).val = (j 1).val)
    (h2 : (i 2).val = (j 2).val) : i = j := by
  funext a
  match a with
  | ⟨0, _⟩ => exact Fin.ext h0
  | ⟨1, _⟩ => exact Fin.ext h1
  | ⟨2, _⟩ => exact Fin.ext h2

/-- An entry of slabs put together along their rows, in the piece whose rows begin at `pre`. -/
theorem piece {α : Type} {n h H d : ℕ} (xs : List ((s : Shape) × (s.Idx → α)))
    (hc : Shape.Concatenates (xs.map (·.1)) ⟨3, ![n, H, d]⟩ 1) (i : (⟨3, ![n, H, d]⟩ : Shape).Idx) (k : ℕ) (hk : k < xs.length)
    (x : (⟨3, ![n, h, d]⟩ : Shape).Idx → α) (hx : xs[k] = ⟨⟨3, ![n, h, d]⟩, x⟩) (pre : ℕ)
    (hpre : (((xs.take k).map (·.1)).map fun s => if h : s.rank = 3 then s.size ((1 : Fin 3).cast h.symm) else 0).sum = pre)
    (j : Fin h) (hj : pre + j.val = (i 1).val) :
    concatenate ⟨3, ![n, H, d]⟩ 1 xs hc i = x (ix3 (i 0) j (i 2)) := by
  refine concatenate_apply_piece 1 xs hc i k hk _ x hx rfl pre hpre (ix3 (i 0) j (i 2)) (fun b hb => ?_) hj
  match b with
  | ⟨0, _⟩ => rfl
  | ⟨1, _⟩ => exact absurd rfl hb
  | ⟨2, _⟩ => rfl

/-- The square of the positive part. -/
noncomputable def squared (x : EReal) : EReal := max x 0 * max x 0

/-- A matrix under a leading axis of extent one. -/
theorem add_head {α : Type} {M N : ℕ} (x : (⟨2, ![M, N]⟩ : Shape).Idx → α)
    (h : Shape.ShapeCasts ⟨2, ![M, N]⟩ ⟨3, ![1, M, N]⟩) (i : (⟨3, ![1, M, N]⟩ : Shape).Idx) :
    shapeCast ⟨3, ![1, M, N]⟩ x h i = x (ix2 (i 1) (i 2)) := by
  refine shapeCast_apply x h i _ ?_
  rw [Shape.rowMajor_val_two, Shape.rowMajor_val_three]
  have head : (i 0).val = 0 := Nat.lt_one_iff.mp (i 0).isLt
  show (i 1).val * N + (i 2).val = ((i 0).val * M + (i 1).val) * N + (i 2).val
  rw [head, zero_mul, zero_add]

/-- The zero word of a 32-bit float is the number zero. -/
theorem zero_word (s : Shape) (i : s.Idx) : (constant (F := Ideal) s .f32 0x00000000#32) i = 0 :=
  Ideal.ofBits_zero_f32

/-- The entry at `i` of the product of two matrices as they are. -/
noncomputable def nn {M K N : ℕ} (l : (⟨2, ![M, K]⟩ : Shape).Idx → EReal) (r : (⟨2, ![K, N]⟩ : Shape).Idx → EReal)
    (i : (⟨2, ![M, N]⟩ : Shape).Idx) : EReal := ∑ k : Fin K, l (ix2 (i 0) k) * r (ix2 k (i 1))

/-- The entry at `i` of the product of a matrix and a transposed one. -/
noncomputable def nt {M K N : ℕ} (l : (⟨2, ![M, K]⟩ : Shape).Idx → EReal) (r : (⟨2, ![N, K]⟩ : Shape).Idx → EReal)
    (i : (⟨2, ![M, N]⟩ : Shape).Idx) : EReal := ∑ k : Fin K, l (ix2 (i 0) k) * r (ix2 (i 1) k)

/-- The entry at `i` of the product of a transposed matrix and another. -/
noncomputable def tn {M K N : ℕ} (l : (⟨2, ![K, M]⟩ : Shape).Idx → EReal) (r : (⟨2, ![K, N]⟩ : Shape).Idx → EReal)
    (i : (⟨2, ![M, N]⟩ : Shape).Idx) : EReal := ∑ k : Fin K, l (ix2 k (i 0)) * r (ix2 k (i 1))

/-- A product of two matrices as they are, onto zero. -/
theorem plain {M K N : ℕ} {φ₁ φ₂ : FTy} (prec : Option ContractPrecision)
    (l : FVec Ideal ⟨2, ![M, K]⟩ φ₁) (r : FVec Ideal ⟨2, ![K, N]⟩ φ₂) (i : (⟨2, ![M, N]⟩ : Shape).Idx) :
    FloatOps.matmul (DotDims.plain M K N) prec l r (constant ⟨2, ![M, N]⟩ .f32 0x00000000#32) i
      = nn l r i := by
  obtain ⟨a, b, rfl⟩ : ∃ a b, i = ix2 a b := ⟨i 0, i 1, eq_ix2 i⟩
  rw [Ideal.matmul_plain_apply, zero_word, zero_add]
  rfl

/-- A product with the right matrix transposed, onto zero. -/
theorem right {M K N : ℕ} {φ₁ φ₂ : FTy} (prec : Option ContractPrecision)
    (l : FVec Ideal ⟨2, ![M, K]⟩ φ₁) (r : FVec Ideal ⟨2, ![N, K]⟩ φ₂) (i : (⟨2, ![M, N]⟩ : Shape).Idx) :
    FloatOps.matmul (DotDims.transposedRhs M K N) prec l r (constant ⟨2, ![M, N]⟩ .f32 0x00000000#32) i
      = nt l r i := by
  obtain ⟨a, b, rfl⟩ : ∃ a b, i = ix2 a b := ⟨i 0, i 1, eq_ix2 i⟩
  rw [Ideal.matmul_transposedRhs_apply, zero_word, zero_add]
  rfl

/-- A product with the left matrix transposed contracts the rows of both. -/
def leftDims (M K N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp,
    (by decide : ([1, 0] : List (Fin 2)).Perm (List.finRange 2)),
    (by decide : ([1, 0] : List (Fin 2)).Perm (List.finRange 2)),
    rfl, by show 0 < 2; decide, fun a => by fin_cases a <;> rfl⟩

/-- A product with the left matrix transposed, onto zero. -/
theorem left {M K N : ℕ} {φ₁ φ₂ : FTy} (prec : Option ContractPrecision)
    (l : FVec Ideal ⟨2, ![K, M]⟩ φ₁) (r : FVec Ideal ⟨2, ![K, N]⟩ φ₂) (i : (⟨2, ![M, N]⟩ : Shape).Idx) :
    FloatOps.matmul (leftDims M K N) prec l r (constant ⟨2, ![M, N]⟩ .f32 0x00000000#32) i
      = tn l r i := by
  rw [Ideal.matmul_apply, zero_word, zero_add,
    ← Equiv.sum_comp (contrEquiv1 (leftDims M K N) K rfl rfl).symm]
  refine Finset.sum_congr rfl fun k _ => ?_
  have at_k := contrEquiv1_symm_val (leftDims M K N) K rfl rfl k
  congr 1
  · refine congrArg l (funext fun a => Fin.ext ?_)
    match a with
    | ⟨0, _⟩ => exact at_k
    | ⟨1, _⟩ => rfl
  · refine congrArg r (funext fun a => Fin.ext ?_)
    match a with
    | ⟨0, _⟩ => exact at_k
    | ⟨1, _⟩ => rfl

end Cert.Product
-- ==== Proof.HiddenGrad.lean ====
/-
  The gradient through the squared rectifier of the feed-forward block, as the kernel computes it: the output gradient
  times the down projection transposed, times twice the root of the rectified square that the forward pass left.

  Point `t` of the grid makes the whole block in row block `t / 4` and column block `t % 4`.
-/
module

public import proofs.«01_k».proof.Proof.Product
public import proofs.«01_k».proof.Proof.Gen.Kernel2Ideal.Value
public import Idealize.ShloMosaic.Lib.StableHlo.RunRead

@[expose] public section

set_option maxRecDepth 16384

noncomputable section

namespace Cert.Kernel2Ideal.HiddenGrad

open Idealize.ShloMosaic Idealize.ShloMosaic.TcCoe Idealize.ShloMosaic.Pipeline Idealize.ShloMosaic.ValueIdx
open Cert.Kernel2Ideal Cert.Kernel2Ideal.Gen
open scoped BigOperators

attribute [local instance] Cert.Kernel2Ideal.Gen.facts

/-- The constant the slope is made with. -/
def two : EReal := Ideal.ofBits .f32 0x40000000#32

/-- The slope of the squared rectifier at `u`: twice its positive part. -/
def slope (u : EReal) : EReal := two * max u 0

/-- The root of a square of something not negative is that thing. -/
theorem root_square {x : EReal} (h : 0 ≤ x) : Ideal.sqrt (x * x) = x := by
  induction x with
  | bot => exact absurd h (by simp)
  | top => rfl
  | coe r =>
    have hr : 0 ≤ r := EReal.coe_nonneg.mp h
    rw [← EReal.coe_mul, Ideal.sqrt_coe, if_neg (not_lt.mpr (mul_self_nonneg r)), Real.sqrt_mul_self hr]

/-- A block is the product times twice the roots. -/
theorem block_apply (l : S2048x1024.Idx → EReal) (r : S1024x1024.Idx → EReal) (a : S2048x1024.Idx → EReal)
    (i : S2048x1024.Idx) : k0_pay1 (F := Ideal) l r a i = Product.nt l r i * (two * Ideal.sqrt (a i)) := by
  unfold k0_pay1
  rw [← Product.right none l r i, shapeCast_self]
  rfl

variable (m : (ℓ : Loc nD τ sig) → Buf (Elt Ideal) ℓ)

/-- What the forward pass left: the squared positive part. -/
theorem saved (c : Dev nD) (i : S4096x4096.Idx) : V m c main_v2 i
    = Product.squared (m ((c : Thread nD τ).loc main_arg2) i) := by
  have read : V m c main_v2 = truncf .bf16 (mulf
      (maximumf (m ((c : Thread nD τ).loc main_arg2)) (broadcastInDim S4096x4096 ![] bcast_S_S4096x4096 (constant (F := Ideal) S_ .f32 0x00000000#32)))
      (maximumf (m ((c : Thread nD τ).loc main_arg2)) (broadcastInDim S4096x4096 ![] bcast_S_S4096x4096 (constant (F := Ideal) S_ .f32 0x00000000#32)))) bitsLt_bf16_f32 := by
    after_reads_simp
    rfl
  unfold Product.squared
  rw [read, ← Ideal.ofBits_zero_f32]
  rfl

theorem index_left : ∀ t : Fin cfg0.N, win0_0.index t = ![t.val / 4, 0] :=
  (by decide +kernel : ∀ t : Fin grid0.N, _)

theorem index_right : ∀ t : Fin cfg0.N, win0_1.index t = ![t.val % 4, 0] :=
  (by decide +kernel : ∀ t : Fin grid0.N, _)

theorem index_saved : ∀ t : Fin cfg0.N, win0_2.index t = ![t.val / 4, t.val % 4] :=
  (by decide +kernel : ∀ t : Fin grid0.N, _)

theorem index_out : ∀ t : Fin cfg0.N, win0_3.index t = ![t.val / 4, t.val % 4] :=
  (by decide +kernel : ∀ t : Fin grid0.N, _)

/-- An entry of the left block of point `t`. -/
theorem left_at (c : Dev nD) (t : Fin cfg0.N) (x : S2048x1024.Idx) (i : S4096x1024.Idx)
    (h0 : (i 0).val = t.val / 4 * 2048 + (x 0).val) (h1 : (i 1).val = (x 1).val) :
    iblk m c 0 t x = m ((c : Thread nD τ).loc main_arg0) i := by
  blk_simp [iblk]
  rw [← V_main_arg0 m c]
  congr 1
  blk_ext [index_left, h0, h1]

/-- An entry of the right block of point `t`. -/
theorem right_at (c : Dev nD) (t : Fin cfg0.N) (x : S1024x1024.Idx) (i : S4096x1024.Idx)
    (h0 : (i 0).val = t.val % 4 * 1024 + (x 0).val) (h1 : (i 1).val = (x 1).val) :
    iblk m c 1 t x = m ((c : Thread nD τ).loc main_arg1) i := by
  blk_simp [iblk]
  rw [← V_main_arg1 m c]
  congr 1
  blk_ext [index_right, h0, h1]

/-- An entry of the saved block of point `t`. -/
theorem saved_at (c : Dev nD) (t : Fin cfg0.N) (x : S2048x1024.Idx) (i : S4096x4096.Idx)
    (h0 : (i 0).val = t.val / 4 * 2048 + (x 0).val) (h1 : (i 1).val = t.val % 4 * 1024 + (x 1).val) :
    iblk m c 2 t x = V m c main_v2 i := by
  blk_simp [iblk]
  congr 1
  blk_ext [index_saved, h0, h1]

/-- The array the call ends with is the product times the slope. -/
theorem final (c : Dev nD) : (dats m 0 c).arrAt 3 cfg0.N = fun i =>
    Product.nt (M := 4096) (K := 1024) (N := 4096) (m ((c : Thread nD τ).loc main_arg0)) (m ((c : Thread nD τ).loc main_arg1)) i
      * slope (m ((c : Thread nD τ).loc main_arg2) i) := by
  refine (dats m 0 c).arrAt_eq_of_covers 3 _ (by decide +kernel) fun t hf y => ?_
  have row : ((((cfg0.win 3).blk t).view.emb y 0 : Fin _) : ℕ) = t.val / 4 * 2048 + (y 0).val := by
    blk_simp [index_out]
  have col : ((((cfg0.win 3).blk t).view.emb y 1 : Fin _) : ℕ) = t.val % 4 * 1024 + (y 1).val := by
    blk_simp [index_out]
  rw [after0_3]
  frame_out
  refine (block_apply _ _ _ _).trans (congrArg₂ (· * ·) (Finset.sum_congr rfl fun k _ => congrArg₂ (· * ·) ?_ ?_)
    (congrArg (two * ·) ?_))
  · exact left_at m c _ _ _ row rfl
  · exact right_at m c _ _ _ col rfl
  · refine (congrArg Ideal.sqrt ((saved_at m c _ _ _ row col).trans (saved m c _))).trans ?_
    exact root_square (le_max_right _ _)

end Cert.Kernel2Ideal.HiddenGrad

end
-- ==== Proof.HiddenBack.lean ====
/-
  The gradient of the feed-forward block's input, as the kernel computes it: the hidden gradient times the up
  projection transposed.

  Point `t` of the grid works on row block `t / 4` and contracts columns `1024 * (t % 4)` and on of both operands; the
  last point of each four rounds the accumulator and writes the block back.
-/
module

public import proofs.«01_k».proof.Proof.Product
public import proofs.«01_k».proof.Proof.Gen.Kernel3Ideal.Value
public import Idealize.ShloMosaic.Lib.Pipeline.ReadBack

@[expose] public section

set_option maxRecDepth 16384

noncomputable section

namespace Cert.Kernel3Ideal.HiddenBack

open Idealize.ShloMosaic Idealize.ShloMosaic.TcCoe Idealize.ShloMosaic.Pipeline Idealize.ShloMosaic.ValueIdx
open Cert.Kernel3Ideal Cert.Kernel3Ideal.Gen
open scoped BigOperators

attribute [local instance] Cert.Kernel3Ideal.Gen.facts

/-- One step adds the product of the two blocks. -/
theorem step_apply (acc : FVec Ideal S2048x1024 .f32) (l : FVec Ideal S2048x1024 .bf16) (r : FVec Ideal S1024x1024 .bf16)
    (i : S2048x1024.Idx) : k0_pay2 acc l r i = acc i + Product.nt l r i := by
  unfold k0_pay2
  rw [shapeCast_self]
  exact congrArg (acc i + ·) (Product.right none l r i)

/-- The accumulator starts from zero. -/
theorem start_apply (i : S2048x1024.Idx) : k0_pay1 (F := Ideal) i = 0 := by
  unfold k0_pay1
  rw [shapeCast_self]
  exact Ideal.ofBits_zero_f32

variable (m : (ℓ : Loc nD τ sig) → Buf (Elt Ideal) ℓ)

/-- What point `t` adds to the accumulator. -/
def part (c : Dev nD) (t : Fin cfg0.N) (y : S2048x1024.Idx) : EReal :=
  Product.nt (M := 2048) (K := 1024) (N := 1024) (iblk m c 0 t) (iblk m c 1 t) y

theorem reset (c : Dev nD) (t : Fin cfg0.N) (h : t.val % 4 = 0) (y : S2048x1024.Idx) :
    (outsAt0 m c t.val t.isLt).2 y = 0 + part m c t y := by
  rw [outsAt0_A m c t h (by omega)]
  frame_out
  rw [step_apply, start_apply]
  rfl

theorem next (c : Dev nD) (t : Fin cfg0.N) (h : ¬t.val % 4 = 0) (y : S2048x1024.Idx) :
    (outsAt0 m c t.val t.isLt).2 y
      = (outsAt0 m c (t.val - 1) (Nat.lt_of_le_of_lt (Nat.sub_le _ _) t.isLt)).2 y + part m c t y := by
  by_cases last : t.val % 4 = 3
  · rw [outsAt0_C m c t h last]
    frame_out
    rw [step_apply]
    exact congrArg (· + _) (congrFun (Idealize.ShloMosaic.read_unread_whole cc0_scratch0 (Memref.isWhole_whole _) _) y)
  · rw [outsAt0_B m c t h last]
    frame_out
    rw [step_apply]
    exact congrArg (· + _) (congrFun (Idealize.ShloMosaic.read_unread_whole cc0_scratch0 (Memref.isWhole_whole _) _) y)

/-- At the last point of a row block what is written back is the accumulator, whose rounding is the identity here. -/
theorem written (c : Dev nD) (t : Fin cfg0.N) (last : t.val % 4 = 3) (y : S2048x1024.Idx) :
    (outsAt0 m c t.val t.isLt).1 y = (outsAt0 m c t.val t.isLt).2 y := by
  rw [outsAt0_C m c t (by omega) last]
  frame_out
  rfl

theorem index_left : ∀ t : Fin cfg0.N, win0_0.index t = ![t.val / 4, t.val % 4] :=
  (by decide +kernel : ∀ t : Fin grid0.N, _)

theorem index_right : ∀ t : Fin cfg0.N, win0_1.index t = ![0, t.val % 4] :=
  (by decide +kernel : ∀ t : Fin grid0.N, _)

theorem index_out : ∀ t : Fin cfg0.N, win0_2.index t = ![t.val / 4, 0] :=
  (by decide +kernel : ∀ t : Fin grid0.N, _)

/-- An entry of the left block of point `t`. -/
theorem left_at (c : Dev nD) (t : Fin cfg0.N) (x : S2048x1024.Idx) (i : S4096x4096.Idx)
    (h0 : (i 0).val = t.val / 4 * 2048 + (x 0).val) (h1 : (i 1).val = t.val % 4 * 1024 + (x 1).val) :
    iblk m c 0 t x = m ((c : Thread nD τ).loc main_arg0) i := by
  blk_simp [iblk]
  rw [← V_main_arg0 m c]
  congr 1
  blk_ext [index_left, h0, h1]

/-- An entry of the right block of point `t`. -/
theorem right_at (c : Dev nD) (t : Fin cfg0.N) (x : S1024x1024.Idx) (i : S1024x4096.Idx)
    (h0 : (i 0).val = (x 0).val) (h1 : (i 1).val = t.val % 4 * 1024 + (x 1).val) :
    iblk m c 1 t x = m ((c : Thread nD τ).loc main_arg1) i := by
  blk_simp [iblk]
  rw [← V_main_arg1 m c]
  congr 1
  blk_ext [index_right, h0, h1]

/-- The array the call ends with is the first argument times the second one transposed. -/
theorem final (c : Dev nD) : (dats m 0 c).arrAt 2 cfg0.N
    = Product.nt (M := 4096) (K := 4096) (N := 1024) (m ((c : Thread nD τ).loc main_arg0)) (m ((c : Thread nD τ).loc main_arg1)) := by
  refine (dats m 0 c).arrAt_eq_of_covers 2 _ (by decide +kernel) fun t hf y => ?_
  have last : t.val % 4 = 3 := (flush0_2 t).mp hf
  have row : ((((cfg0.win 2).blk t).view.emb y 0 : Fin _) : ℕ) = t.val / 4 * 2048 + (y 0).val := by
    blk_simp [index_out]
  have col : ((((cfg0.win 2).blk t).view.emb y 1 : Fin _) : ℕ) = (y 1).val := by
    blk_simp [index_out]
  rw [after0_2]
  refine (written m c t last y).trans ?_
  rw [Pipeline.eq_sum_fin_of_reset_step_apply_of_flush (fun n h => (outsAt0 m c n h).2) 4 (fun _ => 0)
    (part m c) (reset m c) (next m c) t last y, zero_add]
  refine Fin.sum_mul_add_congr fun s k hl => ?_
  congr 1
  · refine left_at m c _ _ _ (row.trans ?_) (show s.val * 1024 + k.val = (4 * (t.val / 4) + s.val) % 4 * 1024 + k.val by omega)
    show _ = (4 * (t.val / 4) + s.val) / 4 * 2048 + (y 0).val
    omega
  · exact right_at m c _ _ _ col (show s.val * 1024 + k.val = (4 * (t.val / 4) + s.val) % 4 * 1024 + k.val by omega)

end Cert.Kernel3Ideal.HiddenBack

end
-- ==== Proof.Up.lean ====
/-
  The up projection of the feed-forward block with its squared rectifier, as the kernel computes it.

  Point `t` of the grid makes the whole block in row block `t / 4` and column block `t % 4`.
-/
module

public import proofs.«01_k».proof.Proof.Product
public import proofs.«01_k».proof.Proof.Gen.Kernel6Ideal.Value

@[expose] public section

set_option maxRecDepth 16384

noncomputable section

namespace Cert.Kernel6Ideal.Up

open Idealize.ShloMosaic Idealize.ShloMosaic.TcCoe Idealize.ShloMosaic.Pipeline Idealize.ShloMosaic.ValueIdx
open Cert.Kernel6Ideal Cert.Kernel6Ideal.Gen
open scoped BigOperators

attribute [local instance] Cert.Kernel6Ideal.Gen.facts

/-- A block is the squared rectifier of the product. -/
theorem block_apply (l : S2048x1024.Idx → EReal) (r : S1024x1024.Idx → EReal) (i : S2048x1024.Idx) :
    k0_pay1 (F := Ideal) l r i = Product.squared (Product.nn l r i) := by
  unfold k0_pay1 Product.squared
  rw [← Product.plain none l r i, ← Ideal.ofBits_zero_f32]
  rfl

variable (m : (ℓ : Loc nD τ sig) → Buf (Elt Ideal) ℓ)

theorem index_left : ∀ t : Fin cfg0.N, win0_0.index t = ![t.val / 4, 0] :=
  (by decide +kernel : ∀ t : Fin grid0.N, _)

theorem index_right : ∀ t : Fin cfg0.N, win0_1.index t = ![0, t.val % 4] :=
  (by decide +kernel : ∀ t : Fin grid0.N, _)

theorem index_out : ∀ t : Fin cfg0.N, win0_2.index t = ![t.val / 4, t.val % 4] :=
  (by decide +kernel : ∀ t : Fin grid0.N, _)

/-- An entry of the left block of point `t`. -/
theorem left_at (c : Dev nD) (t : Fin cfg0.N) (x : S2048x1024.Idx) (i : S4096x1024.Idx)
    (h0 : (i 0).val = t.val / 4 * 2048 + (x 0).val) (h1 : (i 1).val = (x 1).val) :
    iblk m c 0 t x = m ((c : Thread nD τ).loc main_arg0) i := by
  blk_simp [iblk]
  rw [← V_main_arg0 m c]
  congr 1
  blk_ext [index_left, h0, h1]

/-- An entry of the right block of point `t`. -/
theorem right_at (c : Dev nD) (t : Fin cfg0.N) (x : S1024x1024.Idx) (i : S1024x4096.Idx)
    (h0 : (i 0).val = (x 0).val) (h1 : (i 1).val = t.val % 4 * 1024 + (x 1).val) :
    iblk m c 1 t x = m ((c : Thread nD τ).loc main_arg1) i := by
  blk_simp [iblk]
  rw [← V_main_arg1 m c]
  congr 1
  blk_ext [index_right, h0, h1]

/-- The array the call ends with is the squared rectifier of the product of its two arguments. -/
theorem final (c : Dev nD) : (dats m 0 c).arrAt 2 cfg0.N = fun i => Product.squared
    (Product.nn (M := 4096) (K := 1024) (N := 4096) (m ((c : Thread nD τ).loc main_arg0)) (m ((c : Thread nD τ).loc main_arg1)) i) := by
  refine (dats m 0 c).arrAt_eq_of_covers 2 _ (by decide +kernel) fun t hf y => ?_
  have row : ((((cfg0.win 2).blk t).view.emb y 0 : Fin _) : ℕ) = t.val / 4 * 2048 + (y 0).val := by
    blk_simp [index_out]
  have col : ((((cfg0.win 2).blk t).view.emb y 1 : Fin _) : ℕ) = t.val % 4 * 1024 + (y 1).val := by
    blk_simp [index_out]
  rw [after0_2]
  frame_out
  refine (block_apply _ _ _).trans (congrArg Product.squared (Finset.sum_congr rfl fun k _ => ?_))
  congr 1
  · exact left_at m c _ _ _ row rfl
  · exact right_at m c _ _ _ rfl col

end Cert.Kernel6Ideal.Up

end
-- ==== Proof.Down.lean ====
/-
  The down projection of the feed-forward block, as the kernel computes it.

  Point `t` of the grid works on row block `t / 4` and takes the products of the contracted columns
  `1024 * (t % 4)` and on; the last point of each four writes the block back.
-/
module

public import proofs.«01_k».proof.Proof.Product
public import proofs.«01_k».proof.Proof.Gen.Kernel7Ideal.Value
public import Idealize.ShloMosaic.Lib.Pipeline.ReadBack

@[expose] public section

set_option maxRecDepth 16384

noncomputable section

namespace Cert.Kernel7Ideal.Down

open Idealize.ShloMosaic Idealize.ShloMosaic.TcCoe Idealize.ShloMosaic.Pipeline Idealize.ShloMosaic.ValueIdx
open Cert.Kernel7Ideal Cert.Kernel7Ideal.Gen
open scoped BigOperators

attribute [local instance] Cert.Kernel7Ideal.Gen.facts

/-- One step adds the product of the two blocks. -/
theorem step_apply (acc : FVec Ideal S2048x1024 .f32) (l : FVec Ideal S2048x1024 .bf16) (r : FVec Ideal S1024x1024 .bf16)
    (i : S2048x1024.Idx) : k0_pay2 acc l r i = acc i + Product.nn l r i := by
  unfold k0_pay2
  rw [shapeCast_self]
  exact congrArg (acc i + ·) (Product.plain none l r i)

/-- The accumulator starts from zero. -/
theorem start_apply (i : S2048x1024.Idx) : k0_pay1 (F := Ideal) i = 0 := by
  unfold k0_pay1
  rw [shapeCast_self]
  exact Ideal.ofBits_zero_f32

variable (m : (ℓ : Loc nD τ sig) → Buf (Elt Ideal) ℓ)

/-- What point `t` adds to the accumulator. -/
def part (c : Dev nD) (t : Fin cfg0.N) (y : S2048x1024.Idx) : EReal :=
  Product.nn (M := 2048) (K := 1024) (N := 1024) (iblk m c 0 t) (iblk m c 1 t) y

theorem reset (c : Dev nD) (t : Fin cfg0.N) (h : t.val % 4 = 0) (y : S2048x1024.Idx) :
    (outsAt0 m c t.val t.isLt).2 y = 0 + part m c t y := by
  rw [outsAt0_A m c t h (by omega)]
  frame_out
  rw [step_apply, start_apply]
  rfl

theorem next (c : Dev nD) (t : Fin cfg0.N) (h : ¬t.val % 4 = 0) (y : S2048x1024.Idx) :
    (outsAt0 m c t.val t.isLt).2 y
      = (outsAt0 m c (t.val - 1) (Nat.lt_of_le_of_lt (Nat.sub_le _ _) t.isLt)).2 y + part m c t y := by
  by_cases last : t.val % 4 = 3
  · rw [outsAt0_C m c t h last]
    frame_out
    rw [step_apply]
    exact congrArg (· + _) (congrFun (Idealize.ShloMosaic.read_unread_whole cc0_scratch0 (Memref.isWhole_whole _) _) y)
  · rw [outsAt0_B m c t h last]
    frame_out
    rw [step_apply]
    exact congrArg (· + _) (congrFun (Idealize.ShloMosaic.read_unread_whole cc0_scratch0 (Memref.isWhole_whole _) _) y)

/-- At the last point of a row block what is written back is the accumulator. -/
theorem written (c : Dev nD) (t : Fin cfg0.N) (last : t.val % 4 = 3) (y : S2048x1024.Idx) :
    (outsAt0 m c t.val t.isLt).1 y = (outsAt0 m c t.val t.isLt).2 y := by
  rw [outsAt0_C m c t (by omega) last]
  frame_out

theorem index_left : ∀ t : Fin cfg0.N, win0_0.index t = ![t.val / 4, t.val % 4] :=
  (by decide +kernel : ∀ t : Fin grid0.N, _)

theorem index_right : ∀ t : Fin cfg0.N, win0_1.index t = ![t.val % 4, 0] :=
  (by decide +kernel : ∀ t : Fin grid0.N, _)

theorem index_out : ∀ t : Fin cfg0.N, win0_2.index t = ![t.val / 4, 0] :=
  (by decide +kernel : ∀ t : Fin grid0.N, _)

/-- An entry of the left block of point `t`. -/
theorem left_at (c : Dev nD) (t : Fin cfg0.N) (x : S2048x1024.Idx) (i : S4096x4096.Idx)
    (h0 : (i 0).val = t.val / 4 * 2048 + (x 0).val) (h1 : (i 1).val = t.val % 4 * 1024 + (x 1).val) :
    iblk m c 0 t x = m ((c : Thread nD τ).loc main_arg0) i := by
  blk_simp [iblk]
  rw [← V_main_arg0 m c]
  congr 1
  blk_ext [index_left, h0, h1]

/-- An entry of the right block of point `t`. -/
theorem right_at (c : Dev nD) (t : Fin cfg0.N) (x : S1024x1024.Idx) (i : S4096x1024.Idx)
    (h0 : (i 0).val = t.val % 4 * 1024 + (x 0).val) (h1 : (i 1).val = (x 1).val) :
    iblk m c 1 t x = m ((c : Thread nD τ).loc main_arg1) i := by
  blk_simp [iblk]
  rw [← V_main_arg1 m c]
  congr 1
  blk_ext [index_right, h0, h1]

/-- The array the call ends with is the product of its two arguments. -/
theorem final (c : Dev nD) : (dats m 0 c).arrAt 2 cfg0.N
    = Product.nn (M := 4096) (K := 4096) (N := 1024) (m ((c : Thread nD τ).loc main_arg0)) (m ((c : Thread nD τ).loc main_arg1)) := by
  refine (dats m 0 c).arrAt_eq_of_covers 2 _ (by decide +kernel) fun t hf y => ?_
  have last : t.val % 4 = 3 := (flush0_2 t).mp hf
  have row : ((((cfg0.win 2).blk t).view.emb y 0 : Fin _) : ℕ) = t.val / 4 * 2048 + (y 0).val := by
    blk_simp [index_out]
  have col : ((((cfg0.win 2).blk t).view.emb y 1 : Fin _) : ℕ) = (y 1).val := by
    blk_simp [index_out]
  rw [after0_2]
  refine (written m c t last y).trans ?_
  rw [Pipeline.eq_sum_fin_of_reset_step_apply_of_flush (fun n h => (outsAt0 m c n h).2) 4 (fun _ => 0)
    (part m c) (reset m c) (next m c) t last y, zero_add]
  refine Fin.sum_mul_add_congr fun s k hl => ?_
  congr 1
  · refine left_at m c _ _ _ (row.trans ?_) (show s.val * 1024 + k.val = (4 * (t.val / 4) + s.val) % 4 * 1024 + k.val by omega)
    show _ = (4 * (t.val / 4) + s.val) / 4 * 2048 + (y 0).val
    omega
  · exact right_at m c _ _ _ (show s.val * 1024 + k.val = (4 * (t.val / 4) + s.val) % 4 * 1024 + k.val by omega) col

end Cert.Kernel7Ideal.Down

end
-- ==== Proof.Mlp.lean ====
/- The calls of the MLP that fill an array of their own, each beside its reference: they run, leave their arguments as they were, and end with the same array. -/
module

public import proofs.«01_k».proof.Defs
public import proofs.«01_k».proof.Proof.HiddenGrad
public import proofs.«01_k».proof.Proof.HiddenBack
public import proofs.«01_k».proof.Proof.Up
public import proofs.«01_k».proof.Proof.Down
public import proofs.«01_k».proof.Proof.Gen.Reference2Ideal.Read
public import proofs.«01_k».proof.Proof.Gen.Reference3Ideal.Read
public import proofs.«01_k».proof.Proof.Gen.Reference6Ideal.Read
public import proofs.«01_k».proof.Proof.Gen.Reference7Ideal.Read
public import Idealize.ShloMosaic.Lib.Quiescent

@[expose] public section

set_option maxRecDepth 16384

noncomputable section

namespace Cert.Mlp

open Idealize.ShloMosaic Idealize.ShloMosaic.TcCoe Idealize.ShloMosaic.Pipeline Idealize.ShloMosaic.ValueIdx Idealize.SL.Sem
open scoped BigOperators

/-! ## The gradient at the hidden layer -/

section HiddenGrad
open Cert.Reference2Ideal Cert.Reference2Ideal.Gen Cert.Reference2Ideal.Read

attribute [local instance] Cert.Kernel2Ideal.Gen.facts Cert.Reference2Ideal.Gen.facts

theorem reference_du (g w : S4096x1024.Idx → EReal) (u : S4096x4096.Idx → EReal) :
    val_main_v14 (F := Ideal) g w u
      = fun i => Product.nt (M := 4096) (K := 1024) (N := 4096) g w i * Cert.Kernel2Ideal.HiddenGrad.slope (u i) := by
  funext i
  have product : val_main_v10 (F := Ideal) g w i = Product.nt (M := 4096) (K := 1024) (N := 4096) g w i := by
    rw [val_main_v10_apply]
    exact Finset.sum_congr rfl fun k _ => congrArg₂ (· * ·) (congrArg g (Product.eq_ix2 _)) (congrArg w (Product.eq_ix2 _))
  rw [val_main_v14_apply, val_main_v13_apply, val_main_v11_apply, val_main_v2_apply, val_main_v6_apply, val_main_v0_apply,
    val_main_v12_apply, val_main_v1_apply, val_main_v5_apply, val_main_call0_v0_apply, product]
  have zero : FloatOps.ofBits (F := Ideal) .f32 0x00000000#32 = (0 : EReal) := Ideal.ofBits_zero_f32
  rw [val_main_cst_apply, val_main_cst_2_apply, val_main_call0_cst_apply, zero]
  show Scalar.select (BitVec.ofBool (decide ((0 : EReal) < u i)))
    (Product.nt (M := 4096) (K := 1024) (N := 4096) g w i * Cert.Kernel2Ideal.HiddenGrad.slope (u i)) 0 = _
  by_cases pos : (0 : EReal) < u i
  · rw [decide_eq_true pos]
    rfl
  · rw [decide_eq_false pos]
    unfold Cert.Kernel2Ideal.HiddenGrad.slope
    rw [max_eq_right (not_lt.mp pos), mul_zero, mul_zero]
    rfl

theorem frame_du : Cert.quiescent_Reference2Ideal := fun m ρ _ =>
  (θ_run (defs (F := Ideal)) _ _).mono (fun r h => ⟨fun c => (h c).2, sem_eq_zero_of_no_sems (by decide) r.2⟩)
    (Cert.Reference2Ideal.Value.run m ρ)

theorem du : Cert.algebraic_Kernel2Ideal_Reference2Ideal := fun m g m' g' _ same =>
  ⟨fun c => fun i => Product.nt (M := 4096) (K := 1024) (N := 4096)
      (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1)) i
      * Cert.Kernel2Ideal.HiddenGrad.slope (m ((c.tc : Thread Cert.Kernel2Ideal.nD Cert.Kernel2Ideal.τ).loc Cert.Kernel2Ideal.main_arg2) i),
    (θ_run (Cert.Kernel2Ideal.defs (F := Ideal)) _ _).mono
      (fun _ h c => ⟨(h c).1.trans (Cert.Kernel2Ideal.HiddenGrad.final m c), (h c).2⟩) (Cert.Kernel2Ideal.Value.run_blocks m g),
    (θ_run (defs (F := Ideal)) _ _).mono (fun _ h c => ⟨(h c).1.trans (by
      rw [val_main_v14_eq, (same c).1, (same c).2.1, (same c).2.2]
      exact reference_du _ _ _), (h c).2⟩) (Cert.Reference2Ideal.Value.run m' g')⟩

end HiddenGrad

/-! ## The gradient at the block's input -/

section HiddenBack
open Cert.Reference3Ideal Cert.Reference3Ideal.Gen Cert.Reference3Ideal.Read

attribute [local instance] Cert.Kernel3Ideal.Gen.facts Cert.Reference3Ideal.Gen.facts

theorem reference_dh (g : S4096x4096.Idx → EReal) (w : S1024x4096.Idx → EReal) :
    val_main_v5 (F := Ideal) g w = Product.nt (M := 4096) (K := 4096) (N := 1024) g w := by
  funext i
  show val_main_v4 (F := Ideal) g w i = _
  rw [val_main_v4_apply]
  exact Finset.sum_congr rfl fun k _ => congrArg₂ (· * ·) (congrArg g (Product.eq_ix2 _)) (congrArg w (Product.eq_ix2 _))

theorem frame_dh : Cert.quiescent_Reference3Ideal := fun m ρ _ =>
  (θ_run (defs (F := Ideal)) _ _).mono (fun r h => ⟨fun c => (h c).2, sem_eq_zero_of_no_sems (by decide) r.2⟩)
    (Cert.Reference3Ideal.Value.run m ρ)

theorem dh : Cert.algebraic_Kernel3Ideal_Reference3Ideal := fun m g m' g' _ same =>
  ⟨fun c => Product.nt (M := 4096) (K := 4096) (N := 1024)
      (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1)),
    (θ_run (Cert.Kernel3Ideal.defs (F := Ideal)) _ _).mono
      (fun _ h c => ⟨(h c).1.trans (Cert.Kernel3Ideal.HiddenBack.final m c), (h c).2⟩) (Cert.Kernel3Ideal.Value.run_blocks m g),
    (θ_run (defs (F := Ideal)) _ _).mono (fun _ h c => ⟨(h c).1.trans (by
      rw [val_main_v5_eq, (same c).1, (same c).2]
      exact reference_dh _ _), (h c).2⟩) (Cert.Reference3Ideal.Value.run m' g')⟩

end HiddenBack

/-! ## The up projection -/

section Up
open Cert.Reference6Ideal Cert.Reference6Ideal.Gen Cert.Reference6Ideal.Read

attribute [local instance] Cert.Kernel6Ideal.Gen.facts Cert.Reference6Ideal.Gen.facts

theorem reference_up (h : S4096x1024.Idx → EReal) (w : S1024x4096.Idx → EReal) :
    val_main_v5 (F := Ideal) h w = fun i => Product.squared (Product.nn (M := 4096) (K := 1024) (N := 4096) h w i) := by
  funext i
  have product : val_main_v2 (F := Ideal) h w i = Product.nn (M := 4096) (K := 1024) (N := 4096) h w i := by
    rw [val_main_v2_apply]
    exact Finset.sum_congr rfl fun k _ => congrArg₂ (· * ·) (congrArg h (Product.eq_ix2 _)) (congrArg w (Product.eq_ix2 _))
  rw [val_main_v5_apply, val_main_v4_apply, val_main_v3_apply, val_main_call0_v0_apply, val_main_call0_cst_apply, product]
  unfold Product.squared
  rw [← Ideal.ofBits_zero_f32]
  rfl

theorem frame_up : Cert.quiescent_Reference6Ideal := fun m ρ _ =>
  (θ_run (defs (F := Ideal)) _ _).mono (fun r h => ⟨fun c => (h c).2, sem_eq_zero_of_no_sems (by decide) r.2⟩)
    (Cert.Reference6Ideal.Value.run m ρ)

theorem up : Cert.algebraic_Kernel6Ideal_Reference6Ideal := fun m g m' g' _ same =>
  ⟨fun c => fun i => Product.squared (Product.nn (M := 4096) (K := 1024) (N := 4096)
      (m ((c.tc : Thread Cert.Kernel6Ideal.nD Cert.Kernel6Ideal.τ).loc Cert.Kernel6Ideal.main_arg0))
      (m ((c.tc : Thread Cert.Kernel6Ideal.nD Cert.Kernel6Ideal.τ).loc Cert.Kernel6Ideal.main_arg1)) i),
    (θ_run (Cert.Kernel6Ideal.defs (F := Ideal)) _ _).mono
      (fun _ h c => ⟨(h c).1.trans (Cert.Kernel6Ideal.Up.final m c), (h c).2⟩) (Cert.Kernel6Ideal.Value.run_blocks m g),
    (θ_run (defs (F := Ideal)) _ _).mono (fun _ h c => ⟨(h c).1.trans (by
      rw [val_main_v5_eq, (same c).1, (same c).2]
      exact reference_up _ _), (h c).2⟩) (Cert.Reference6Ideal.Value.run m' g')⟩

end Up

/-! ## The down projection -/

section Down
open Cert.Reference7Ideal Cert.Reference7Ideal.Gen Cert.Reference7Ideal.Read

attribute [local instance] Cert.Kernel7Ideal.Gen.facts Cert.Reference7Ideal.Gen.facts

theorem reference_down (a : S4096x4096.Idx → EReal) (w : S4096x1024.Idx → EReal) :
    val_main_v2 (F := Ideal) a w = Product.nn (M := 4096) (K := 4096) (N := 1024) a w := by
  funext i
  rw [val_main_v2_apply]
  exact Finset.sum_congr rfl fun k _ => congrArg₂ (· * ·) (congrArg a (Product.eq_ix2 _)) (congrArg w (Product.eq_ix2 _))

theorem frame_down : Cert.quiescent_Reference7Ideal := fun m ρ _ =>
  (θ_run (defs (F := Ideal)) _ _).mono (fun r h => ⟨fun c => (h c).2, sem_eq_zero_of_no_sems (by decide) r.2⟩)
    (Cert.Reference7Ideal.Value.run m ρ)

theorem down : Cert.algebraic_Kernel7Ideal_Reference7Ideal := fun m g m' g' _ same =>
  ⟨fun c => Product.nn (M := 4096) (K := 4096) (N := 1024)
      (m ((c.tc : Thread Cert.Kernel7Ideal.nD Cert.Kernel7Ideal.τ).loc Cert.Kernel7Ideal.main_arg0))
      (m ((c.tc : Thread Cert.Kernel7Ideal.nD Cert.Kernel7Ideal.τ).loc Cert.Kernel7Ideal.main_arg1)),
    (θ_run (Cert.Kernel7Ideal.defs (F := Ideal)) _ _).mono
      (fun _ h c => ⟨(h c).1.trans (Cert.Kernel7Ideal.Down.final m c), (h c).2⟩) (Cert.Kernel7Ideal.Value.run_blocks m g),
    (θ_run (defs (F := Ideal)) _ _).mono (fun _ h c => ⟨(h c).1.trans (by
      rw [val_main_v2_eq, (same c).1, (same c).2]
      exact reference_down _ _), (h c).2⟩) (Cert.Reference7Ideal.Value.run m' g')⟩

end Down

end Cert.Mlp

end
-- ==== Proof.Packed.lean ====
/-
  The packed gradients, and a product written into them.

  The packed gradients are four slabs of 13056 rows, one slab for each chip of the row.  A layer's gradient fills one row
  block of 1024 rows in every slab: the down projection's is dealt to the slabs by its rows, the up projection's by its
  columns.
-/
module

public import proofs.«01_k».proof.Proof.Product

@[expose] public section

noncomputable section

namespace Cert.Packed

open Idealize.ShloMosaic Idealize.ShloMosaic.ValueIdx

/-- The packed gradients `g` with the slabs `y` put into row block `b`. -/
def put (b : ℕ) (y : (⟨3, ![4, 1024, 1024]⟩ : Shape).Idx → EReal) (g : (⟨3, ![4, 13056, 1024]⟩ : Shape).Idx → EReal) :
    (⟨3, ![4, 13056, 1024]⟩ : Shape).Idx → EReal := fun i =>
  if (i 1 : ℕ) / 1024 = b then y (ix3 (i 0) ⟨(i 1).val % 1024, Nat.mod_lt _ (by decide)⟩ (i 2)) else g i

/-- The gradient of the down projection, dealt to the slabs by its rows. -/
def byRows (act : (⟨2, ![4096, 4096]⟩ : Shape).Idx → EReal) (dy : (⟨2, ![4096, 1024]⟩ : Shape).Idx → EReal) :
    (⟨3, ![4, 1024, 1024]⟩ : Shape).Idx → EReal := fun j =>
  Product.tn (M := 4096) (K := 4096) (N := 1024) act dy (ix2 ⟨(j 0).val * 1024 + (j 1).val, by
    have h : (j 0).val < 4 := (j 0).isLt
    have h' : (j 1).val < 1024 := (j 1).isLt
    omega⟩ (j 2))

/-- The gradient of the up projection, dealt to the slabs by its columns. -/
def byColumns (h : (⟨2, ![4096, 1024]⟩ : Shape).Idx → EReal) (du : (⟨2, ![4096, 4096]⟩ : Shape).Idx → EReal) :
    (⟨3, ![4, 1024, 1024]⟩ : Shape).Idx → EReal := fun j =>
  Product.tn (M := 1024) (K := 4096) (N := 4096) h du (ix2 (j 1) ⟨(j 0).val * 1024 + (j 2).val, by
    have h : (j 0).val < 4 := (j 0).isLt
    have h' : (j 2).val < 1024 := (j 2).isLt
    omega⟩)

/-- The block of run `q` in row block `b`: its slab, and its places in the slab. -/
theorem place {q b : ℕ} {i : (⟨3, ![4, 13056, 1024]⟩ : Shape).Idx} {x : (⟨3, ![1, 1024, 1024]⟩ : Shape).Idx}
    (h0 : (i 0).val = q * 1 + (x 0).val) (h1 : (i 1).val = b * 1024 + (x 1).val) (h2 : (i 2).val = 0 * 1024 + (x 2).val) :
    (i 0).val = q ∧ (i 1).val % 1024 = (x 1).val ∧ (i 2).val = (x 2).val := by
  have head : (x 0).val < 1 := (x 0).isLt
  have low : (x 1).val < 1024 := (x 1).isLt
  omega

/-- Slabs put between the rows above and the rows below them. -/
theorem put_between {a e : ℕ} (b : ℕ) (x : (⟨3, ![4, a, 1024]⟩ : Shape).Idx → EReal)
    (y : (⟨3, ![4, 1024, 1024]⟩ : Shape).Idx → EReal) (z : (⟨3, ![4, e, 1024]⟩ : Shape).Idx → EReal)
    (g : (⟨3, ![4, 13056, 1024]⟩ : Shape).Idx → EReal)
    (hc : Shape.Concatenates [(⟨3, ![4, a, 1024]⟩ : Shape), ⟨3, ![4, 1024, 1024]⟩, ⟨3, ![4, e, 1024]⟩] ⟨3, ![4, 13056, 1024]⟩ 1)
    (ha : a = b * 1024) (he : a + 1024 + e = 13056)
    (hx : ∀ j i, (i 0).val = (j 0).val → (i 1).val = (j 1).val → (i 2).val = (j 2).val → x j = g i)
    (hz : ∀ j i, (i 0).val = (j 0).val → (i 1).val = a + 1024 + (j 1).val → (i 2).val = (j 2).val → z j = g i) :
    concatenate ⟨3, ![4, 13056, 1024]⟩ 1 [⟨⟨3, ![4, a, 1024]⟩, x⟩, ⟨⟨3, ![4, 1024, 1024]⟩, y⟩, ⟨⟨3, ![4, e, 1024]⟩, z⟩] hc
      = put b y g := by
  funext i
  have len : (i 1).val < 13056 := (i 1).isLt
  unfold put
  by_cases low : (i 1).val < a
  · rw [if_neg (by omega)]
    exact (Product.piece _ _ i 0 (by exact (show 0 < 3 by decide)) x rfl 0 rfl ⟨(i 1).val, low⟩ (Nat.zero_add _)).trans
      (hx _ _ rfl rfl rfl)
  by_cases mid : (i 1).val < a + 1024
  · rw [if_pos (by omega)]
    refine (Product.piece _ _ i 1 (by exact (show 1 < 3 by decide)) y rfl a (by exact Nat.add_zero a) ⟨(i 1).val - a, by omega⟩
      (Nat.add_sub_cancel' (by omega : a ≤ (i 1).val))).trans (congrArg y (Product.ext3 rfl ?_ rfl))
    show (i 1).val - a = (i 1).val % 1024
    omega
  · rw [if_neg (by omega)]
    exact (Product.piece _ _ i 2 (by exact (show 2 < 3 by decide)) z rfl (a + 1024) rfl ⟨(i 1).val - (a + 1024), by omega⟩
      (Nat.add_sub_cancel' (by omega : a + 1024 ≤ (i 1).val))).trans
      (hz _ _ rfl (Nat.add_sub_cancel' (by omega : a + 1024 ≤ (i 1).val)).symm rfl)

/-- Slabs put between the rows of `g` above and below them. -/
theorem put_slices {a e : ℕ} (b : ℕ) (y : (⟨3, ![4, 1024, 1024]⟩ : Shape).Idx → EReal)
    (g : (⟨3, ![4, 13056, 1024]⟩ : Shape).Idx → EReal)
    (hx : (⟨3, ![4, 13056, 1024]⟩ : Shape).Slices ![0, 0, 0] ⟨3, ![4, a, 1024]⟩)
    (hz : (⟨3, ![4, 13056, 1024]⟩ : Shape).Slices ![0, a + 1024, 0] ⟨3, ![4, e, 1024]⟩)
    (hc : Shape.Concatenates [(⟨3, ![4, a, 1024]⟩ : Shape), ⟨3, ![4, 1024, 1024]⟩, ⟨3, ![4, e, 1024]⟩] ⟨3, ![4, 13056, 1024]⟩ 1)
    (ha : a = b * 1024) (he : a + 1024 + e = 13056) :
    concatenate ⟨3, ![4, 13056, 1024]⟩ 1 [⟨⟨3, ![4, a, 1024]⟩, extractStridedSlice ⟨3, ![4, a, 1024]⟩ ![0, 0, 0] g hx⟩,
      ⟨⟨3, ![4, 1024, 1024]⟩, y⟩, ⟨⟨3, ![4, e, 1024]⟩, extractStridedSlice ⟨3, ![4, e, 1024]⟩ ![0, a + 1024, 0] g hz⟩] hc
      = put b y g :=
  put_between b _ _ _ g hc ha he
    (fun _ _ h0 h1 h2 => congrArg g (Product.ext3 ((Nat.zero_add _).trans h0.symm) ((Nat.zero_add _).trans h1.symm)
      ((Nat.zero_add _).trans h2.symm)))
    (fun _ _ h0 h1 h2 => congrArg g (Product.ext3 ((Nat.zero_add _).trans h0.symm) h1.symm ((Nat.zero_add _).trans h2.symm)))

/-- Slabs put above the other rows. -/
theorem put_above (y : (⟨3, ![4, 1024, 1024]⟩ : Shape).Idx → EReal) (z : (⟨3, ![4, 12032, 1024]⟩ : Shape).Idx → EReal)
    (g : (⟨3, ![4, 13056, 1024]⟩ : Shape).Idx → EReal)
    (hc : Shape.Concatenates [(⟨3, ![4, 1024, 1024]⟩ : Shape), ⟨3, ![4, 12032, 1024]⟩] ⟨3, ![4, 13056, 1024]⟩ 1)
    (hz : ∀ j i, (i 0).val = (j 0).val → (i 1).val = 1024 + (j 1).val → (i 2).val = (j 2).val → z j = g i) :
    concatenate ⟨3, ![4, 13056, 1024]⟩ 1 [⟨⟨3, ![4, 1024, 1024]⟩, y⟩, ⟨⟨3, ![4, 12032, 1024]⟩, z⟩] hc = put 0 y g := by
  funext i
  have len : (i 1).val < 13056 := (i 1).isLt
  unfold put
  by_cases low : (i 1).val < 1024
  · rw [if_pos (by omega)]
    refine (Product.piece _ _ i 0 (by exact (show 0 < 2 by decide)) y rfl 0 rfl ⟨(i 1).val, low⟩ (Nat.zero_add _)).trans
      (congrArg y (Product.ext3 rfl ?_ rfl))
    show (i 1).val = (i 1).val % 1024
    omega
  · rw [if_neg (by omega)]
    exact (Product.piece _ _ i 1 (by exact (show 1 < 2 by decide)) z rfl 1024 rfl ⟨(i 1).val - 1024, by omega⟩
      (Nat.add_sub_cancel' (by omega : 1024 ≤ (i 1).val))).trans
      (hz _ _ rfl (Nat.add_sub_cancel' (by omega : 1024 ≤ (i 1).val)).symm rfl)

end Cert.Packed

end
-- ==== Proof.Contract.lean ====
/-
  A product contracted over the points of a grid.

  Runs of `S` points of the grid share an accumulator: the first point of a run starts it, every point adds the product of
  its two blocks, and point `t` holds the `t % S`-th blocks of the contracted axis.  At the last point of its run the
  accumulator holds the entries of the whole product.  The extents, and where the run's blocks lie on the other axes
  (`a` and `b`, of the run's number), are variables.
-/
module

public import proofs.«01_k».proof.Proof.Product

@[expose] public section

namespace Cert.Product

open Idealize.ShloMosaic Idealize.ShloMosaic.ValueIdx

variable {P S m n k M N K : ℕ} [NeZero S] (a b : ℕ → ℕ)

/-- The place of a point of a run in the run, and the run's number. -/
theorem run_place (t : ℕ) (s : Fin S) : (S * (t / S) + s.val) % S = s.val ∧ (S * (t / S) + s.val) / S = t / S :=
  ⟨by rw [Nat.mul_add_mod, Nat.mod_eq_of_lt s.isLt], by
    rw [Nat.mul_add_div (Nat.pos_of_neZero S), Nat.div_eq_of_lt s.isLt, Nat.add_zero]⟩

/-- The left matrix transposed. -/
theorem tn_of_points (hK : K = S * k) (acc : (p : ℕ) → p < P → (⟨2, ![m, n]⟩ : Shape).Idx → EReal)
    (l : Fin P → (⟨2, ![k, m]⟩ : Shape).Idx → EReal) (r : Fin P → (⟨2, ![k, n]⟩ : Shape).Idx → EReal)
    (L : (⟨2, ![K, M]⟩ : Shape).Idx → EReal) (R : (⟨2, ![K, N]⟩ : Shape).Idx → EReal)
    (reset : ∀ t : Fin P, t.val % S = 0 → ∀ y, acc t.val t.isLt y = 0 + tn (l t) (r t) y)
    (next : ∀ t : Fin P, ¬t.val % S = 0 → ∀ y,
      acc t.val t.isLt y = acc (t.val - 1) (Nat.lt_of_le_of_lt (Nat.sub_le _ _) t.isLt) y + tn (l t) (r t) y)
    (left : ∀ (t : Fin P) x i, (i 0).val = t.val % S * k + (x 0).val → (i 1).val = a (t.val / S) + (x 1).val → l t x = L i)
    (right : ∀ (t : Fin P) x i, (i 0).val = t.val % S * k + (x 0).val → (i 1).val = b (t.val / S) + (x 1).val → r t x = R i)
    (t : Fin P) (last : t.val % S = S - 1) (y : (⟨2, ![m, n]⟩ : Shape).Idx) (i : (⟨2, ![M, N]⟩ : Shape).Idx)
    (h0 : (i 0).val = a (t.val / S) + (y 0).val) (h1 : (i 1).val = b (t.val / S) + (y 1).val) :
    acc t.val t.isLt y = tn L R i := by
  rw [Pipeline.eq_sum_fin_of_reset_step_apply_of_flush acc S (fun _ => 0) (fun t => tn (l t) (r t)) reset next t last y, zero_add]
  refine Fin.sum_mul_add_congr (fun s q hl => ?_) hK
  obtain ⟨place, run⟩ := run_place t.val s
  congr 1
  · refine left _ _ _ ?_ ?_
    · show s.val * k + q.val = (S * (t.val / S) + s.val) % S * k + q.val
      rw [place]
    · show (i 0).val = a ((S * (t.val / S) + s.val) / S) + (y 0).val
      rw [run, h0]
  · refine right _ _ _ ?_ ?_
    · show s.val * k + q.val = (S * (t.val / S) + s.val) % S * k + q.val
      rw [place]
    · show (i 1).val = b ((S * (t.val / S) + s.val) / S) + (y 1).val
      rw [run, h1]

/-- The right matrix transposed. -/
theorem nt_of_points (hK : K = S * k) (acc : (p : ℕ) → p < P → (⟨2, ![m, n]⟩ : Shape).Idx → EReal)
    (l : Fin P → (⟨2, ![m, k]⟩ : Shape).Idx → EReal) (r : Fin P → (⟨2, ![n, k]⟩ : Shape).Idx → EReal)
    (L : (⟨2, ![M, K]⟩ : Shape).Idx → EReal) (R : (⟨2, ![N, K]⟩ : Shape).Idx → EReal)
    (reset : ∀ t : Fin P, t.val % S = 0 → ∀ y, acc t.val t.isLt y = 0 + nt (l t) (r t) y)
    (next : ∀ t : Fin P, ¬t.val % S = 0 → ∀ y,
      acc t.val t.isLt y = acc (t.val - 1) (Nat.lt_of_le_of_lt (Nat.sub_le _ _) t.isLt) y + nt (l t) (r t) y)
    (left : ∀ (t : Fin P) x i, (i 0).val = a (t.val / S) + (x 0).val → (i 1).val = t.val % S * k + (x 1).val → l t x = L i)
    (right : ∀ (t : Fin P) x i, (i 0).val = b (t.val / S) + (x 0).val → (i 1).val = t.val % S * k + (x 1).val → r t x = R i)
    (t : Fin P) (last : t.val % S = S - 1) (y : (⟨2, ![m, n]⟩ : Shape).Idx) (i : (⟨2, ![M, N]⟩ : Shape).Idx)
    (h0 : (i 0).val = a (t.val / S) + (y 0).val) (h1 : (i 1).val = b (t.val / S) + (y 1).val) :
    acc t.val t.isLt y = nt L R i := by
  rw [Pipeline.eq_sum_fin_of_reset_step_apply_of_flush acc S (fun _ => 0) (fun t => nt (l t) (r t)) reset next t last y, zero_add]
  refine Fin.sum_mul_add_congr (fun s q hl => ?_) hK
  obtain ⟨place, run⟩ := run_place t.val s
  congr 1
  · refine left _ _ _ ?_ ?_
    · show (i 0).val = a ((S * (t.val / S) + s.val) / S) + (y 0).val
      rw [run, h0]
    · show s.val * k + q.val = (S * (t.val / S) + s.val) % S * k + q.val
      rw [place]
  · refine right _ _ _ ?_ ?_
    · show (i 1).val = b ((S * (t.val / S) + s.val) / S) + (y 1).val
      rw [run, h1]
    · show s.val * k + q.val = (S * (t.val / S) + s.val) % S * k + q.val
      rw [place]

end Cert.Product
-- ==== Proof.DownGrad.lean ====
/-
  The gradient of the down projection, as the kernel computes it and writes it into the packed gradients.

  The packed gradients are four slabs of 13056 rows; this product fills rows 4096 to 5119 of each, row block `t / 4` of
  the product in slab `t / 4`.  Point `t` contracts rows `1024 * (t % 4)` and on of both operands.  Every other row stays
  as it was.
-/
module

public import proofs.«01_k».proof.Proof.Packed
public import proofs.«01_k».proof.Proof.Contract
public import proofs.«01_k».proof.Proof.Gen.Kernel4Ideal.Value
public import Idealize.ShloMosaic.Lib.Pipeline.ReadBack
public import Idealize.ShloMosaic.Lib.Pipeline.ValueKit.Partial
public import Idealize.ShloMosaic.Lib.StableHlo.RunRead

@[expose] public section

set_option maxRecDepth 16384

noncomputable section

namespace Cert.Kernel4Ideal.DownGrad

open Idealize.ShloMosaic Idealize.ShloMosaic.TcCoe Idealize.ShloMosaic.Pipeline Idealize.ShloMosaic.ValueIdx
open Cert.Kernel4Ideal Cert.Kernel4Ideal.Gen
open scoped BigOperators

attribute [local instance] Cert.Kernel4Ideal.Gen.facts

/-- One step adds the product of the two blocks. -/
theorem step_apply (acc : FVec Ideal S1024x1024 .f32) (l r : FVec Ideal S1024x1024 .bf16) (i : S1024x1024.Idx) :
    k0_pay2 acc l r i = acc i + Product.tn l r i := by
  unfold k0_pay2
  rw [shapeCast_self]
  exact congrArg (acc i + ·) (Product.left none l r i)

/-- The accumulator starts from zero. -/
theorem start_apply (i : S1024x1024.Idx) : k0_pay1 (F := Ideal) i = 0 := by
  unfold k0_pay1
  rw [shapeCast_self]
  exact Ideal.ofBits_zero_f32

variable (m : (ℓ : Loc nD τ sig) → Buf (Elt Ideal) ℓ)

/-- What point `t` adds to the accumulator. -/
def part (c : Dev nD) (t : Fin cfg0.N) (y : S1024x1024.Idx) : EReal :=
  Product.tn (M := 1024) (K := 1024) (N := 1024) (iblk m c 0 t) (iblk m c 1 t) y

theorem reset (c : Dev nD) (t : Fin cfg0.N) (h : t.val % 4 = 0) (y : S1024x1024.Idx) :
    (outsAt0 m c t.val t.isLt).2 y = 0 + part m c t y := by
  rw [outsAt0_A m c t h (by omega)]
  frame_out
  rw [step_apply, start_apply]
  rfl

theorem next (c : Dev nD) (t : Fin cfg0.N) (h : ¬t.val % 4 = 0) (y : S1024x1024.Idx) :
    (outsAt0 m c t.val t.isLt).2 y
      = (outsAt0 m c (t.val - 1) (Nat.lt_of_le_of_lt (Nat.sub_le _ _) t.isLt)).2 y + part m c t y := by
  by_cases last : t.val % 4 = 3
  · rw [outsAt0_C m c t h last]
    frame_out
    rw [step_apply]
    exact congrArg (· + _) (congrFun (Idealize.ShloMosaic.read_unread_whole cc0_scratch0 (Memref.isWhole_whole _) _) y)
  · rw [outsAt0_B m c t h last]
    frame_out
    rw [step_apply]
    exact congrArg (· + _) (congrFun (Idealize.ShloMosaic.read_unread_whole cc0_scratch0 (Memref.isWhole_whole _) _) y)

/-- At the last point of a row block what is written back is the accumulator, under a leading axis. -/
theorem written (c : Dev nD) (t : Fin cfg0.N) (last : t.val % 4 = 3) (y : S1x1024x1024.Idx) :
    (outsAt0 m c t.val t.isLt).1 y = (outsAt0 m c t.val t.isLt).2 (ix2 (y 1) (y 2)) := by
  rw [outsAt0_C m c t (by omega) last]
  frame_out
  unfold k0_pay3
  exact Product.add_head _ _ _

theorem index_left : ∀ t : Fin cfg0.N, win0_0.index t = ![t.val % 4, t.val / 4] :=
  (by decide +kernel : ∀ t : Fin grid0.N, _)

theorem index_right : ∀ t : Fin cfg0.N, win0_1.index t = ![t.val % 4, 0] :=
  (by decide +kernel : ∀ t : Fin grid0.N, _)

theorem index_out : ∀ t : Fin cfg0.N, win0_2.index t = ![t.val / 4, 4, 0] :=
  (by decide +kernel : ∀ t : Fin grid0.N, _)

/-- An entry of the left block of point `t`. -/
theorem left_at (c : Dev nD) (t : Fin cfg0.N) (x : S1024x1024.Idx) (i : S4096x4096.Idx)
    (h0 : (i 0).val = t.val % 4 * 1024 + (x 0).val) (h1 : (i 1).val = t.val / 4 * 1024 + (x 1).val) :
    iblk m c 0 t x = m ((c : Thread nD τ).loc main_arg0) i := by
  blk_simp [iblk]
  rw [← V_main_arg0 m c]
  congr 1
  blk_ext [index_left, h0, h1]

/-- An entry of the right block of point `t`. -/
theorem right_at (c : Dev nD) (t : Fin cfg0.N) (x : S1024x1024.Idx) (i : S4096x1024.Idx)
    (h0 : (i 0).val = t.val % 4 * 1024 + (x 0).val) (h1 : (i 1).val = (x 1).val) :
    iblk m c 1 t x = m ((c : Thread nD τ).loc main_arg1) i := by
  blk_simp [iblk]
  rw [← V_main_arg1 m c]
  congr 1
  blk_ext [index_right, h0, h1]

/-- The call finds in its result's buffer the packed gradients it was given. -/
theorem packed (c : Dev nD) : V m c main_v0 = m ((c : Thread nD τ).loc main_arg2) := by
  after_reads_simp
  rfl

/-- Where the block of point `t` lies in the packed gradients. -/
theorem placed (t : Fin cfg0.N) (y : (win0_2.xblock (grid0.coords t)).Idx) (a : Fin 3) :
    ((win0_2.rect t).emb y a).val = (![t.val / 4, 4, 0] : Fin 3 → ℕ) a * win0_2.size a + (win0_2.xinj (grid0.coords t) y a).val :=
  (win0_2.rect_emb_val t y a).trans (by rw [index_out t])

/-- The accumulator at the last point of a row block holds the slab's entries there. -/
theorem summed (c : Dev nD) (t : Fin cfg0.N) (last : t.val % 4 = 3) (x : S1x1024x1024.Idx) (j : (⟨3, ![4, 1024, 1024]⟩ : Shape).Idx)
    (h0 : (j 0).val = t.val / 4) (h1 : (j 1).val = (x 1).val) (h2 : (j 2).val = (x 2).val) :
    (outsAt0 m c t.val t.isLt).1 x
      = Packed.byRows (m ((c : Thread nD τ).loc main_arg0)) (m ((c : Thread nD τ).loc main_arg1)) j := by
  refine (written m c t last x).trans ?_
  exact Product.tn_of_points (S := 4) (fun q => q * 1024) (fun _ => 0) rfl (fun n h => (outsAt0 m c n h).2) (iblk m c 0) (iblk m c 1) _ _
    (reset m c) (next m c) (left_at m c) (fun t x i h0 h1 => right_at m c t x i h0 (h1.trans (Nat.zero_add _))) t last _ _
    (show (j 0).val * 1024 + (j 1).val = t.val / 4 * 1024 + (x 1).val by omega) (h2.trans (Nat.zero_add _).symm)

/-- The array the call ends with. -/
theorem final (c : Dev nD) : (dats m 0 c).arrAt 2 cfg0.N = Packed.put 4
    (Packed.byRows (m ((c : Thread nD τ).loc main_arg0)) (m ((c : Thread nD τ).loc main_arg1))) (m ((c : Thread nD τ).loc main_arg2)) := by
  rw [← packed m c]
  refine (dats m 0 c).arrAt_eq_of_coversWhere 2 _ (fun β => β (1 : Fin _) = 4) (by decide +kernel) (fun t hf y => ?_)
    (fun j => Iff.rfl)
  obtain ⟨h0, h1, h2⟩ := Packed.place (q := t.val / 4) (b := 4) (x := win0_2.xinj (grid0.coords t) y)
    (placed t y 0) (placed t y 1) (placed t y 2)
  rw [after0_2]
  exact summed m c t ((flush0_2 t).mp hf) _ _ h0 h1 h2

end Cert.Kernel4Ideal.DownGrad

end
-- ==== Proof.UpGrad.lean ====
/-
  The gradient of the up projection, as the kernel computes it and writes it into the packed gradients.

  The product is 1024 by 4096; column block `t / 4` of it fills the first 1024 rows of slab `t / 4` of the packed
  gradients.  Point `t` contracts rows `1024 * (t % 4)` and on of both operands.  Every other row stays as it was.
-/
module

public import proofs.«01_k».proof.Proof.Packed
public import proofs.«01_k».proof.Proof.Contract
public import proofs.«01_k».proof.Proof.Gen.Kernel5Ideal.Value
public import Idealize.ShloMosaic.Lib.Pipeline.ReadBack
public import Idealize.ShloMosaic.Lib.Pipeline.ValueKit.Partial
public import Idealize.ShloMosaic.Lib.StableHlo.RunRead

@[expose] public section

set_option maxRecDepth 16384

noncomputable section

namespace Cert.Kernel5Ideal.UpGrad

open Idealize.ShloMosaic Idealize.ShloMosaic.TcCoe Idealize.ShloMosaic.Pipeline Idealize.ShloMosaic.ValueIdx
open Cert.Kernel5Ideal Cert.Kernel5Ideal.Gen
open scoped BigOperators

attribute [local instance] Cert.Kernel5Ideal.Gen.facts

/-- One step adds the product of the two blocks. -/
theorem step_apply (acc : FVec Ideal S1024x1024 .f32) (l r : FVec Ideal S1024x1024 .bf16) (i : S1024x1024.Idx) :
    k0_pay2 acc l r i = acc i + Product.tn l r i := by
  unfold k0_pay2
  rw [shapeCast_self]
  exact congrArg (acc i + ·) (Product.left none l r i)

/-- The accumulator starts from zero. -/
theorem start_apply (i : S1024x1024.Idx) : k0_pay1 (F := Ideal) i = 0 := by
  unfold k0_pay1
  rw [shapeCast_self]
  exact Ideal.ofBits_zero_f32

variable (m : (ℓ : Loc nD τ sig) → Buf (Elt Ideal) ℓ)

/-- What point `t` adds to the accumulator. -/
def part (c : Dev nD) (t : Fin cfg0.N) (y : S1024x1024.Idx) : EReal :=
  Product.tn (M := 1024) (K := 1024) (N := 1024) (iblk m c 0 t) (iblk m c 1 t) y

theorem reset (c : Dev nD) (t : Fin cfg0.N) (h : t.val % 4 = 0) (y : S1024x1024.Idx) :
    (outsAt0 m c t.val t.isLt).2 y = 0 + part m c t y := by
  rw [outsAt0_A m c t h (by omega)]
  frame_out
  rw [step_apply, start_apply]
  rfl

theorem next (c : Dev nD) (t : Fin cfg0.N) (h : ¬t.val % 4 = 0) (y : S1024x1024.Idx) :
    (outsAt0 m c t.val t.isLt).2 y
      = (outsAt0 m c (t.val - 1) (Nat.lt_of_le_of_lt (Nat.sub_le _ _) t.isLt)).2 y + part m c t y := by
  by_cases last : t.val % 4 = 3
  · rw [outsAt0_C m c t h last]
    frame_out
    rw [step_apply]
    exact congrArg (· + _) (congrFun (Idealize.ShloMosaic.read_unread_whole cc0_scratch0 (Memref.isWhole_whole _) _) y)
  · rw [outsAt0_B m c t h last]
    frame_out
    rw [step_apply]
    exact congrArg (· + _) (congrFun (Idealize.ShloMosaic.read_unread_whole cc0_scratch0 (Memref.isWhole_whole _) _) y)

/-- At the last point of a column block what is written back is the accumulator, under a leading axis. -/
theorem written (c : Dev nD) (t : Fin cfg0.N) (last : t.val % 4 = 3) (y : S1x1024x1024.Idx) :
    (outsAt0 m c t.val t.isLt).1 y = (outsAt0 m c t.val t.isLt).2 (ix2 (y 1) (y 2)) := by
  rw [outsAt0_C m c t (by omega) last]
  frame_out
  unfold k0_pay3
  exact Product.add_head _ _ _

theorem index_left : ∀ t : Fin cfg0.N, win0_0.index t = ![t.val % 4, 0] :=
  (by decide +kernel : ∀ t : Fin grid0.N, _)

theorem index_right : ∀ t : Fin cfg0.N, win0_1.index t = ![t.val % 4, t.val / 4] :=
  (by decide +kernel : ∀ t : Fin grid0.N, _)

theorem index_out : ∀ t : Fin cfg0.N, win0_2.index t = ![t.val / 4, 0, 0] :=
  (by decide +kernel : ∀ t : Fin grid0.N, _)

/-- An entry of the left block of point `t`. -/
theorem left_at (c : Dev nD) (t : Fin cfg0.N) (x : S1024x1024.Idx) (i : S4096x1024.Idx)
    (h0 : (i 0).val = t.val % 4 * 1024 + (x 0).val) (h1 : (i 1).val = (x 1).val) :
    iblk m c 0 t x = m ((c : Thread nD τ).loc main_arg0) i := by
  blk_simp [iblk]
  rw [← V_main_arg0 m c]
  congr 1
  blk_ext [index_left, h0, h1]

/-- An entry of the right block of point `t`. -/
theorem right_at (c : Dev nD) (t : Fin cfg0.N) (x : S1024x1024.Idx) (i : S4096x4096.Idx)
    (h0 : (i 0).val = t.val % 4 * 1024 + (x 0).val) (h1 : (i 1).val = t.val / 4 * 1024 + (x 1).val) :
    iblk m c 1 t x = m ((c : Thread nD τ).loc main_arg1) i := by
  blk_simp [iblk]
  rw [← V_main_arg1 m c]
  congr 1
  blk_ext [index_right, h0, h1]

/-- The call finds in its result's buffer the packed gradients it was given. -/
theorem packed (c : Dev nD) : V m c main_v0 = m ((c : Thread nD τ).loc main_arg2) := by
  after_reads_simp
  rfl

/-- Where the block of point `t` lies in the packed gradients. -/
theorem placed (t : Fin cfg0.N) (y : (win0_2.xblock (grid0.coords t)).Idx) (a : Fin 3) :
    ((win0_2.rect t).emb y a).val = (![t.val / 4, 0, 0] : Fin 3 → ℕ) a * win0_2.size a + (win0_2.xinj (grid0.coords t) y a).val :=
  (win0_2.rect_emb_val t y a).trans (by rw [index_out t])

/-- The accumulator at the last point of a column block holds the slab's entries there. -/
theorem summed (c : Dev nD) (t : Fin cfg0.N) (last : t.val % 4 = 3) (x : S1x1024x1024.Idx) (j : (⟨3, ![4, 1024, 1024]⟩ : Shape).Idx)
    (h0 : (j 0).val = t.val / 4) (h1 : (j 1).val = (x 1).val) (h2 : (j 2).val = (x 2).val) :
    (outsAt0 m c t.val t.isLt).1 x
      = Packed.byColumns (m ((c : Thread nD τ).loc main_arg0)) (m ((c : Thread nD τ).loc main_arg1)) j := by
  refine (written m c t last x).trans ?_
  exact Product.tn_of_points (S := 4) (fun _ => 0) (fun q => q * 1024) rfl (fun n h => (outsAt0 m c n h).2) (iblk m c 0) (iblk m c 1) _ _
    (reset m c) (next m c) (fun t x i h0 h1 => left_at m c t x i h0 (h1.trans (Nat.zero_add _))) (right_at m c) t last _ _
    (h1.trans (Nat.zero_add _).symm) (show (j 0).val * 1024 + (j 2).val = t.val / 4 * 1024 + (x 2).val by omega)

/-- The array the call ends with. -/
theorem final (c : Dev nD) : (dats m 0 c).arrAt 2 cfg0.N = Packed.put 0
    (Packed.byColumns (m ((c : Thread nD τ).loc main_arg0)) (m ((c : Thread nD τ).loc main_arg1))) (m ((c : Thread nD τ).loc main_arg2)) := by
  rw [← packed m c]
  refine (dats m 0 c).arrAt_eq_of_coversWhere 2 _ (fun β => β (1 : Fin _) = 0) (by decide +kernel) (fun t hf y => ?_)
    (fun j => Iff.rfl)
  obtain ⟨h0, h1, h2⟩ := Packed.place (q := t.val / 4) (b := 0) (x := win0_2.xinj (grid0.coords t) y)
    (placed t y 0) (placed t y 1) (placed t y 2)
  rw [after0_2]
  exact summed m c t ((flush0_2 t).mp hf) _ _ h0 h1 h2

end Cert.Kernel5Ideal.UpGrad

end
-- ==== Proof.MlpGrads.lean ====
/- The calls of the MLP that write into the packed gradients, each beside its reference: they run, leave their arguments as
   they were, and end with the same array. -/
module

public import proofs.«01_k».proof.Defs
public import proofs.«01_k».proof.Proof.DownGrad
public import proofs.«01_k».proof.Proof.UpGrad
public import proofs.«01_k».proof.Proof.Gen.Reference4Ideal.Read
public import proofs.«01_k».proof.Proof.Gen.Reference5Ideal.Read
public import Idealize.ShloMosaic.Lib.Quiescent

@[expose] public section

set_option maxRecDepth 16384

noncomputable section

namespace Cert.Mlp

open Idealize.ShloMosaic Idealize.ShloMosaic.TcCoe Idealize.ShloMosaic.Pipeline Idealize.ShloMosaic.ValueIdx Idealize.SL.Sem
open scoped BigOperators

/-! ## The gradient of the down projection -/

section DownGrad
open Cert.Reference4Ideal Cert.Reference4Ideal.Gen Cert.Reference4Ideal.Read

attribute [local instance] Cert.Kernel4Ideal.Gen.facts Cert.Reference4Ideal.Gen.facts

/-- The gradient laid out as the packed array holds it. -/
theorem slabs_down (a : S4096x4096.Idx → EReal) (g : S4096x1024.Idx → EReal) :
    val_main_v8 (F := Ideal) a g = Packed.byRows a g := by
  funext j
  have col : (j 2).val < 1024 := (j 2).isLt
  show val_main_v7 (F := Ideal) a g j = _
  rw [val_main_v7_apply, val_main_v5_apply, val_main_v4_apply]
  unfold Packed.byRows
  refine Finset.sum_congr rfl fun k _ => (mul_comm _ _).trans ?_
  refine congrArg₂ (· * ·) (congrArg a (Product.ext2 rfl ?_)) (congrArg g (Product.ext2 rfl ?_))
  · show (((j 0).val * 1024 + (j 1).val) * 1024 + (j 2).val) / 1024 = (j 0).val * 1024 + (j 1).val
    omega
  · show (((j 0).val * 1024 + (j 1).val) * 1024 + (j 2).val) % 1024 = (j 2).val
    omega

theorem reference_dwdown (a : S4096x4096.Idx → EReal) (g : S4096x1024.Idx → EReal)
    (p : S4x13056x1024.Idx → EReal) : val_main_v10 (F := Ideal) a g p = Packed.put 4 (Packed.byRows a g) p := by
  unfold val_main_v10
  rw [slabs_down]
  exact Packed.put_slices 4 _ p _ _ _ rfl rfl

theorem frame_dwdown : Cert.quiescent_Reference4Ideal := fun m ρ _ =>
  (θ_run (defs (F := Ideal)) _ _).mono (fun r h => ⟨fun c => (h c).2, sem_eq_zero_of_no_sems (by decide) r.2⟩)
    (Cert.Reference4Ideal.Value.run m ρ)

theorem dwdown : Cert.algebraic_Kernel4Ideal_Reference4Ideal := fun m g m' g' _ same =>
  ⟨fun c => Packed.put 4 (Packed.byRows
      (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1)))
      (m ((c.tc : Thread Cert.Kernel4Ideal.nD Cert.Kernel4Ideal.τ).loc Cert.Kernel4Ideal.main_arg2)),
    (θ_run (Cert.Kernel4Ideal.defs (F := Ideal)) _ _).mono
      (fun _ h c => ⟨(h c).1.trans (Cert.Kernel4Ideal.DownGrad.final m c), (h c).2⟩) (Cert.Kernel4Ideal.Value.run_blocks m g),
    (θ_run (defs (F := Ideal)) _ _).mono (fun _ h c => ⟨(h c).1.trans (by
      rw [val_main_v10_eq, (same c).1, (same c).2.1, (same c).2.2]
      exact reference_dwdown _ _ _), (h c).2⟩) (Cert.Reference4Ideal.Value.run m' g')⟩

end DownGrad

/-! ## The gradient of the up projection -/

section UpGrad
open Cert.Reference5Ideal Cert.Reference5Ideal.Gen Cert.Reference5Ideal.Read

attribute [local instance] Cert.Kernel5Ideal.Gen.facts Cert.Reference5Ideal.Gen.facts

/-- The gradient laid out as the packed array holds it. -/
theorem slabs_up (h : S4096x1024.Idx → EReal) (g : S4096x4096.Idx → EReal) :
    val_main_v8 (F := Ideal) h g = Packed.byColumns h g := by
  funext j
  have slab : (j 0).val < 4 := (j 0).isLt
  have col : (j 2).val < 1024 := (j 2).isLt
  show val_main_v7 (F := Ideal) h g j = _
  rw [val_main_v7_apply, val_main_v6_apply, val_main_v5_apply, val_main_v4_apply]
  unfold Packed.byColumns
  refine Finset.sum_congr rfl fun k _ => (mul_comm _ _).trans ?_
  refine congrArg₂ (· * ·) (congrArg h (Product.ext2 rfl ?_)) (congrArg g (Product.ext2 rfl ?_))
  · show (((j 1).val * 4 + (j 0).val) * 1024 + (j 2).val) / 4096 = (j 1).val
    omega
  · show (((j 1).val * 4 + (j 0).val) * 1024 + (j 2).val) % 4096 = (j 0).val * 1024 + (j 2).val
    omega

theorem reference_dwup (h : S4096x1024.Idx → EReal) (g : S4096x4096.Idx → EReal)
    (p : S4x13056x1024.Idx → EReal) : val_main_v10 (F := Ideal) h g p = Packed.put 0 (Packed.byColumns h g) p := by
  unfold val_main_v10
  rw [slabs_up]
  refine Packed.put_above _ _ p _ (fun j i h0 h1 h2 => ?_)
  rw [val_main_v9_apply]
  exact congrArg p (Product.ext3 h0.symm h1.symm h2.symm)

theorem frame_dwup : Cert.quiescent_Reference5Ideal := fun m ρ _ =>
  (θ_run (defs (F := Ideal)) _ _).mono (fun r h => ⟨fun c => (h c).2, sem_eq_zero_of_no_sems (by decide) r.2⟩)
    (Cert.Reference5Ideal.Value.run m ρ)

theorem dwup : Cert.algebraic_Kernel5Ideal_Reference5Ideal := fun m g m' g' _ same =>
  ⟨fun c => Packed.put 0 (Packed.byColumns
      (m ((c.tc : Thread Cert.Kernel5Ideal.nD Cert.Kernel5Ideal.τ).loc Cert.Kernel5Ideal.main_arg0))
      (m ((c.tc : Thread Cert.Kernel5Ideal.nD Cert.Kernel5Ideal.τ).loc Cert.Kernel5Ideal.main_arg1)))
      (m ((c.tc : Thread Cert.Kernel5Ideal.nD Cert.Kernel5Ideal.τ).loc Cert.Kernel5Ideal.main_arg2)),
    (θ_run (Cert.Kernel5Ideal.defs (F := Ideal)) _ _).mono
      (fun _ h c => ⟨(h c).1.trans (Cert.Kernel5Ideal.UpGrad.final m c), (h c).2⟩) (Cert.Kernel5Ideal.Value.run_blocks m g),
    (θ_run (defs (F := Ideal)) _ _).mono (fun _ h c => ⟨(h c).1.trans (by
      rw [val_main_v10_eq, (same c).1, (same c).2.1, (same c).2.2]
      exact reference_dwup _ _ _), (h c).2⟩) (Cert.Reference5Ideal.Value.run m' g')⟩

end UpGrad

end Cert.Mlp

end
-- ==== Proof.DownGrad1.lean ====
/-
  The gradient of the down projection in layer 1.

  The call is layer 0's but for the place of its result: at every point of the grid it makes what layer 0's call makes of
  the same arguments, and writes it into row block 5 of the packed gradients.
-/
module

public import proofs.«01_k».proof.Proof.DownGrad
public import proofs.«01_k».proof.Proof.Gen.Kernel14Ideal.Value

@[expose] public section

set_option maxRecDepth 16384

noncomputable section

namespace Cert.Kernel14Ideal.DownGrad

open Idealize.ShloMosaic Idealize.ShloMosaic.TcCoe Idealize.ShloMosaic.Pipeline Idealize.ShloMosaic.ValueIdx
open Cert.Kernel14Ideal Cert.Kernel14Ideal.Gen

attribute [local instance] Cert.Kernel14Ideal.Gen.facts

variable (m : (ℓ : Loc nD τ sig) → Buf (Elt Ideal) ℓ)

/-- Every point makes what layer 0's makes. -/
theorem same_points (c : Dev nD) : ∀ (n : ℕ) (h : n < cfg0.N), outsAt0 m c n h = Cert.Kernel4Ideal.Gen.outsAt0 m c n h
  | 0, _ => by
    rw [outsAt0, Cert.Kernel4Ideal.Gen.outsAt0]
    rfl
  | n + 1, h => by
    rw [outsAt0, Cert.Kernel4Ideal.Gen.outsAt0, same_points c n]
    rfl

theorem index_out : ∀ t : Fin cfg0.N, win0_2.index t = ![t.val / 4, 5, 0] :=
  (by decide +kernel : ∀ t : Fin grid0.N, _)

/-- Where the block of point `t` lies in the packed gradients. -/
theorem placed (t : Fin cfg0.N) (y : (win0_2.xblock (grid0.coords t)).Idx) (a : Fin 3) :
    ((win0_2.rect t).emb y a).val = (![t.val / 4, 5, 0] : Fin 3 → ℕ) a * win0_2.size a + (win0_2.xinj (grid0.coords t) y a).val :=
  (win0_2.rect_emb_val t y a).trans (by rw [index_out t])

/-- The call finds in its result's buffer the packed gradients it was given. -/
theorem packed (c : Dev nD) : V m c main_v0 = m ((c : Thread nD τ).loc main_arg2) := by
  after_reads_simp
  rfl

/-- The array the call ends with. -/
theorem final (c : Dev nD) : (dats m 0 c).arrAt 2 cfg0.N = Packed.put 5
    (Packed.byRows (m ((c : Thread nD τ).loc main_arg0)) (m ((c : Thread nD τ).loc main_arg1))) (m ((c : Thread nD τ).loc main_arg2)) := by
  rw [← packed m c]
  refine (dats m 0 c).arrAt_eq_of_coversWhere 2 _ (fun β => β (1 : Fin _) = 5) (by decide +kernel) (fun t hf y => ?_)
    (fun j => Iff.rfl)
  obtain ⟨h0, h1, h2⟩ := Packed.place (q := t.val / 4) (b := 5) (x := win0_2.xinj (grid0.coords t) y)
    (placed t y 0) (placed t y 1) (placed t y 2)
  rw [after0_2, same_points m c t.val t.isLt]
  exact Cert.Kernel4Ideal.DownGrad.summed m c t ((flush0_2 t).mp hf) _ _ h0 h1 h2

end Cert.Kernel14Ideal.DownGrad

end
-- ==== Proof.UpGrad1.lean ====
/-
  The gradient of the up projection in layer 1.

  The call is layer 0's but for the place of its result: at every point of the grid it makes what layer 0's call makes of
  the same arguments, and writes it into row block 1 of the packed gradients.
-/
module

public import proofs.«01_k».proof.Proof.UpGrad
public import proofs.«01_k».proof.Proof.Gen.Kernel15Ideal.Value

@[expose] public section

set_option maxRecDepth 16384

noncomputable section

namespace Cert.Kernel15Ideal.UpGrad

open Idealize.ShloMosaic Idealize.ShloMosaic.TcCoe Idealize.ShloMosaic.Pipeline Idealize.ShloMosaic.ValueIdx
open Cert.Kernel15Ideal Cert.Kernel15Ideal.Gen

attribute [local instance] Cert.Kernel15Ideal.Gen.facts

variable (m : (ℓ : Loc nD τ sig) → Buf (Elt Ideal) ℓ)

/-- Every point makes what layer 0's makes. -/
theorem same_points (c : Dev nD) : ∀ (n : ℕ) (h : n < cfg0.N), outsAt0 m c n h = Cert.Kernel5Ideal.Gen.outsAt0 m c n h
  | 0, _ => by
    rw [outsAt0, Cert.Kernel5Ideal.Gen.outsAt0]
    rfl
  | n + 1, h => by
    rw [outsAt0, Cert.Kernel5Ideal.Gen.outsAt0, same_points c n]
    rfl

theorem index_out : ∀ t : Fin cfg0.N, win0_2.index t = ![t.val / 4, 1, 0] :=
  (by decide +kernel : ∀ t : Fin grid0.N, _)

/-- Where the block of point `t` lies in the packed gradients. -/
theorem placed (t : Fin cfg0.N) (y : (win0_2.xblock (grid0.coords t)).Idx) (a : Fin 3) :
    ((win0_2.rect t).emb y a).val = (![t.val / 4, 1, 0] : Fin 3 → ℕ) a * win0_2.size a + (win0_2.xinj (grid0.coords t) y a).val :=
  (win0_2.rect_emb_val t y a).trans (by rw [index_out t])

/-- The call finds in its result's buffer the packed gradients it was given. -/
theorem packed (c : Dev nD) : V m c main_v0 = m ((c : Thread nD τ).loc main_arg2) := by
  after_reads_simp
  rfl

/-- The array the call ends with. -/
theorem final (c : Dev nD) : (dats m 0 c).arrAt 2 cfg0.N = Packed.put 1
    (Packed.byColumns (m ((c : Thread nD τ).loc main_arg0)) (m ((c : Thread nD τ).loc main_arg1))) (m ((c : Thread nD τ).loc main_arg2)) := by
  rw [← packed m c]
  refine (dats m 0 c).arrAt_eq_of_coversWhere 2 _ (fun β => β (1 : Fin _) = 1) (by decide +kernel) (fun t hf y => ?_)
    (fun j => Iff.rfl)
  obtain ⟨h0, h1, h2⟩ := Packed.place (q := t.val / 4) (b := 1) (x := win0_2.xinj (grid0.coords t) y)
    (placed t y 0) (placed t y 1) (placed t y 2)
  rw [after0_2, same_points m c t.val t.isLt]
  exact Cert.Kernel5Ideal.UpGrad.summed m c t ((flush0_2 t).mp hf) _ _ h0 h1 h2

end Cert.Kernel15Ideal.UpGrad

end
-- ==== Proof.DownGrad2.lean ====
/-
  The gradient of the down projection in layer 2.

  The call is layer 0's but for the place of its result: at every point of the grid it makes what layer 0's call makes of
  the same arguments, and writes it into row block 6 of the packed gradients.
-/
module

public import proofs.«01_k».proof.Proof.DownGrad
public import proofs.«01_k».proof.Proof.Gen.Kernel16Ideal.Value

@[expose] public section

set_option maxRecDepth 16384

noncomputable section

namespace Cert.Kernel16Ideal.DownGrad

open Idealize.ShloMosaic Idealize.ShloMosaic.TcCoe Idealize.ShloMosaic.Pipeline Idealize.ShloMosaic.ValueIdx
open Cert.Kernel16Ideal Cert.Kernel16Ideal.Gen

attribute [local instance] Cert.Kernel16Ideal.Gen.facts

variable (m : (ℓ : Loc nD τ sig) → Buf (Elt Ideal) ℓ)

/-- Every point makes what layer 0's makes. -/
theorem same_points (c : Dev nD) : ∀ (n : ℕ) (h : n < cfg0.N), outsAt0 m c n h = Cert.Kernel4Ideal.Gen.outsAt0 m c n h
  | 0, _ => by
    rw [outsAt0, Cert.Kernel4Ideal.Gen.outsAt0]
    rfl
  | n + 1, h => by
    rw [outsAt0, Cert.Kernel4Ideal.Gen.outsAt0, same_points c n]
    rfl

theorem index_out : ∀ t : Fin cfg0.N, win0_2.index t = ![t.val / 4, 6, 0] :=
  (by decide +kernel : ∀ t : Fin grid0.N, _)

/-- Where the block of point `t` lies in the packed gradients. -/
theorem placed (t : Fin cfg0.N) (y : (win0_2.xblock (grid0.coords t)).Idx) (a : Fin 3) :
    ((win0_2.rect t).emb y a).val = (![t.val / 4, 6, 0] : Fin 3 → ℕ) a * win0_2.size a + (win0_2.xinj (grid0.coords t) y a).val :=
  (win0_2.rect_emb_val t y a).trans (by rw [index_out t])

/-- The call finds in its result's buffer the packed gradients it was given. -/
theorem packed (c : Dev nD) : V m c main_v0 = m ((c : Thread nD τ).loc main_arg2) := by
  after_reads_simp
  rfl

/-- The array the call ends with. -/
theorem final (c : Dev nD) : (dats m 0 c).arrAt 2 cfg0.N = Packed.put 6
    (Packed.byRows (m ((c : Thread nD τ).loc main_arg0)) (m ((c : Thread nD τ).loc main_arg1))) (m ((c : Thread nD τ).loc main_arg2)) := by
  rw [← packed m c]
  refine (dats m 0 c).arrAt_eq_of_coversWhere 2 _ (fun β => β (1 : Fin _) = 6) (by decide +kernel) (fun t hf y => ?_)
    (fun j => Iff.rfl)
  obtain ⟨h0, h1, h2⟩ := Packed.place (q := t.val / 4) (b := 6) (x := win0_2.xinj (grid0.coords t) y)
    (placed t y 0) (placed t y 1) (placed t y 2)
  rw [after0_2, same_points m c t.val t.isLt]
  exact Cert.Kernel4Ideal.DownGrad.summed m c t ((flush0_2 t).mp hf) _ _ h0 h1 h2

end Cert.Kernel16Ideal.DownGrad

end
-- ==== Proof.UpGrad2.lean ====
/-
  The gradient of the up projection in layer 2.

  The call is layer 0's but for the place of its result: at every point of the grid it makes what layer 0's call makes of
  the same arguments, and writes it into row block 2 of the packed gradients.
-/
module

public import proofs.«01_k».proof.Proof.UpGrad
public import proofs.«01_k».proof.Proof.Gen.Kernel17Ideal.Value

@[expose] public section

set_option maxRecDepth 16384

noncomputable section

namespace Cert.Kernel17Ideal.UpGrad

open Idealize.ShloMosaic Idealize.ShloMosaic.TcCoe Idealize.ShloMosaic.Pipeline Idealize.ShloMosaic.ValueIdx
open Cert.Kernel17Ideal Cert.Kernel17Ideal.Gen

attribute [local instance] Cert.Kernel17Ideal.Gen.facts

variable (m : (ℓ : Loc nD τ sig) → Buf (Elt Ideal) ℓ)

/-- Every point makes what layer 0's makes. -/
theorem same_points (c : Dev nD) : ∀ (n : ℕ) (h : n < cfg0.N), outsAt0 m c n h = Cert.Kernel5Ideal.Gen.outsAt0 m c n h
  | 0, _ => by
    rw [outsAt0, Cert.Kernel5Ideal.Gen.outsAt0]
    rfl
  | n + 1, h => by
    rw [outsAt0, Cert.Kernel5Ideal.Gen.outsAt0, same_points c n]
    rfl

theorem index_out : ∀ t : Fin cfg0.N, win0_2.index t = ![t.val / 4, 2, 0] :=
  (by decide +kernel : ∀ t : Fin grid0.N, _)

/-- Where the block of point `t` lies in the packed gradients. -/
theorem placed (t : Fin cfg0.N) (y : (win0_2.xblock (grid0.coords t)).Idx) (a : Fin 3) :
    ((win0_2.rect t).emb y a).val = (![t.val / 4, 2, 0] : Fin 3 → ℕ) a * win0_2.size a + (win0_2.xinj (grid0.coords t) y a).val :=
  (win0_2.rect_emb_val t y a).trans (by rw [index_out t])

/-- The call finds in its result's buffer the packed gradients it was given. -/
theorem packed (c : Dev nD) : V m c main_v0 = m ((c : Thread nD τ).loc main_arg2) := by
  after_reads_simp
  rfl

/-- The array the call ends with. -/
theorem final (c : Dev nD) : (dats m 0 c).arrAt 2 cfg0.N = Packed.put 2
    (Packed.byColumns (m ((c : Thread nD τ).loc main_arg0)) (m ((c : Thread nD τ).loc main_arg1))) (m ((c : Thread nD τ).loc main_arg2)) := by
  rw [← packed m c]
  refine (dats m 0 c).arrAt_eq_of_coversWhere 2 _ (fun β => β (1 : Fin _) = 2) (by decide +kernel) (fun t hf y => ?_)
    (fun j => Iff.rfl)
  obtain ⟨h0, h1, h2⟩ := Packed.place (q := t.val / 4) (b := 2) (x := win0_2.xinj (grid0.coords t) y)
    (placed t y 0) (placed t y 1) (placed t y 2)
  rw [after0_2, same_points m c t.val t.isLt]
  exact Cert.Kernel5Ideal.UpGrad.summed m c t ((flush0_2 t).mp hf) _ _ h0 h1 h2

end Cert.Kernel17Ideal.UpGrad

end
-- ==== Proof.DownGrad3.lean ====
/-
  The gradient of the down projection in layer 3.

  The call is layer 0's but for the place of its result: at every point of the grid it makes what layer 0's call makes of
  the same arguments, and writes it into row block 7 of the packed gradients.
-/
module

public import proofs.«01_k».proof.Proof.DownGrad
public import proofs.«01_k».proof.Proof.Gen.Kernel18Ideal.Value

@[expose] public section

set_option maxRecDepth 16384

noncomputable section

namespace Cert.Kernel18Ideal.DownGrad

open Idealize.ShloMosaic Idealize.ShloMosaic.TcCoe Idealize.ShloMosaic.Pipeline Idealize.ShloMosaic.ValueIdx
open Cert.Kernel18Ideal Cert.Kernel18Ideal.Gen

attribute [local instance] Cert.Kernel18Ideal.Gen.facts

variable (m : (ℓ : Loc nD τ sig) → Buf (Elt Ideal) ℓ)

/-- Every point makes what layer 0's makes. -/
theorem same_points (c : Dev nD) : ∀ (n : ℕ) (h : n < cfg0.N), outsAt0 m c n h = Cert.Kernel4Ideal.Gen.outsAt0 m c n h
  | 0, _ => by
    rw [outsAt0, Cert.Kernel4Ideal.Gen.outsAt0]
    rfl
  | n + 1, h => by
    rw [outsAt0, Cert.Kernel4Ideal.Gen.outsAt0, same_points c n]
    rfl

theorem index_out : ∀ t : Fin cfg0.N, win0_2.index t = ![t.val / 4, 7, 0] :=
  (by decide +kernel : ∀ t : Fin grid0.N, _)

/-- Where the block of point `t` lies in the packed gradients. -/
theorem placed (t : Fin cfg0.N) (y : (win0_2.xblock (grid0.coords t)).Idx) (a : Fin 3) :
    ((win0_2.rect t).emb y a).val = (![t.val / 4, 7, 0] : Fin 3 → ℕ) a * win0_2.size a + (win0_2.xinj (grid0.coords t) y a).val :=
  (win0_2.rect_emb_val t y a).trans (by rw [index_out t])

/-- The call finds in its result's buffer the packed gradients it was given. -/
theorem packed (c : Dev nD) : V m c main_v0 = m ((c : Thread nD τ).loc main_arg2) := by
  after_reads_simp
  rfl

/-- The array the call ends with. -/
theorem final (c : Dev nD) : (dats m 0 c).arrAt 2 cfg0.N = Packed.put 7
    (Packed.byRows (m ((c : Thread nD τ).loc main_arg0)) (m ((c : Thread nD τ).loc main_arg1))) (m ((c : Thread nD τ).loc main_arg2)) := by
  rw [← packed m c]
  refine (dats m 0 c).arrAt_eq_of_coversWhere 2 _ (fun β => β (1 : Fin _) = 7) (by decide +kernel) (fun t hf y => ?_)
    (fun j => Iff.rfl)
  obtain ⟨h0, h1, h2⟩ := Packed.place (q := t.val / 4) (b := 7) (x := win0_2.xinj (grid0.coords t) y)
    (placed t y 0) (placed t y 1) (placed t y 2)
  rw [after0_2, same_points m c t.val t.isLt]
  exact Cert.Kernel4Ideal.DownGrad.summed m c t ((flush0_2 t).mp hf) _ _ h0 h1 h2

end Cert.Kernel18Ideal.DownGrad

end
-- ==== Proof.UpGrad3.lean ====
/-
  The gradient of the up projection in layer 3.

  The call is layer 0's but for the place of its result: at every point of the grid it makes what layer 0's call makes of
  the same arguments, and writes it into row block 3 of the packed gradients.
-/
module

public import proofs.«01_k».proof.Proof.UpGrad
public import proofs.«01_k».proof.Proof.Gen.Kernel19Ideal.Value

@[expose] public section

set_option maxRecDepth 16384

noncomputable section

namespace Cert.Kernel19Ideal.UpGrad

open Idealize.ShloMosaic Idealize.ShloMosaic.TcCoe Idealize.ShloMosaic.Pipeline Idealize.ShloMosaic.ValueIdx
open Cert.Kernel19Ideal Cert.Kernel19Ideal.Gen

attribute [local instance] Cert.Kernel19Ideal.Gen.facts

variable (m : (ℓ : Loc nD τ sig) → Buf (Elt Ideal) ℓ)

/-- Every point makes what layer 0's makes. -/
theorem same_points (c : Dev nD) : ∀ (n : ℕ) (h : n < cfg0.N), outsAt0 m c n h = Cert.Kernel5Ideal.Gen.outsAt0 m c n h
  | 0, _ => by
    rw [outsAt0, Cert.Kernel5Ideal.Gen.outsAt0]
    rfl
  | n + 1, h => by
    rw [outsAt0, Cert.Kernel5Ideal.Gen.outsAt0, same_points c n]
    rfl

theorem index_out : ∀ t : Fin cfg0.N, win0_2.index t = ![t.val / 4, 3, 0] :=
  (by decide +kernel : ∀ t : Fin grid0.N, _)

/-- Where the block of point `t` lies in the packed gradients. -/
theorem placed (t : Fin cfg0.N) (y : (win0_2.xblock (grid0.coords t)).Idx) (a : Fin 3) :
    ((win0_2.rect t).emb y a).val = (![t.val / 4, 3, 0] : Fin 3 → ℕ) a * win0_2.size a + (win0_2.xinj (grid0.coords t) y a).val :=
  (win0_2.rect_emb_val t y a).trans (by rw [index_out t])

/-- The call finds in its result's buffer the packed gradients it was given. -/
theorem packed (c : Dev nD) : V m c main_v0 = m ((c : Thread nD τ).loc main_arg2) := by
  after_reads_simp
  rfl

/-- The array the call ends with. -/
theorem final (c : Dev nD) : (dats m 0 c).arrAt 2 cfg0.N = Packed.put 3
    (Packed.byColumns (m ((c : Thread nD τ).loc main_arg0)) (m ((c : Thread nD τ).loc main_arg1))) (m ((c : Thread nD τ).loc main_arg2)) := by
  rw [← packed m c]
  refine (dats m 0 c).arrAt_eq_of_coversWhere 2 _ (fun β => β (1 : Fin _) = 3) (by decide +kernel) (fun t hf y => ?_)
    (fun j => Iff.rfl)
  obtain ⟨h0, h1, h2⟩ := Packed.place (q := t.val / 4) (b := 3) (x := win0_2.xinj (grid0.coords t) y)
    (placed t y 0) (placed t y 1) (placed t y 2)
  rw [after0_2, same_points m c t.val t.isLt]
  exact Cert.Kernel5Ideal.UpGrad.summed m c t ((flush0_2 t).mp hf) _ _ h0 h1 h2

end Cert.Kernel19Ideal.UpGrad

end
-- ==== Proof.Layers.lean ====
/- The weight gradients of the MLP in layers 1, 2 and 3, each beside its reference: the call runs, leaves its arguments as
   they were, and ends with the same packed gradients. -/
module

public import proofs.«01_k».proof.Defs
public import proofs.«01_k».proof.Proof.MlpGrads
public import proofs.«01_k».proof.Proof.DownGrad1
public import proofs.«01_k».proof.Proof.UpGrad1
public import proofs.«01_k».proof.Proof.DownGrad2
public import proofs.«01_k».proof.Proof.UpGrad2
public import proofs.«01_k».proof.Proof.DownGrad3
public import proofs.«01_k».proof.Proof.UpGrad3
public import proofs.«01_k».proof.Proof.Gen.Reference14Ideal.Read
public import proofs.«01_k».proof.Proof.Gen.Reference15Ideal.Read
public import proofs.«01_k».proof.Proof.Gen.Reference16Ideal.Read
public import proofs.«01_k».proof.Proof.Gen.Reference17Ideal.Read
public import proofs.«01_k».proof.Proof.Gen.Reference18Ideal.Read
public import proofs.«01_k».proof.Proof.Gen.Reference19Ideal.Read
public import Idealize.ShloMosaic.Lib.Quiescent

@[expose] public section

set_option maxRecDepth 16384

noncomputable section

namespace Cert.Mlp

open Idealize.ShloMosaic Idealize.ShloMosaic.TcCoe Idealize.ShloMosaic.Pipeline Idealize.ShloMosaic.ValueIdx Idealize.SL.Sem
open scoped BigOperators

/-! ## The gradient of the down projection in layer 1 -/

section
open Cert.Reference14Ideal Cert.Reference14Ideal.Gen Cert.Reference14Ideal.Read

attribute [local instance] Cert.Kernel14Ideal.Gen.facts Cert.Reference14Ideal.Gen.facts

theorem reference_dwdown1 (a : S4096x4096.Idx → EReal) (g : S4096x1024.Idx → EReal)
    (p : S4x13056x1024.Idx → EReal) : val_main_v10 (F := Ideal) a g p = Packed.put 5 (Packed.byRows a g) p := by
  unfold val_main_v10
  rw [show val_main_v8 (F := Ideal) a g = Packed.byRows a g from slabs_down a g]
  exact Packed.put_slices 5 _ p _ _ _ rfl rfl

theorem frame_dwdown1 : Cert.quiescent_Reference14Ideal := fun m ρ _ =>
  (θ_run (defs (F := Ideal)) _ _).mono (fun r h => ⟨fun c => (h c).2, sem_eq_zero_of_no_sems (by decide) r.2⟩)
    (Cert.Reference14Ideal.Value.run m ρ)

theorem dwdown1 : Cert.algebraic_Kernel14Ideal_Reference14Ideal := fun m g m' g' _ same =>
  ⟨fun c => Packed.put 5 (Packed.byRows
      (m ((c.tc : Thread Cert.Kernel14Ideal.nD Cert.Kernel14Ideal.τ).loc Cert.Kernel14Ideal.main_arg0))
      (m ((c.tc : Thread Cert.Kernel14Ideal.nD Cert.Kernel14Ideal.τ).loc Cert.Kernel14Ideal.main_arg1)))
      (m ((c.tc : Thread Cert.Kernel14Ideal.nD Cert.Kernel14Ideal.τ).loc Cert.Kernel14Ideal.main_arg2)),
    (θ_run (Cert.Kernel14Ideal.defs (F := Ideal)) _ _).mono
      (fun _ h c => ⟨(h c).1.trans (Cert.Kernel14Ideal.DownGrad.final m c), (h c).2⟩) (Cert.Kernel14Ideal.Value.run_blocks m g),
    (θ_run (defs (F := Ideal)) _ _).mono (fun _ h c => ⟨(h c).1.trans (by
      rw [val_main_v10_eq, (same c).1, (same c).2.1, (same c).2.2]
      exact reference_dwdown1 _ _ _), (h c).2⟩) (Cert.Reference14Ideal.Value.run m' g')⟩

end

/-! ## The gradient of the up projection in layer 1 -/

section
open Cert.Reference15Ideal Cert.Reference15Ideal.Gen Cert.Reference15Ideal.Read

attribute [local instance] Cert.Kernel15Ideal.Gen.facts Cert.Reference15Ideal.Gen.facts

theorem reference_dwup1 (h : S4096x1024.Idx → EReal) (g : S4096x4096.Idx → EReal)
    (p : S4x13056x1024.Idx → EReal) : val_main_v11 (F := Ideal) h g p = Packed.put 1 (Packed.byColumns h g) p := by
  unfold val_main_v11
  rw [show val_main_v9 (F := Ideal) h g = Packed.byColumns h g from slabs_up h g]
  exact Packed.put_slices 1 _ p _ _ _ rfl rfl

theorem frame_dwup1 : Cert.quiescent_Reference15Ideal := fun m ρ _ =>
  (θ_run (defs (F := Ideal)) _ _).mono (fun r h => ⟨fun c => (h c).2, sem_eq_zero_of_no_sems (by decide) r.2⟩)
    (Cert.Reference15Ideal.Value.run m ρ)

theorem dwup1 : Cert.algebraic_Kernel15Ideal_Reference15Ideal := fun m g m' g' _ same =>
  ⟨fun c => Packed.put 1 (Packed.byColumns
      (m ((c.tc : Thread Cert.Kernel15Ideal.nD Cert.Kernel15Ideal.τ).loc Cert.Kernel15Ideal.main_arg0))
      (m ((c.tc : Thread Cert.Kernel15Ideal.nD Cert.Kernel15Ideal.τ).loc Cert.Kernel15Ideal.main_arg1)))
      (m ((c.tc : Thread Cert.Kernel15Ideal.nD Cert.Kernel15Ideal.τ).loc Cert.Kernel15Ideal.main_arg2)),
    (θ_run (Cert.Kernel15Ideal.defs (F := Ideal)) _ _).mono
      (fun _ h c => ⟨(h c).1.trans (Cert.Kernel15Ideal.UpGrad.final m c), (h c).2⟩) (Cert.Kernel15Ideal.Value.run_blocks m g),
    (θ_run (defs (F := Ideal)) _ _).mono (fun _ h c => ⟨(h c).1.trans (by
      rw [val_main_v11_eq, (same c).1, (same c).2.1, (same c).2.2]
      exact reference_dwup1 _ _ _), (h c).2⟩) (Cert.Reference15Ideal.Value.run m' g')⟩

end

/-! ## The gradient of the down projection in layer 2 -/

section
open Cert.Reference16Ideal Cert.Reference16Ideal.Gen Cert.Reference16Ideal.Read

attribute [local instance] Cert.Kernel16Ideal.Gen.facts Cert.Reference16Ideal.Gen.facts

theorem reference_dwdown2 (a : S4096x4096.Idx → EReal) (g : S4096x1024.Idx → EReal)
    (p : S4x13056x1024.Idx → EReal) : val_main_v10 (F := Ideal) a g p = Packed.put 6 (Packed.byRows a g) p := by
  unfold val_main_v10
  rw [show val_main_v8 (F := Ideal) a g = Packed.byRows a g from slabs_down a g]
  exact Packed.put_slices 6 _ p _ _ _ rfl rfl

theorem frame_dwdown2 : Cert.quiescent_Reference16Ideal := fun m ρ _ =>
  (θ_run (defs (F := Ideal)) _ _).mono (fun r h => ⟨fun c => (h c).2, sem_eq_zero_of_no_sems (by decide) r.2⟩)
    (Cert.Reference16Ideal.Value.run m ρ)

theorem dwdown2 : Cert.algebraic_Kernel16Ideal_Reference16Ideal := fun m g m' g' _ same =>
  ⟨fun c => Packed.put 6 (Packed.byRows
      (m ((c.tc : Thread Cert.Kernel16Ideal.nD Cert.Kernel16Ideal.τ).loc Cert.Kernel16Ideal.main_arg0))
      (m ((c.tc : Thread Cert.Kernel16Ideal.nD Cert.Kernel16Ideal.τ).loc Cert.Kernel16Ideal.main_arg1)))
      (m ((c.tc : Thread Cert.Kernel16Ideal.nD Cert.Kernel16Ideal.τ).loc Cert.Kernel16Ideal.main_arg2)),
    (θ_run (Cert.Kernel16Ideal.defs (F := Ideal)) _ _).mono
      (fun _ h c => ⟨(h c).1.trans (Cert.Kernel16Ideal.DownGrad.final m c), (h c).2⟩) (Cert.Kernel16Ideal.Value.run_blocks m g),
    (θ_run (defs (F := Ideal)) _ _).mono (fun _ h c => ⟨(h c).1.trans (by
      rw [val_main_v10_eq, (same c).1, (same c).2.1, (same c).2.2]
      exact reference_dwdown2 _ _ _), (h c).2⟩) (Cert.Reference16Ideal.Value.run m' g')⟩

end

/-! ## The gradient of the up projection in layer 2 -/

section
open Cert.Reference17Ideal Cert.Reference17Ideal.Gen Cert.Reference17Ideal.Read

attribute [local instance] Cert.Kernel17Ideal.Gen.facts Cert.Reference17Ideal.Gen.facts

theorem reference_dwup2 (h : S4096x1024.Idx → EReal) (g : S4096x4096.Idx → EReal)
    (p : S4x13056x1024.Idx → EReal) : val_main_v11 (F := Ideal) h g p = Packed.put 2 (Packed.byColumns h g) p := by
  unfold val_main_v11
  rw [show val_main_v9 (F := Ideal) h g = Packed.byColumns h g from slabs_up h g]
  exact Packed.put_slices 2 _ p _ _ _ rfl rfl

theorem frame_dwup2 : Cert.quiescent_Reference17Ideal := fun m ρ _ =>
  (θ_run (defs (F := Ideal)) _ _).mono (fun r h => ⟨fun c => (h c).2, sem_eq_zero_of_no_sems (by decide) r.2⟩)
    (Cert.Reference17Ideal.Value.run m ρ)

theorem dwup2 : Cert.algebraic_Kernel17Ideal_Reference17Ideal := fun m g m' g' _ same =>
  ⟨fun c => Packed.put 2 (Packed.byColumns
      (m ((c.tc : Thread Cert.Kernel17Ideal.nD Cert.Kernel17Ideal.τ).loc Cert.Kernel17Ideal.main_arg0))
      (m ((c.tc : Thread Cert.Kernel17Ideal.nD Cert.Kernel17Ideal.τ).loc Cert.Kernel17Ideal.main_arg1)))
      (m ((c.tc : Thread Cert.Kernel17Ideal.nD Cert.Kernel17Ideal.τ).loc Cert.Kernel17Ideal.main_arg2)),
    (θ_run (Cert.Kernel17Ideal.defs (F := Ideal)) _ _).mono
      (fun _ h c => ⟨(h c).1.trans (Cert.Kernel17Ideal.UpGrad.final m c), (h c).2⟩) (Cert.Kernel17Ideal.Value.run_blocks m g),
    (θ_run (defs (F := Ideal)) _ _).mono (fun _ h c => ⟨(h c).1.trans (by
      rw [val_main_v11_eq, (same c).1, (same c).2.1, (same c).2.2]
      exact reference_dwup2 _ _ _), (h c).2⟩) (Cert.Reference17Ideal.Value.run m' g')⟩

end

/-! ## The gradient of the down projection in layer 3 -/

section
open Cert.Reference18Ideal Cert.Reference18Ideal.Gen Cert.Reference18Ideal.Read

attribute [local instance] Cert.Kernel18Ideal.Gen.facts Cert.Reference18Ideal.Gen.facts

theorem reference_dwdown3 (a : S4096x4096.Idx → EReal) (g : S4096x1024.Idx → EReal)
    (p : S4x13056x1024.Idx → EReal) : val_main_v10 (F := Ideal) a g p = Packed.put 7 (Packed.byRows a g) p := by
  unfold val_main_v10
  rw [show val_main_v8 (F := Ideal) a g = Packed.byRows a g from slabs_down a g]
  exact Packed.put_slices 7 _ p _ _ _ rfl rfl

theorem frame_dwdown3 : Cert.quiescent_Reference18Ideal := fun m ρ _ =>
  (θ_run (defs (F := Ideal)) _ _).mono (fun r h => ⟨fun c => (h c).2, sem_eq_zero_of_no_sems (by decide) r.2⟩)
    (Cert.Reference18Ideal.Value.run m ρ)

theorem dwdown3 : Cert.algebraic_Kernel18Ideal_Reference18Ideal := fun m g m' g' _ same =>
  ⟨fun c => Packed.put 7 (Packed.byRows
      (m ((c.tc : Thread Cert.Kernel18Ideal.nD Cert.Kernel18Ideal.τ).loc Cert.Kernel18Ideal.main_arg0))
      (m ((c.tc : Thread Cert.Kernel18Ideal.nD Cert.Kernel18Ideal.τ).loc Cert.Kernel18Ideal.main_arg1)))
      (m ((c.tc : Thread Cert.Kernel18Ideal.nD Cert.Kernel18Ideal.τ).loc Cert.Kernel18Ideal.main_arg2)),
    (θ_run (Cert.Kernel18Ideal.defs (F := Ideal)) _ _).mono
      (fun _ h c => ⟨(h c).1.trans (Cert.Kernel18Ideal.DownGrad.final m c), (h c).2⟩) (Cert.Kernel18Ideal.Value.run_blocks m g),
    (θ_run (defs (F := Ideal)) _ _).mono (fun _ h c => ⟨(h c).1.trans (by
      rw [val_main_v10_eq, (same c).1, (same c).2.1, (same c).2.2]
      exact reference_dwdown3 _ _ _), (h c).2⟩) (Cert.Reference18Ideal.Value.run m' g')⟩

end

/-! ## The gradient of the up projection in layer 3 -/

section
open Cert.Reference19Ideal Cert.Reference19Ideal.Gen Cert.Reference19Ideal.Read

attribute [local instance] Cert.Kernel19Ideal.Gen.facts Cert.Reference19Ideal.Gen.facts

theorem reference_dwup3 (h : S4096x1024.Idx → EReal) (g : S4096x4096.Idx → EReal)
    (p : S4x13056x1024.Idx → EReal) : val_main_v11 (F := Ideal) h g p = Packed.put 3 (Packed.byColumns h g) p := by
  unfold val_main_v11
  rw [show val_main_v9 (F := Ideal) h g = Packed.byColumns h g from slabs_up h g]
  exact Packed.put_slices 3 _ p _ _ _ rfl rfl

theorem frame_dwup3 : Cert.quiescent_Reference19Ideal := fun m ρ _ =>
  (θ_run (defs (F := Ideal)) _ _).mono (fun r h => ⟨fun c => (h c).2, sem_eq_zero_of_no_sems (by decide) r.2⟩)
    (Cert.Reference19Ideal.Value.run m ρ)

theorem dwup3 : Cert.algebraic_Kernel19Ideal_Reference19Ideal := fun m g m' g' _ same =>
  ⟨fun c => Packed.put 3 (Packed.byColumns
      (m ((c.tc : Thread Cert.Kernel19Ideal.nD Cert.Kernel19Ideal.τ).loc Cert.Kernel19Ideal.main_arg0))
      (m ((c.tc : Thread Cert.Kernel19Ideal.nD Cert.Kernel19Ideal.τ).loc Cert.Kernel19Ideal.main_arg1)))
      (m ((c.tc : Thread Cert.Kernel19Ideal.nD Cert.Kernel19Ideal.τ).loc Cert.Kernel19Ideal.main_arg2)),
    (θ_run (Cert.Kernel19Ideal.defs (F := Ideal)) _ _).mono
      (fun _ h c => ⟨(h c).1.trans (Cert.Kernel19Ideal.UpGrad.final m c), (h c).2⟩) (Cert.Kernel19Ideal.Value.run_blocks m g),
    (θ_run (defs (F := Ideal)) _ _).mono (fun _ h c => ⟨(h c).1.trans (by
      rw [val_main_v11_eq, (same c).1, (same c).2.1, (same c).2.2]
      exact reference_dwup3 _ _ _), (h c).2⟩) (Cert.Reference19Ideal.Value.run m' g')⟩

end

end Cert.Mlp

end
-- ==== Proof.GlaBack.lean ====
/-
  The gradient at the input of the GLA mixer, as the kernel computes it: the gradient of the projected values times the
  input projection transposed.

  Point `t` of the grid works on row block `t / 5` and contracts columns `640 * (t % 5)` and on of both operands; the last
  point of each five rounds the accumulator and writes the block back.
-/
module

public import proofs.«01_k».proof.Proof.Contract
public import proofs.«01_k».proof.Proof.Gen.Kernel8Ideal.Value
public import Idealize.ShloMosaic.Lib.Pipeline.ReadBack

@[expose] public section

set_option maxRecDepth 16384

noncomputable section

namespace Cert.Kernel8Ideal.GlaBack

open Idealize.ShloMosaic Idealize.ShloMosaic.TcCoe Idealize.ShloMosaic.Pipeline Idealize.ShloMosaic.ValueIdx
open Cert.Kernel8Ideal Cert.Kernel8Ideal.Gen

attribute [local instance] Cert.Kernel8Ideal.Gen.facts

/-- One step adds the product of the two blocks. -/
theorem step_apply (acc : FVec Ideal S2048x1024 .f32) (l : FVec Ideal S2048x640 .bf16) (r : FVec Ideal S1024x640 .bf16)
    (i : S2048x1024.Idx) : k0_pay2 acc l r i = acc i + Product.nt l r i := by
  unfold k0_pay2
  rw [shapeCast_self]
  exact congrArg (acc i + ·) (Product.right none l r i)

/-- The accumulator starts from zero. -/
theorem start_apply (i : S2048x1024.Idx) : k0_pay1 (F := Ideal) i = 0 := by
  unfold k0_pay1
  rw [shapeCast_self]
  exact Ideal.ofBits_zero_f32

variable (m : (ℓ : Loc nD τ sig) → Buf (Elt Ideal) ℓ)

theorem reset (c : Dev nD) (t : Fin cfg0.N) (h : t.val % 5 = 0) (y : S2048x1024.Idx) :
    (outsAt0 m c t.val t.isLt).2 y = 0 + Product.nt (M := 2048) (K := 640) (N := 1024) (iblk m c 0 t) (iblk m c 1 t) y := by
  rw [outsAt0_A m c t h (by omega)]
  frame_out
  rw [step_apply, start_apply]

theorem next (c : Dev nD) (t : Fin cfg0.N) (h : ¬t.val % 5 = 0) (y : S2048x1024.Idx) :
    (outsAt0 m c t.val t.isLt).2 y = (outsAt0 m c (t.val - 1) (Nat.lt_of_le_of_lt (Nat.sub_le _ _) t.isLt)).2 y
      + Product.nt (M := 2048) (K := 640) (N := 1024) (iblk m c 0 t) (iblk m c 1 t) y := by
  by_cases last : t.val % 5 = 4
  · rw [outsAt0_C m c t h last]
    frame_out
    rw [step_apply]
    exact congrArg (· + _) (congrFun (Idealize.ShloMosaic.read_unread_whole cc0_scratch0 (Memref.isWhole_whole _) _) y)
  · rw [outsAt0_B m c t h last]
    frame_out
    rw [step_apply]
    exact congrArg (· + _) (congrFun (Idealize.ShloMosaic.read_unread_whole cc0_scratch0 (Memref.isWhole_whole _) _) y)

/-- At the last point of a row block what is written back is the accumulator, whose rounding is the identity here. -/
theorem written (c : Dev nD) (t : Fin cfg0.N) (last : t.val % 5 = 4) (y : S2048x1024.Idx) :
    (outsAt0 m c t.val t.isLt).1 y = (outsAt0 m c t.val t.isLt).2 y := by
  rw [outsAt0_C m c t (by omega) last]
  frame_out
  rfl

theorem index_left : ∀ t : Fin cfg0.N, win0_0.index t = ![t.val / 5, t.val % 5] :=
  (by decide +kernel : ∀ t : Fin grid0.N, _)

theorem index_right : ∀ t : Fin cfg0.N, win0_1.index t = ![0, t.val % 5] :=
  (by decide +kernel : ∀ t : Fin grid0.N, _)

theorem index_out : ∀ t : Fin cfg0.N, win0_2.index t = ![t.val / 5, 0] :=
  (by decide +kernel : ∀ t : Fin grid0.N, _)

/-- An entry of the left block of point `t`. -/
theorem left_at (c : Dev nD) (t : Fin cfg0.N) (x : S2048x640.Idx) (i : S4096x3200.Idx)
    (h0 : (i 0).val = t.val / 5 * 2048 + (x 0).val) (h1 : (i 1).val = t.val % 5 * 640 + (x 1).val) :
    iblk m c 0 t x = m ((c : Thread nD τ).loc main_arg0) i := by
  blk_simp [iblk]
  rw [← V_main_arg0 m c]
  congr 1
  blk_ext [index_left, h0, h1]

/-- An entry of the right block of point `t`. -/
theorem right_at (c : Dev nD) (t : Fin cfg0.N) (x : S1024x640.Idx) (i : S1024x3200.Idx)
    (h0 : (i 0).val = 0 + (x 0).val) (h1 : (i 1).val = t.val % 5 * 640 + (x 1).val) :
    iblk m c 1 t x = m ((c : Thread nD τ).loc main_arg1) i := by
  blk_simp [iblk]
  rw [← V_main_arg1 m c]
  congr 1
  blk_ext [index_right, h0, h1]

/-- The array the call ends with is the first argument times the second one transposed. -/
theorem final (c : Dev nD) : (dats m 0 c).arrAt 2 cfg0.N
    = Product.nt (M := 4096) (K := 3200) (N := 1024) (m ((c : Thread nD τ).loc main_arg0)) (m ((c : Thread nD τ).loc main_arg1)) := by
  refine (dats m 0 c).arrAt_eq_of_covers 2 _ (by decide +kernel) fun t hf y => ?_
  have last : t.val % 5 = 4 := (flush0_2 t).mp hf
  have row : ((((cfg0.win 2).blk t).view.emb y 0 : Fin _) : ℕ) = t.val / 5 * 2048 + (y 0).val := by
    blk_simp [index_out]
  have col : ((((cfg0.win 2).blk t).view.emb y 1 : Fin _) : ℕ) = 0 + (y 1).val := by
    blk_simp [index_out]
  rw [after0_2]
  exact (written m c t last y).trans (Product.nt_of_points (S := 5) (fun q => q * 2048) (fun _ => 0) rfl
    (fun n h => (outsAt0 m c n h).2) (iblk m c 0) (iblk m c 1) _ _ (reset m c) (next m c) (left_at m c) (right_at m c)
    t last y _ row col)

end Cert.Kernel8Ideal.GlaBack

end
-- ==== Proof.GlaGrad.lean ====
/-
  The gradient of the input projection of the GLA mixer, as the kernel computes it: the mixer's input transposed times the
  gradient of the projected values.

  Point `t` of the grid works on column block `t / 4` and contracts rows `1024 * (t % 4)` and on of both operands; the last
  point of each four rounds the accumulator and writes the block back.
-/
module

public import proofs.«01_k».proof.Proof.Contract
public import proofs.«01_k».proof.Proof.Gen.Kernel9Ideal.Value
public import Idealize.ShloMosaic.Lib.Pipeline.ReadBack

@[expose] public section

set_option maxRecDepth 16384

noncomputable section

namespace Cert.Kernel9Ideal.GlaGrad

open Idealize.ShloMosaic Idealize.ShloMosaic.TcCoe Idealize.ShloMosaic.Pipeline Idealize.ShloMosaic.ValueIdx
open Cert.Kernel9Ideal Cert.Kernel9Ideal.Gen

attribute [local instance] Cert.Kernel9Ideal.Gen.facts

/-- One step adds the product of the two blocks. -/
theorem step_apply (acc : FVec Ideal S1024x640 .f32) (l : FVec Ideal S1024x1024 .bf16) (r : FVec Ideal S1024x640 .bf16)
    (i : S1024x640.Idx) : k0_pay2 acc l r i = acc i + Product.tn l r i := by
  unfold k0_pay2
  rw [shapeCast_self]
  exact congrArg (acc i + ·) (Product.left none l r i)

/-- The accumulator starts from zero. -/
theorem start_apply (i : S1024x640.Idx) : k0_pay1 (F := Ideal) i = 0 := by
  unfold k0_pay1
  rw [shapeCast_self]
  exact Ideal.ofBits_zero_f32

variable (m : (ℓ : Loc nD τ sig) → Buf (Elt Ideal) ℓ)

theorem reset (c : Dev nD) (t : Fin cfg0.N) (h : t.val % 4 = 0) (y : S1024x640.Idx) :
    (outsAt0 m c t.val t.isLt).2 y = 0 + Product.tn (M := 1024) (K := 1024) (N := 640) (iblk m c 0 t) (iblk m c 1 t) y := by
  rw [outsAt0_A m c t h (by omega)]
  frame_out
  rw [step_apply, start_apply]

theorem next (c : Dev nD) (t : Fin cfg0.N) (h : ¬t.val % 4 = 0) (y : S1024x640.Idx) :
    (outsAt0 m c t.val t.isLt).2 y = (outsAt0 m c (t.val - 1) (Nat.lt_of_le_of_lt (Nat.sub_le _ _) t.isLt)).2 y
      + Product.tn (M := 1024) (K := 1024) (N := 640) (iblk m c 0 t) (iblk m c 1 t) y := by
  by_cases last : t.val % 4 = 3
  · rw [outsAt0_C m c t h last]
    frame_out
    rw [step_apply]
    exact congrArg (· + _) (congrFun (Idealize.ShloMosaic.read_unread_whole cc0_scratch0 (Memref.isWhole_whole _) _) y)
  · rw [outsAt0_B m c t h last]
    frame_out
    rw [step_apply]
    exact congrArg (· + _) (congrFun (Idealize.ShloMosaic.read_unread_whole cc0_scratch0 (Memref.isWhole_whole _) _) y)

/-- At the last point of a column block what is written back is the accumulator, whose rounding is the identity here. -/
theorem written (c : Dev nD) (t : Fin cfg0.N) (last : t.val % 4 = 3) (y : S1024x640.Idx) :
    (outsAt0 m c t.val t.isLt).1 y = (outsAt0 m c t.val t.isLt).2 y := by
  rw [outsAt0_C m c t (by omega) last]
  frame_out
  rfl

theorem index_left : ∀ t : Fin cfg0.N, win0_0.index t = ![t.val % 4, 0] :=
  (by decide +kernel : ∀ t : Fin grid0.N, _)

theorem index_right : ∀ t : Fin cfg0.N, win0_1.index t = ![t.val % 4, t.val / 4] :=
  (by decide +kernel : ∀ t : Fin grid0.N, _)

theorem index_out : ∀ t : Fin cfg0.N, win0_2.index t = ![0, t.val / 4] :=
  (by decide +kernel : ∀ t : Fin grid0.N, _)

/-- An entry of the left block of point `t`. -/
theorem left_at (c : Dev nD) (t : Fin cfg0.N) (x : S1024x1024.Idx) (i : S4096x1024.Idx)
    (h0 : (i 0).val = t.val % 4 * 1024 + (x 0).val) (h1 : (i 1).val = 0 + (x 1).val) :
    iblk m c 0 t x = m ((c : Thread nD τ).loc main_arg0) i := by
  blk_simp [iblk]
  rw [← V_main_arg0 m c]
  congr 1
  blk_ext [index_left, h0, h1]

/-- An entry of the right block of point `t`. -/
theorem right_at (c : Dev nD) (t : Fin cfg0.N) (x : S1024x640.Idx) (i : S4096x3200.Idx)
    (h0 : (i 0).val = t.val % 4 * 1024 + (x 0).val) (h1 : (i 1).val = t.val / 4 * 640 + (x 1).val) :
    iblk m c 1 t x = m ((c : Thread nD τ).loc main_arg1) i := by
  blk_simp [iblk]
  rw [← V_main_arg1 m c]
  congr 1
  blk_ext [index_right, h0, h1]

/-- The array the call ends with is the first argument transposed times the second one. -/
theorem final (c : Dev nD) : (dats m 0 c).arrAt 2 cfg0.N
    = Product.tn (M := 1024) (K := 4096) (N := 3200) (m ((c : Thread nD τ).loc main_arg0)) (m ((c : Thread nD τ).loc main_arg1)) := by
  refine (dats m 0 c).arrAt_eq_of_covers 2 _ (by decide +kernel) fun t hf y => ?_
  have last : t.val % 4 = 3 := (flush0_2 t).mp hf
  have row : ((((cfg0.win 2).blk t).view.emb y 0 : Fin _) : ℕ) = 0 + (y 0).val := by
    blk_simp [index_out]
  have col : ((((cfg0.win 2).blk t).view.emb y 1 : Fin _) : ℕ) = t.val / 4 * 640 + (y 1).val := by
    blk_simp [index_out]
  rw [after0_2]
  exact (written m c t last y).trans (Product.tn_of_points (S := 4) (fun _ => 0) (fun q => q * 640) rfl
    (fun n h => (outsAt0 m c n h).2) (iblk m c 0) (iblk m c 1) _ _ (reset m c) (next m c) (left_at m c) (right_at m c)
    t last y _ row col)

end Cert.Kernel9Ideal.GlaGrad

end
-- ==== Proof.GlaIn.lean ====
/-
  The input projection of the GLA mixer, as the kernel computes it.

  Point `t` of the grid makes the whole block in row block `t / 5` and column block `t % 5`.
-/
module

public import proofs.«01_k».proof.Proof.Product
public import proofs.«01_k».proof.Proof.Gen.Kernel10Ideal.Value

@[expose] public section

set_option maxRecDepth 16384

noncomputable section

namespace Cert.Kernel10Ideal.GlaIn

open Idealize.ShloMosaic Idealize.ShloMosaic.TcCoe Idealize.ShloMosaic.Pipeline Idealize.ShloMosaic.ValueIdx
open Cert.Kernel10Ideal Cert.Kernel10Ideal.Gen

attribute [local instance] Cert.Kernel10Ideal.Gen.facts

/-- A block is the product of the two blocks read. -/
theorem block_apply (l : S2048x1024.Idx → EReal) (r : S1024x640.Idx → EReal) (i : S2048x640.Idx) :
    k0_pay1 (F := Ideal) l r i = Product.nn l r i := by
  unfold k0_pay1
  exact Product.plain none l r i

variable (m : (ℓ : Loc nD τ sig) → Buf (Elt Ideal) ℓ)

theorem index_left : ∀ t : Fin cfg0.N, win0_0.index t = ![t.val / 5, 0] :=
  (by decide +kernel : ∀ t : Fin grid0.N, _)

theorem index_right : ∀ t : Fin cfg0.N, win0_1.index t = ![0, t.val % 5] :=
  (by decide +kernel : ∀ t : Fin grid0.N, _)

theorem index_out : ∀ t : Fin cfg0.N, win0_2.index t = ![t.val / 5, t.val % 5] :=
  (by decide +kernel : ∀ t : Fin grid0.N, _)

/-- An entry of the left block of point `t`. -/
theorem left_at (c : Dev nD) (t : Fin cfg0.N) (x : S2048x1024.Idx) (i : S4096x1024.Idx)
    (h0 : (i 0).val = t.val / 5 * 2048 + (x 0).val) (h1 : (i 1).val = (x 1).val) :
    iblk m c 0 t x = m ((c : Thread nD τ).loc main_arg0) i := by
  blk_simp [iblk]
  rw [← V_main_arg0 m c]
  congr 1
  blk_ext [index_left, h0, h1]

/-- An entry of the right block of point `t`. -/
theorem right_at (c : Dev nD) (t : Fin cfg0.N) (x : S1024x640.Idx) (i : S1024x3200.Idx)
    (h0 : (i 0).val = (x 0).val) (h1 : (i 1).val = t.val % 5 * 640 + (x 1).val) :
    iblk m c 1 t x = m ((c : Thread nD τ).loc main_arg1) i := by
  blk_simp [iblk]
  rw [← V_main_arg1 m c]
  congr 1
  blk_ext [index_right, h0, h1]

/-- The array the call ends with is the product of its two arguments. -/
theorem final (c : Dev nD) : (dats m 0 c).arrAt 2 cfg0.N
    = Product.nn (M := 4096) (K := 1024) (N := 3200) (m ((c : Thread nD τ).loc main_arg0)) (m ((c : Thread nD τ).loc main_arg1)) := by
  refine (dats m 0 c).arrAt_eq_of_covers 2 _ (by decide +kernel) fun t hf y => ?_
  have row : ((((cfg0.win 2).blk t).view.emb y 0 : Fin _) : ℕ) = t.val / 5 * 2048 + (y 0).val := by
    blk_simp [index_out]
  have col : ((((cfg0.win 2).blk t).view.emb y 1 : Fin _) : ℕ) = t.val % 5 * 640 + (y 1).val := by
    blk_simp [index_out]
  rw [after0_2]
  frame_out
  refine (block_apply _ _ _).trans (Finset.sum_congr rfl fun k _ => ?_)
  congr 1
  · exact left_at m c _ _ _ row rfl
  · exact right_at m c _ _ _ rfl col

end Cert.Kernel10Ideal.GlaIn

end
-- ==== Proof.GdnBack.lean ====
/-
  The gradient at the input of the GDN mixer, as the kernel computes it: the gradient of the projected values times the
  input projection transposed.

  Point `t` of the grid works on row block `t / 10` and contracts columns `640 * (t % 10)` and on of both operands; the last
  point of each ten rounds the accumulator and writes the block back.
-/
module

public import proofs.«01_k».proof.Proof.GlaBack
public import proofs.«01_k».proof.Proof.Gen.Kernel11Ideal.Value
public import Idealize.ShloMosaic.Lib.Pipeline.ReadBack

@[expose] public section

set_option maxRecDepth 16384

noncomputable section

namespace Cert.Kernel11Ideal.GdnBack

open Idealize.ShloMosaic Idealize.ShloMosaic.TcCoe Idealize.ShloMosaic.Pipeline Idealize.ShloMosaic.ValueIdx
open Cert.Kernel11Ideal Cert.Kernel11Ideal.Gen

attribute [local instance] Cert.Kernel11Ideal.Gen.facts

/-- One step adds the product of the two blocks. -/
theorem step_apply (acc : FVec Ideal S2048x1024 .f32) (l : FVec Ideal S2048x640 .bf16) (r : FVec Ideal S1024x640 .bf16)
    (i : S2048x1024.Idx) : k0_pay2 acc l r i = acc i + Product.nt l r i :=
  Cert.Kernel8Ideal.GlaBack.step_apply acc l r i

/-- The accumulator starts from zero. -/
theorem start_apply (i : S2048x1024.Idx) : k0_pay1 (F := Ideal) i = 0 :=
  Cert.Kernel8Ideal.GlaBack.start_apply i

variable (m : (ℓ : Loc nD τ sig) → Buf (Elt Ideal) ℓ)

theorem reset (c : Dev nD) (t : Fin cfg0.N) (h : t.val % 10 = 0) (y : S2048x1024.Idx) :
    (outsAt0 m c t.val t.isLt).2 y = 0 + Product.nt (M := 2048) (K := 640) (N := 1024) (iblk m c 0 t) (iblk m c 1 t) y := by
  rw [outsAt0_A m c t h (by omega)]
  frame_out
  rw [step_apply, start_apply]

theorem next (c : Dev nD) (t : Fin cfg0.N) (h : ¬t.val % 10 = 0) (y : S2048x1024.Idx) :
    (outsAt0 m c t.val t.isLt).2 y = (outsAt0 m c (t.val - 1) (Nat.lt_of_le_of_lt (Nat.sub_le _ _) t.isLt)).2 y
      + Product.nt (M := 2048) (K := 640) (N := 1024) (iblk m c 0 t) (iblk m c 1 t) y := by
  by_cases last : t.val % 10 = 9
  · rw [outsAt0_C m c t h last]
    frame_out
    rw [step_apply]
    exact congrArg (· + _) (congrFun (Idealize.ShloMosaic.read_unread_whole cc0_scratch0 (Memref.isWhole_whole _) _) y)
  · rw [outsAt0_B m c t h last]
    frame_out
    rw [step_apply]
    exact congrArg (· + _) (congrFun (Idealize.ShloMosaic.read_unread_whole cc0_scratch0 (Memref.isWhole_whole _) _) y)

/-- At the last point of a row block what is written back is the accumulator, whose rounding is the identity here. -/
theorem written (c : Dev nD) (t : Fin cfg0.N) (last : t.val % 10 = 9) (y : S2048x1024.Idx) :
    (outsAt0 m c t.val t.isLt).1 y = (outsAt0 m c t.val t.isLt).2 y := by
  rw [outsAt0_C m c t (by omega) last]
  frame_out
  rfl

theorem index_left : ∀ t : Fin cfg0.N, win0_0.index t = ![t.val / 10, t.val % 10] :=
  (by decide +kernel : ∀ t : Fin grid0.N, _)

theorem index_right : ∀ t : Fin cfg0.N, win0_1.index t = ![0, t.val % 10] :=
  (by decide +kernel : ∀ t : Fin grid0.N, _)

theorem index_out : ∀ t : Fin cfg0.N, win0_2.index t = ![t.val / 10, 0] :=
  (by decide +kernel : ∀ t : Fin grid0.N, _)

/-- An entry of the left block of point `t`. -/
theorem left_at (c : Dev nD) (t : Fin cfg0.N) (x : S2048x640.Idx) (i : S4096x6400.Idx)
    (h0 : (i 0).val = t.val / 10 * 2048 + (x 0).val) (h1 : (i 1).val = t.val % 10 * 640 + (x 1).val) :
    iblk m c 0 t x = m ((c : Thread nD τ).loc main_arg0) i := by
  blk_simp [iblk]
  rw [← V_main_arg0 m c]
  congr 1
  blk_ext [index_left, h0, h1]

/-- An entry of the right block of point `t`. -/
theorem right_at (c : Dev nD) (t : Fin cfg0.N) (x : S1024x640.Idx) (i : S1024x6400.Idx)
    (h0 : (i 0).val = 0 + (x 0).val) (h1 : (i 1).val = t.val % 10 * 640 + (x 1).val) :
    iblk m c 1 t x = m ((c : Thread nD τ).loc main_arg1) i := by
  blk_simp [iblk]
  rw [← V_main_arg1 m c]
  congr 1
  blk_ext [index_right, h0, h1]

/-- The array the call ends with is the first argument times the second one transposed. -/
theorem final (c : Dev nD) : (dats m 0 c).arrAt 2 cfg0.N
    = Product.nt (M := 4096) (K := 6400) (N := 1024) (m ((c : Thread nD τ).loc main_arg0)) (m ((c : Thread nD τ).loc main_arg1)) := by
  refine (dats m 0 c).arrAt_eq_of_covers 2 _ (by decide +kernel) fun t hf y => ?_
  have last : t.val % 10 = 9 := (flush0_2 t).mp hf
  have row : ((((cfg0.win 2).blk t).view.emb y 0 : Fin _) : ℕ) = t.val / 10 * 2048 + (y 0).val := by
    blk_simp [index_out]
  have col : ((((cfg0.win 2).blk t).view.emb y 1 : Fin _) : ℕ) = 0 + (y 1).val := by
    blk_simp [index_out]
  rw [after0_2]
  exact (written m c t last y).trans (Product.nt_of_points (S := 10) (fun q => q * 2048) (fun _ => 0) rfl
    (fun n h => (outsAt0 m c n h).2) (iblk m c 0) (iblk m c 1) _ _ (reset m c) (next m c) (left_at m c) (right_at m c)
    t last y _ row col)

end Cert.Kernel11Ideal.GdnBack

end
-- ==== Proof.GdnGrad.lean ====
/-
  The gradient of the input projection of the GDN mixer, as the kernel computes it: the mixer's input transposed times the
  gradient of the projected values.

  Point `t` of the grid works on column block `t / 4` and contracts rows `1024 * (t % 4)` and on of both operands; the last
  point of each four rounds the accumulator and writes the block back.
-/
module

public import proofs.«01_k».proof.Proof.GlaGrad
public import proofs.«01_k».proof.Proof.Gen.Kernel12Ideal.Value
public import Idealize.ShloMosaic.Lib.Pipeline.ReadBack

@[expose] public section

set_option maxRecDepth 16384

noncomputable section

namespace Cert.Kernel12Ideal.GdnGrad

open Idealize.ShloMosaic Idealize.ShloMosaic.TcCoe Idealize.ShloMosaic.Pipeline Idealize.ShloMosaic.ValueIdx
open Cert.Kernel12Ideal Cert.Kernel12Ideal.Gen

attribute [local instance] Cert.Kernel12Ideal.Gen.facts

/-- One step adds the product of the two blocks. -/
theorem step_apply (acc : FVec Ideal S1024x640 .f32) (l : FVec Ideal S1024x1024 .bf16) (r : FVec Ideal S1024x640 .bf16)
    (i : S1024x640.Idx) : k0_pay2 acc l r i = acc i + Product.tn l r i :=
  Cert.Kernel9Ideal.GlaGrad.step_apply acc l r i

/-- The accumulator starts from zero. -/
theorem start_apply (i : S1024x640.Idx) : k0_pay1 (F := Ideal) i = 0 :=
  Cert.Kernel9Ideal.GlaGrad.start_apply i

variable (m : (ℓ : Loc nD τ sig) → Buf (Elt Ideal) ℓ)

theorem reset (c : Dev nD) (t : Fin cfg0.N) (h : t.val % 4 = 0) (y : S1024x640.Idx) :
    (outsAt0 m c t.val t.isLt).2 y = 0 + Product.tn (M := 1024) (K := 1024) (N := 640) (iblk m c 0 t) (iblk m c 1 t) y := by
  rw [outsAt0_A m c t h (by omega)]
  frame_out
  rw [step_apply, start_apply]

theorem next (c : Dev nD) (t : Fin cfg0.N) (h : ¬t.val % 4 = 0) (y : S1024x640.Idx) :
    (outsAt0 m c t.val t.isLt).2 y = (outsAt0 m c (t.val - 1) (Nat.lt_of_le_of_lt (Nat.sub_le _ _) t.isLt)).2 y
      + Product.tn (M := 1024) (K := 1024) (N := 640) (iblk m c 0 t) (iblk m c 1 t) y := by
  by_cases last : t.val % 4 = 3
  · rw [outsAt0_C m c t h last]
    frame_out
    rw [step_apply]
    exact congrArg (· + _) (congrFun (Idealize.ShloMosaic.read_unread_whole cc0_scratch0 (Memref.isWhole_whole _) _) y)
  · rw [outsAt0_B m c t h last]
    frame_out
    rw [step_apply]
    exact congrArg (· + _) (congrFun (Idealize.ShloMosaic.read_unread_whole cc0_scratch0 (Memref.isWhole_whole _) _) y)

/-- At the last point of a column block what is written back is the accumulator, whose rounding is the identity here. -/
theorem written (c : Dev nD) (t : Fin cfg0.N) (last : t.val % 4 = 3) (y : S1024x640.Idx) :
    (outsAt0 m c t.val t.isLt).1 y = (outsAt0 m c t.val t.isLt).2 y := by
  rw [outsAt0_C m c t (by omega) last]
  frame_out
  rfl

theorem index_left : ∀ t : Fin cfg0.N, win0_0.index t = ![t.val % 4, 0] :=
  (by decide +kernel : ∀ t : Fin grid0.N, _)

theorem index_right : ∀ t : Fin cfg0.N, win0_1.index t = ![t.val % 4, t.val / 4] :=
  (by decide +kernel : ∀ t : Fin grid0.N, _)

theorem index_out : ∀ t : Fin cfg0.N, win0_2.index t = ![0, t.val / 4] :=
  (by decide +kernel : ∀ t : Fin grid0.N, _)

/-- An entry of the left block of point `t`. -/
theorem left_at (c : Dev nD) (t : Fin cfg0.N) (x : S1024x1024.Idx) (i : S4096x1024.Idx)
    (h0 : (i 0).val = t.val % 4 * 1024 + (x 0).val) (h1 : (i 1).val = 0 + (x 1).val) :
    iblk m c 0 t x = m ((c : Thread nD τ).loc main_arg0) i := by
  blk_simp [iblk]
  rw [← V_main_arg0 m c]
  congr 1
  blk_ext [index_left, h0, h1]

/-- An entry of the right block of point `t`. -/
theorem right_at (c : Dev nD) (t : Fin cfg0.N) (x : S1024x640.Idx) (i : S4096x6400.Idx)
    (h0 : (i 0).val = t.val % 4 * 1024 + (x 0).val) (h1 : (i 1).val = t.val / 4 * 640 + (x 1).val) :
    iblk m c 1 t x = m ((c : Thread nD τ).loc main_arg1) i := by
  blk_simp [iblk]
  rw [← V_main_arg1 m c]
  congr 1
  blk_ext [index_right, h0, h1]

/-- The array the call ends with is the first argument transposed times the second one. -/
theorem final (c : Dev nD) : (dats m 0 c).arrAt 2 cfg0.N
    = Product.tn (M := 1024) (K := 4096) (N := 6400) (m ((c : Thread nD τ).loc main_arg0)) (m ((c : Thread nD τ).loc main_arg1)) := by
  refine (dats m 0 c).arrAt_eq_of_covers 2 _ (by decide +kernel) fun t hf y => ?_
  have last : t.val % 4 = 3 := (flush0_2 t).mp hf
  have row : ((((cfg0.win 2).blk t).view.emb y 0 : Fin _) : ℕ) = 0 + (y 0).val := by
    blk_simp [index_out]
  have col : ((((cfg0.win 2).blk t).view.emb y 1 : Fin _) : ℕ) = t.val / 4 * 640 + (y 1).val := by
    blk_simp [index_out]
  rw [after0_2]
  exact (written m c t last y).trans (Product.tn_of_points (S := 4) (fun _ => 0) (fun q => q * 640) rfl
    (fun n h => (outsAt0 m c n h).2) (iblk m c 0) (iblk m c 1) _ _ (reset m c) (next m c) (left_at m c) (right_at m c)
    t last y _ row col)

end Cert.Kernel12Ideal.GdnGrad

end
-- ==== Proof.GdnIn.lean ====
/-
  The input projection of the GDN mixer, as the kernel computes it.

  Point `t` of the grid makes the whole block in row block `t / 10` and column block `t % 10`.
-/
module

public import proofs.«01_k».proof.Proof.GlaIn
public import proofs.«01_k».proof.Proof.Gen.Kernel13Ideal.Value

@[expose] public section

set_option maxRecDepth 16384

noncomputable section

namespace Cert.Kernel13Ideal.GdnIn

open Idealize.ShloMosaic Idealize.ShloMosaic.TcCoe Idealize.ShloMosaic.Pipeline Idealize.ShloMosaic.ValueIdx
open Cert.Kernel13Ideal Cert.Kernel13Ideal.Gen

attribute [local instance] Cert.Kernel13Ideal.Gen.facts

/-- A block is the product of the two blocks read. -/
theorem block_apply (l : S2048x1024.Idx → EReal) (r : S1024x640.Idx → EReal) (i : S2048x640.Idx) :
    k0_pay1 (F := Ideal) l r i = Product.nn l r i :=
  Cert.Kernel10Ideal.GlaIn.block_apply l r i

variable (m : (ℓ : Loc nD τ sig) → Buf (Elt Ideal) ℓ)

theorem index_left : ∀ t : Fin cfg0.N, win0_0.index t = ![t.val / 10, 0] :=
  (by decide +kernel : ∀ t : Fin grid0.N, _)

theorem index_right : ∀ t : Fin cfg0.N, win0_1.index t = ![0, t.val % 10] :=
  (by decide +kernel : ∀ t : Fin grid0.N, _)

theorem index_out : ∀ t : Fin cfg0.N, win0_2.index t = ![t.val / 10, t.val % 10] :=
  (by decide +kernel : ∀ t : Fin grid0.N, _)

/-- An entry of the left block of point `t`. -/
theorem left_at (c : Dev nD) (t : Fin cfg0.N) (x : S2048x1024.Idx) (i : S4096x1024.Idx)
    (h0 : (i 0).val = t.val / 10 * 2048 + (x 0).val) (h1 : (i 1).val = (x 1).val) :
    iblk m c 0 t x = m ((c : Thread nD τ).loc main_arg0) i := by
  blk_simp [iblk]
  rw [← V_main_arg0 m c]
  congr 1
  blk_ext [index_left, h0, h1]

/-- An entry of the right block of point `t`. -/
theorem right_at (c : Dev nD) (t : Fin cfg0.N) (x : S1024x640.Idx) (i : S1024x6400.Idx)
    (h0 : (i 0).val = (x 0).val) (h1 : (i 1).val = t.val % 10 * 640 + (x 1).val) :
    iblk m c 1 t x = m ((c : Thread nD τ).loc main_arg1) i := by
  blk_simp [iblk]
  rw [← V_main_arg1 m c]
  congr 1
  blk_ext [index_right, h0, h1]

/-- The array the call ends with is the product of its two arguments. -/
theorem final (c : Dev nD) : (dats m 0 c).arrAt 2 cfg0.N
    = Product.nn (M := 4096) (K := 1024) (N := 6400) (m ((c : Thread nD τ).loc main_arg0)) (m ((c : Thread nD τ).loc main_arg1)) := by
  refine (dats m 0 c).arrAt_eq_of_covers 2 _ (by decide +kernel) fun t hf y => ?_
  have row : ((((cfg0.win 2).blk t).view.emb y 0 : Fin _) : ℕ) = t.val / 10 * 2048 + (y 0).val := by
    blk_simp [index_out]
  have col : ((((cfg0.win 2).blk t).view.emb y 1 : Fin _) : ℕ) = t.val % 10 * 640 + (y 1).val := by
    blk_simp [index_out]
  rw [after0_2]
  frame_out
  refine (block_apply _ _ _).trans (Finset.sum_congr rfl fun k _ => ?_)
  congr 1
  · exact left_at m c _ _ _ row rfl
  · exact right_at m c _ _ _ rfl col

end Cert.Kernel13Ideal.GdnIn

end
-- ==== Proof.Projections.lean ====
/- The projections into the GLA and GDN mixers and their gradients, each beside its reference: the call runs, leaves its
   arguments as they were, and ends with the same array. -/
module

public import proofs.«01_k».proof.Defs
public import proofs.«01_k».proof.Proof.GlaBack
public import proofs.«01_k».proof.Proof.GlaGrad
public import proofs.«01_k».proof.Proof.GlaIn
public import proofs.«01_k».proof.Proof.GdnBack
public import proofs.«01_k».proof.Proof.GdnGrad
public import proofs.«01_k».proof.Proof.GdnIn
public import proofs.«01_k».proof.Proof.Gen.Reference8Ideal.Read
public import proofs.«01_k».proof.Proof.Gen.Reference9Ideal.Read
public import proofs.«01_k».proof.Proof.Gen.Reference10Ideal.Read
public import proofs.«01_k».proof.Proof.Gen.Reference11Ideal.Read
public import proofs.«01_k».proof.Proof.Gen.Reference12Ideal.Read
public import proofs.«01_k».proof.Proof.Gen.Reference13Ideal.Read
public import Idealize.ShloMosaic.Lib.Quiescent

@[expose] public section

set_option maxRecDepth 16384

noncomputable section

namespace Cert.Mixer

open Idealize.ShloMosaic Idealize.ShloMosaic.TcCoe Idealize.ShloMosaic.Pipeline Idealize.ShloMosaic.ValueIdx Idealize.SL.Sem
open scoped BigOperators

/-! ## The gradient at the input of the GLA mixer -/

section
open Cert.Reference8Ideal Cert.Reference8Ideal.Gen Cert.Reference8Ideal.Read

attribute [local instance] Cert.Kernel8Ideal.Gen.facts Cert.Reference8Ideal.Gen.facts

theorem reference_gla_dh (g : S4096x3200.Idx → EReal) (w : S1024x3200.Idx → EReal) :
    val_main_v5 (F := Ideal) g w = Product.nt (M := 4096) (K := 3200) (N := 1024) g w := by
  funext i
  show val_main_v4 (F := Ideal) g w i = _
  rw [val_main_v4_apply]
  exact Finset.sum_congr rfl fun k _ => congrArg₂ (· * ·) (congrArg g (Product.eq_ix2 _)) (congrArg w (Product.eq_ix2 _))

theorem frame_gla_dh : Cert.quiescent_Reference8Ideal := fun m ρ _ =>
  (θ_run (defs (F := Ideal)) _ _).mono (fun r h => ⟨fun c => (h c).2, sem_eq_zero_of_no_sems (by decide) r.2⟩)
    (Cert.Reference8Ideal.Value.run m ρ)

theorem gla_dh : Cert.algebraic_Kernel8Ideal_Reference8Ideal := fun m g m' g' _ same =>
  ⟨fun c => Product.nt (M := 4096) (K := 3200) (N := 1024)
      (m ((c.tc : Thread Cert.Kernel8Ideal.nD Cert.Kernel8Ideal.τ).loc Cert.Kernel8Ideal.main_arg0))
      (m ((c.tc : Thread Cert.Kernel8Ideal.nD Cert.Kernel8Ideal.τ).loc Cert.Kernel8Ideal.main_arg1)),
    (θ_run (Cert.Kernel8Ideal.defs (F := Ideal)) _ _).mono
      (fun _ h c => ⟨(h c).1.trans (Cert.Kernel8Ideal.GlaBack.final m c), (h c).2⟩) (Cert.Kernel8Ideal.Value.run_blocks m g),
    (θ_run (defs (F := Ideal)) _ _).mono (fun _ h c => ⟨(h c).1.trans (by
      rw [val_main_v5_eq, (same c).1, (same c).2]
      exact reference_gla_dh _ _), (h c).2⟩) (Cert.Reference8Ideal.Value.run m' g')⟩

end

/-! ## The gradient of the input projection of the GLA mixer -/

section
open Cert.Reference9Ideal Cert.Reference9Ideal.Gen Cert.Reference9Ideal.Read

attribute [local instance] Cert.Kernel9Ideal.Gen.facts Cert.Reference9Ideal.Gen.facts

theorem reference_gla_dwin (h : S4096x1024.Idx → EReal) (g : S4096x3200.Idx → EReal) :
    val_main_v6 (F := Ideal) h g = Product.tn (M := 1024) (K := 4096) (N := 3200) h g := by
  funext i
  show val_main_v5 (F := Ideal) h g i = _
  rw [val_main_v5_apply, val_main_v4_apply]
  exact Finset.sum_congr rfl fun k _ => (mul_comm _ _).trans
    (congrArg₂ (· * ·) (congrArg h (Product.eq_ix2 _)) (congrArg g (Product.eq_ix2 _)))

theorem frame_gla_dwin : Cert.quiescent_Reference9Ideal := fun m ρ _ =>
  (θ_run (defs (F := Ideal)) _ _).mono (fun r h => ⟨fun c => (h c).2, sem_eq_zero_of_no_sems (by decide) r.2⟩)
    (Cert.Reference9Ideal.Value.run m ρ)

theorem gla_dwin : Cert.algebraic_Kernel9Ideal_Reference9Ideal := fun m g m' g' _ same =>
  ⟨fun c => Product.tn (M := 1024) (K := 4096) (N := 3200)
      (m ((c.tc : Thread Cert.Kernel9Ideal.nD Cert.Kernel9Ideal.τ).loc Cert.Kernel9Ideal.main_arg0))
      (m ((c.tc : Thread Cert.Kernel9Ideal.nD Cert.Kernel9Ideal.τ).loc Cert.Kernel9Ideal.main_arg1)),
    (θ_run (Cert.Kernel9Ideal.defs (F := Ideal)) _ _).mono
      (fun _ h c => ⟨(h c).1.trans (Cert.Kernel9Ideal.GlaGrad.final m c), (h c).2⟩) (Cert.Kernel9Ideal.Value.run_blocks m g),
    (θ_run (defs (F := Ideal)) _ _).mono (fun _ h c => ⟨(h c).1.trans (by
      rw [val_main_v6_eq, (same c).1, (same c).2]
      exact reference_gla_dwin _ _), (h c).2⟩) (Cert.Reference9Ideal.Value.run m' g')⟩

end

/-! ## The input projection of the GLA mixer -/

section
open Cert.Reference10Ideal Cert.Reference10Ideal.Gen Cert.Reference10Ideal.Read

attribute [local instance] Cert.Kernel10Ideal.Gen.facts Cert.Reference10Ideal.Gen.facts

theorem reference_gla_in (h : S4096x1024.Idx → EReal) (w : S1024x3200.Idx → EReal) :
    val_main_v2 (F := Ideal) h w = Product.nn (M := 4096) (K := 1024) (N := 3200) h w := by
  funext i
  rw [val_main_v2_apply]
  exact Finset.sum_congr rfl fun k _ => congrArg₂ (· * ·) (congrArg h (Product.eq_ix2 _)) (congrArg w (Product.eq_ix2 _))

theorem frame_gla_in : Cert.quiescent_Reference10Ideal := fun m ρ _ =>
  (θ_run (defs (F := Ideal)) _ _).mono (fun r h => ⟨fun c => (h c).2, sem_eq_zero_of_no_sems (by decide) r.2⟩)
    (Cert.Reference10Ideal.Value.run m ρ)

theorem gla_in : Cert.algebraic_Kernel10Ideal_Reference10Ideal := fun m g m' g' _ same =>
  ⟨fun c => Product.nn (M := 4096) (K := 1024) (N := 3200)
      (m ((c.tc : Thread Cert.Kernel10Ideal.nD Cert.Kernel10Ideal.τ).loc Cert.Kernel10Ideal.main_arg0))
      (m ((c.tc : Thread Cert.Kernel10Ideal.nD Cert.Kernel10Ideal.τ).loc Cert.Kernel10Ideal.main_arg1)),
    (θ_run (Cert.Kernel10Ideal.defs (F := Ideal)) _ _).mono
      (fun _ h c => ⟨(h c).1.trans (Cert.Kernel10Ideal.GlaIn.final m c), (h c).2⟩) (Cert.Kernel10Ideal.Value.run_blocks m g),
    (θ_run (defs (F := Ideal)) _ _).mono (fun _ h c => ⟨(h c).1.trans (by
      rw [val_main_v2_eq, (same c).1, (same c).2]
      exact reference_gla_in _ _), (h c).2⟩) (Cert.Reference10Ideal.Value.run m' g')⟩

end

/-! ## The gradient at the input of the GDN mixer -/

section
open Cert.Reference11Ideal Cert.Reference11Ideal.Gen Cert.Reference11Ideal.Read

attribute [local instance] Cert.Kernel11Ideal.Gen.facts Cert.Reference11Ideal.Gen.facts

theorem reference_gdn_dh (g : S4096x6400.Idx → EReal) (w : S1024x6400.Idx → EReal) :
    val_main_v5 (F := Ideal) g w = Product.nt (M := 4096) (K := 6400) (N := 1024) g w := by
  funext i
  show val_main_v4 (F := Ideal) g w i = _
  rw [val_main_v4_apply]
  exact Finset.sum_congr rfl fun k _ => congrArg₂ (· * ·) (congrArg g (Product.eq_ix2 _)) (congrArg w (Product.eq_ix2 _))

theorem frame_gdn_dh : Cert.quiescent_Reference11Ideal := fun m ρ _ =>
  (θ_run (defs (F := Ideal)) _ _).mono (fun r h => ⟨fun c => (h c).2, sem_eq_zero_of_no_sems (by decide) r.2⟩)
    (Cert.Reference11Ideal.Value.run m ρ)

theorem gdn_dh : Cert.algebraic_Kernel11Ideal_Reference11Ideal := fun m g m' g' _ same =>
  ⟨fun c => Product.nt (M := 4096) (K := 6400) (N := 1024)
      (m ((c.tc : Thread Cert.Kernel11Ideal.nD Cert.Kernel11Ideal.τ).loc Cert.Kernel11Ideal.main_arg0))
      (m ((c.tc : Thread Cert.Kernel11Ideal.nD Cert.Kernel11Ideal.τ).loc Cert.Kernel11Ideal.main_arg1)),
    (θ_run (Cert.Kernel11Ideal.defs (F := Ideal)) _ _).mono
      (fun _ h c => ⟨(h c).1.trans (Cert.Kernel11Ideal.GdnBack.final m c), (h c).2⟩) (Cert.Kernel11Ideal.Value.run_blocks m g),
    (θ_run (defs (F := Ideal)) _ _).mono (fun _ h c => ⟨(h c).1.trans (by
      rw [val_main_v5_eq, (same c).1, (same c).2]
      exact reference_gdn_dh _ _), (h c).2⟩) (Cert.Reference11Ideal.Value.run m' g')⟩

end

/-! ## The gradient of the input projection of the GDN mixer -/

section
open Cert.Reference12Ideal Cert.Reference12Ideal.Gen Cert.Reference12Ideal.Read

attribute [local instance] Cert.Kernel12Ideal.Gen.facts Cert.Reference12Ideal.Gen.facts

theorem reference_gdn_dwin (h : S4096x1024.Idx → EReal) (g : S4096x6400.Idx → EReal) :
    val_main_v6 (F := Ideal) h g = Product.tn (M := 1024) (K := 4096) (N := 6400) h g := by
  funext i
  show val_main_v5 (F := Ideal) h g i = _
  rw [val_main_v5_apply, val_main_v4_apply]
  exact Finset.sum_congr rfl fun k _ => (mul_comm _ _).trans
    (congrArg₂ (· * ·) (congrArg h (Product.eq_ix2 _)) (congrArg g (Product.eq_ix2 _)))

theorem frame_gdn_dwin : Cert.quiescent_Reference12Ideal := fun m ρ _ =>
  (θ_run (defs (F := Ideal)) _ _).mono (fun r h => ⟨fun c => (h c).2, sem_eq_zero_of_no_sems (by decide) r.2⟩)
    (Cert.Reference12Ideal.Value.run m ρ)

theorem gdn_dwin : Cert.algebraic_Kernel12Ideal_Reference12Ideal := fun m g m' g' _ same =>
  ⟨fun c => Product.tn (M := 1024) (K := 4096) (N := 6400)
      (m ((c.tc : Thread Cert.Kernel12Ideal.nD Cert.Kernel12Ideal.τ).loc Cert.Kernel12Ideal.main_arg0))
      (m ((c.tc : Thread Cert.Kernel12Ideal.nD Cert.Kernel12Ideal.τ).loc Cert.Kernel12Ideal.main_arg1)),
    (θ_run (Cert.Kernel12Ideal.defs (F := Ideal)) _ _).mono
      (fun _ h c => ⟨(h c).1.trans (Cert.Kernel12Ideal.GdnGrad.final m c), (h c).2⟩) (Cert.Kernel12Ideal.Value.run_blocks m g),
    (θ_run (defs (F := Ideal)) _ _).mono (fun _ h c => ⟨(h c).1.trans (by
      rw [val_main_v6_eq, (same c).1, (same c).2]
      exact reference_gdn_dwin _ _), (h c).2⟩) (Cert.Reference12Ideal.Value.run m' g')⟩

end

/-! ## The input projection of the GDN mixer -/

section
open Cert.Reference13Ideal Cert.Reference13Ideal.Gen Cert.Reference13Ideal.Read

attribute [local instance] Cert.Kernel13Ideal.Gen.facts Cert.Reference13Ideal.Gen.facts

theorem reference_gdn_in (h : S4096x1024.Idx → EReal) (w : S1024x6400.Idx → EReal) :
    val_main_v2 (F := Ideal) h w = Product.nn (M := 4096) (K := 1024) (N := 6400) h w := by
  funext i
  rw [val_main_v2_apply]
  exact Finset.sum_congr rfl fun k _ => congrArg₂ (· * ·) (congrArg h (Product.eq_ix2 _)) (congrArg w (Product.eq_ix2 _))

theorem frame_gdn_in : Cert.quiescent_Reference13Ideal := fun m ρ _ =>
  (θ_run (defs (F := Ideal)) _ _).mono (fun r h => ⟨fun c => (h c).2, sem_eq_zero_of_no_sems (by decide) r.2⟩)
    (Cert.Reference13Ideal.Value.run m ρ)

theorem gdn_in : Cert.algebraic_Kernel13Ideal_Reference13Ideal := fun m g m' g' _ same =>
  ⟨fun c => Product.nn (M := 4096) (K := 1024) (N := 6400)
      (m ((c.tc : Thread Cert.Kernel13Ideal.nD Cert.Kernel13Ideal.τ).loc Cert.Kernel13Ideal.main_arg0))
      (m ((c.tc : Thread Cert.Kernel13Ideal.nD Cert.Kernel13Ideal.τ).loc Cert.Kernel13Ideal.main_arg1)),
    (θ_run (Cert.Kernel13Ideal.defs (F := Ideal)) _ _).mono
      (fun _ h c => ⟨(h c).1.trans (Cert.Kernel13Ideal.GdnIn.final m c), (h c).2⟩) (Cert.Kernel13Ideal.Value.run_blocks m g),
    (θ_run (defs (F := Ideal)) _ _).mono (fun _ h c => ⟨(h c).1.trans (by
      rw [val_main_v2_eq, (same c).1, (same c).2]
      exact reference_gdn_in _ _), (h c).2⟩) (Cert.Reference13Ideal.Value.run m' g')⟩

end

end Cert.Mixer

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.WordsRunMain
public import proofs.«01_k».proof.Proof.Equal
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Gen.Kernel13.Frame
public import proofs.«01_k».proof.Proof.Gen.Kernel14.Frame
public import proofs.«01_k».proof.Proof.Gen.Kernel15.Frame
public import proofs.«01_k».proof.Proof.Gen.Kernel16.Frame
public import proofs.«01_k».proof.Proof.Gen.Kernel17.Frame
public import proofs.«01_k».proof.Proof.Gen.Kernel18.Frame
public import proofs.«01_k».proof.Proof.Gen.Kernel19.Frame
public import proofs.«01_k».proof.Proof.Mlp
public import proofs.«01_k».proof.Proof.Layers
public import proofs.«01_k».proof.Proof.Projections
public import Idealize.ShloMosaic.Adequacy
public import Idealize.ShloMosaic.Init

@[expose] public section

noncomputable section

namespace Cert.Proof

open Idealize.ShloMosaic Idealize.SL.Sem Cert.Kernel

/-- The side conditions of the precondition's own operations. -/
theorem preFacts : Cert.Pre_finite.Facts where
  bcast_S_S4096x16x96 := by decide
  pads_S4096x16x64_S4096x16x96_000_000_0320 := by decide
  h_S_ := by decide

theorem claim : Cert.Claim := ⟨
  Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts, Cert.Kernel6.Gen.facts,
  Cert.Kernel6Ideal.Gen.facts, Cert.Reference6Ideal.Gen.facts, Cert.Kernel7.Gen.facts, Cert.Kernel7Ideal.Gen.facts,
  Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  preFacts,
  fun m ρ _ => Cert.Kernel.Body.frame_words m ρ,
  fun m ρ _ => Cert.KernelIdeal.Body.frame_ideal m ρ,
  fun m ρ _ => Cert.KernelIdeal.Body.frame_ideal m ρ,
  fun m ρ _ => Cert.Equal.reference_frame m ρ,
  fun m ρ _ => Cert.Equal.reference_frame m ρ,
  fun m ρ _ => Cert.Kernel2.Gen.frame m ρ, fun m ρ _ => Cert.Kernel2Ideal.Gen.frame m ρ, Cert.Mlp.frame_du,
  fun m ρ _ => Cert.Kernel3.Gen.frame m ρ, fun m ρ _ => Cert.Kernel3Ideal.Gen.frame m ρ, Cert.Mlp.frame_dh,
  fun m ρ _ => Cert.Kernel4.Gen.frame m ρ, fun m ρ _ => Cert.Kernel4Ideal.Gen.frame m ρ, Cert.Mlp.frame_dwdown,
  fun m ρ _ => Cert.Kernel5.Gen.frame m ρ, fun m ρ _ => Cert.Kernel5Ideal.Gen.frame m ρ, Cert.Mlp.frame_dwup,
  fun m ρ _ => Cert.Kernel6.Gen.frame m ρ, fun m ρ _ => Cert.Kernel6Ideal.Gen.frame m ρ, Cert.Mlp.frame_up,
  fun m ρ _ => Cert.Kernel7.Gen.frame m ρ, fun m ρ _ => Cert.Kernel7Ideal.Gen.frame m ρ, Cert.Mlp.frame_down,
  fun m ρ _ => Cert.Kernel8.Gen.frame m ρ, fun m ρ _ => Cert.Kernel8Ideal.Gen.frame m ρ, Cert.Mixer.frame_gla_dh,
  fun m ρ _ => Cert.Kernel9.Gen.frame m ρ, fun m ρ _ => Cert.Kernel9Ideal.Gen.frame m ρ, Cert.Mixer.frame_gla_dwin,
  fun m ρ _ => Cert.Kernel10.Gen.frame m ρ, fun m ρ _ => Cert.Kernel10Ideal.Gen.frame m ρ, Cert.Mixer.frame_gla_in,
  fun m ρ _ => Cert.Kernel11.Gen.frame m ρ, fun m ρ _ => Cert.Kernel11Ideal.Gen.frame m ρ, Cert.Mixer.frame_gdn_dh,
  fun m ρ _ => Cert.Kernel12.Gen.frame m ρ, fun m ρ _ => Cert.Kernel12Ideal.Gen.frame m ρ, Cert.Mixer.frame_gdn_dwin,
  fun m ρ _ => Cert.Kernel13.Gen.frame m ρ, fun m ρ _ => Cert.Kernel13Ideal.Gen.frame m ρ, Cert.Mixer.frame_gdn_in,
  fun m ρ _ => Cert.Kernel14.Gen.frame m ρ, fun m ρ _ => Cert.Kernel14Ideal.Gen.frame m ρ, Cert.Mlp.frame_dwdown1,
  fun m ρ _ => Cert.Kernel15.Gen.frame m ρ, fun m ρ _ => Cert.Kernel15Ideal.Gen.frame m ρ, Cert.Mlp.frame_dwup1,
  fun m ρ _ => Cert.Kernel16.Gen.frame m ρ, fun m ρ _ => Cert.Kernel16Ideal.Gen.frame m ρ, Cert.Mlp.frame_dwdown2,
  fun m ρ _ => Cert.Kernel17.Gen.frame m ρ, fun m ρ _ => Cert.Kernel17Ideal.Gen.frame m ρ, Cert.Mlp.frame_dwup2,
  fun m ρ _ => Cert.Kernel18.Gen.frame m ρ, fun m ρ _ => Cert.Kernel18Ideal.Gen.frame m ρ, Cert.Mlp.frame_dwdown3,
  fun m ρ _ => Cert.Kernel19.Gen.frame m ρ, fun m ρ _ => Cert.Kernel19Ideal.Gen.frame m ρ, Cert.Mlp.frame_dwup3,
  IdealRules.named_const.statement Cert.KernelIdeal.κ "mask" .f32 0xF149F2CA#32 ⊥ rfl,
  haveI := preFacts; Cert.Equal.algebraic,
  trivial, Cert.Mlp.du,
  trivial, Cert.Mlp.dh,
  trivial, Cert.Mlp.dwdown,
  trivial, Cert.Mlp.dwup,
  trivial, Cert.Mlp.up,
  trivial, Cert.Mlp.down,
  trivial, Cert.Mixer.gla_dh,
  trivial, Cert.Mixer.gla_dwin,
  trivial, Cert.Mixer.gla_in,
  trivial, Cert.Mixer.gdn_dh,
  trivial, Cert.Mixer.gdn_dwin,
  trivial, Cert.Mixer.gdn_in,
  trivial, Cert.Mlp.dwdown1,
  trivial, Cert.Mlp.dwup1,
  trivial, Cert.Mlp.dwdown2,
  trivial, Cert.Mlp.dwup2,
  trivial, Cert.Mlp.dwdown3,
  trivial, Cert.Mlp.dwup3⟩

end Cert.Proof

end
